-- ==== Defs.lean ====
def Pre_Kernel [hPre_drawn : Cert.Pre_drawn.Facts] (m : (ℓ : Loc Cert.Kernel.nD Cert.Kernel.τ Cert.Kernel.sig) → Buf (Elt Bits) ℓ) : Prop :=
  ∀ c : Dev Cert.Kernel.nD,
    (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.1 = (fun _ => 1#1)
    ∧ (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.1 = (fun _ => 1#1)
    ∧ (Cert.Pre_drawn.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2.2 = (fun _ => 1#1)

def Pre_KernelIdeal [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_KernelIdeal_drawn_radii [hPre_drawn_radii : Cert.Pre_drawn_radii.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_radii.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_drawn_radii.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_drawn_radii.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_drawn_radii.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_drawn_radii.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_drawn_radii.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_radii [hPre_drawn_radii : Cert.Pre_drawn_radii.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_radii.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_drawn_radii.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_drawn_radii.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_drawn_radii.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_drawn_radii.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_drawn_radii.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] [hPre_drawn : Cert.Pre_drawn.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn_radii [hKernelIdeal : Cert.KernelIdeal.Facts] [hPre_drawn_radii : Cert.Pre_drawn_radii.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_radii m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn_radii [hReferenceIdeal : Cert.ReferenceIdeal.Facts] [hPre_drawn_radii : Cert.Pre_drawn_radii.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_radii m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_drawn_radii [hKernelIdeal : Cert.KernelIdeal.Facts] [hReferenceIdeal : Cert.ReferenceIdeal.Facts] [hPre_drawn_radii : Cert.Pre_drawn_radii.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_radii m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn : Cert.Pre_drawn.Facts) (hPre_drawn_radii : Cert.Pre_drawn_radii.Facts),
    quiescent_Kernel (hKernel := hKernel) (hPre_drawn := hPre_drawn)
    ∧ quiescent_KernelIdeal (hKernelIdeal := hKernelIdeal) (hPre_drawn := hPre_drawn)
    ∧ quiescent_KernelIdeal_pre_drawn_radii (hKernelIdeal := hKernelIdeal) (hPre_drawn_radii := hPre_drawn_radii)
    ∧ quiescent_ReferenceIdeal (hReferenceIdeal := hReferenceIdeal)
    ∧ quiescent_ReferenceIdeal_pre_drawn_radii (hReferenceIdeal := hReferenceIdeal) (hPre_drawn_radii := hPre_drawn_radii)
    ∧ preserves_Kernel_KernelIdeal
    ∧ algebraic_KernelIdeal_ReferenceIdeal_pre_drawn_radii (hKernelIdeal := hKernelIdeal) (hReferenceIdeal := hReferenceIdeal) (hPre_drawn_radii := hPre_drawn_radii)
-- ==== Pre_drawn.lean ====
abbrev S100000 : Shape := ⟨1, ![100000]⟩
abbrev S6400000x3 : Shape := ⟨2, ![6400000, 3]⟩
abbrev S6400000 : Shape := ⟨1, ![6400000]⟩
abbrev S2x100 : Shape := ⟨2, ![2, 100]⟩
abbrev S_ : Shape := ⟨0, ![]⟩

class Facts : Prop where
  bcast_S_S100000 : S_.BroadcastsInDim S100000 (![] : Fin 0 → Fin S100000.rank)
  bcast_S_S6400000 : S_.BroadcastsInDim S6400000 (![] : Fin 0 → Fin S6400000.rank)

variable [Facts]

def fn_part1 {F : FTy → Type} [FloatOps F] (main_arg4 : IVec S6400000 32) (main_arg5 : IVec S100000 32) (main_v4 : IVec S100000 1) (main_v9 : IVec S100000 1) (main_v14 : IVec S6400000 1) (main_v16 : IVec S6400000 1) : IVec S100000 1 × IVec S100000 1 × IVec S6400000 1 × IVec S6400000 1 × IVec S100000 1 :=
  let main_c_6 : IVec S_ 32 := constantI S_ 32 100000#32
  let main_v17 : IVec S6400000 32 := broadcastInDim S6400000 ![] bcast_S_S6400000 main_c_6
  let main_v18 : IVec S6400000 1 := cmpi .slt main_arg4 main_v17
  let main_v19 : IVec S6400000 1 := andi main_v16 main_v18
  let main_c_7 : IVec S_ 32 := constantI S_ 32 0#32
  let main_v20 : IVec S100000 32 := broadcastInDim S100000 ![] bcast_S_S100000 main_c_7
  let main_v21 : IVec S100000 1 := cmpi .sge main_arg5 main_v20
  let main_c_8 : IVec S_ 32 := constantI S_ 32 2#32
  let main_v22 : IVec S100000 32 := broadcastInDim S100000 ![] bcast_S_S100000 main_c_8
  let main_v23 : IVec S100000 1 := cmpi .slt main_arg5 main_v22
  let main_v24 : IVec S100000 1 := andi main_v21 main_v23
  (main_v4, main_v9, main_v14, main_v19, main_v24)

def fn {F : FTy → Type} [FloatOps F] (main_arg0 : IVec S100000 32) (main_arg1 : IVec S100000 32) (main_arg2 : FVec F S6400000x3 .f32) (main_arg3 : IVec S6400000 32) (main_arg4 : IVec S6400000 32) (main_arg5 : IVec S100000 32) (main_arg6 : FVec F S2x100 .f32) : IVec S100000 1 × IVec S100000 1 × IVec S6400000 1 × IVec S6400000 1 × IVec S100000 1 :=
  let main_c : IVec S_ 32 := constantI S_ 32 0#32
  let main_v0 : IVec S100000 32 := broadcastInDim S100000 ![] bcast_S_S100000 main_c
  let main_v1 : IVec S100000 1 := cmpi .sge main_arg0 main_v0
  let main_c_0 : IVec S_ 32 := constantI S_ 32 100#32
  let main_v2 : IVec S100000 32 := broadcastInDim S100000 ![] bcast_S_S100000 main_c_0
  let main_v3 : IVec S100000 1 := cmpi .slt main_arg0 main_v2
  let main_v4 : IVec S100000 1 := andi main_v1 main_v3
  let main_c_1 : IVec S_ 32 := constantI S_ 32 0#32
  let main_v5 : IVec S100000 32 := broadcastInDim S100000 ![] bcast_S_S100000 main_c_1
  let main_v6 : IVec S100000 1 := cmpi .sge main_arg1 main_v5
  let main_c_2 : IVec S_ 32 := constantI S_ 32 1024#32
  let main_v7 : IVec S100000 32 := broadcastInDim S100000 ![] bcast_S_S100000 main_c_2
  let main_v8 : IVec S100000 1 := cmpi .slt main_arg1 main_v7
  let main_v9 : IVec S100000 1 := andi main_v6 main_v8
  let main_c_3 : IVec S_ 32 := constantI S_ 32 0#32
  let main_v10 : IVec S6400000 32 := broadcastInDim S6400000 ![] bcast_S_S6400000 main_c_3
  let main_v11 : IVec S6400000 1 := cmpi .sge main_arg3 main_v10
  let main_c_4 : IVec S_ 32 := constantI S_ 32 100000#32
  let main_v12 : IVec S6400000 32 := broadcastInDim S6400000 ![] bcast_S_S6400000 main_c_4
  let main_v13 : IVec S6400000 1 := cmpi .slt main_arg3 main_v12
  let main_v14 : IVec S6400000 1 := andi main_v11 main_v13
  let main_c_5 : IVec S_ 32 := constantI S_ 32 0#32
  let main_v15 : IVec S6400000 32 := broadcastInDim S6400000 ![] bcast_S_S6400000 main_c_5
  let main_v16 : IVec S6400000 1 := cmpi .sge main_arg4 main_v15
  fn_part1 (F := F) main_arg4 main_arg5 main_v4 main_v9 main_v14 main_v16
-- ==== Pre_drawn_radii.lean ====
abbrev S100000 : Shape := ⟨1, ![100000]⟩
abbrev S6400000x3 : Shape := ⟨2, ![6400000, 3]⟩
abbrev S6400000 : Shape := ⟨1, ![6400000]⟩
abbrev S2x100 : Shape := ⟨2, ![2, 100]⟩
abbrev S_ : Shape := ⟨0, ![]⟩

class Facts : Prop where
  bcast_S_S100000 : S_.BroadcastsInDim S100000 (![] : Fin 0 → Fin S100000.rank)
  bcast_S_S6400000 : S_.BroadcastsInDim S6400000 (![] : Fin 0 → Fin S6400000.rank)
  bcast_S_S2x100 : S_.BroadcastsInDim S2x100 (![] : Fin 0 → Fin S2x100.rank)

variable [Facts]

def fn_part1 {F : FTy → Type} [FloatOps F] (main_arg4 : IVec S6400000 32) (main_arg5 : IVec S100000 32) (main_arg6 : FVec F S2x100 .f32) (main_v4 : IVec S100000 1) (main_v9 : IVec S100000 1) (main_v14 : IVec S6400000 1) (main_v16 : IVec S6400000 1) : IVec S100000 1 × IVec S100000 1 × IVec S6400000 1 × IVec S6400000 1 × IVec S100000 1 × IVec S2x100 1 :=
  let main_c_6 : IVec S_ 32 := constantI S_ 32 100000#32
  let main_v17 : IVec S6400000 32 := broadcastInDim S6400000 ![] bcast_S_S6400000 main_c_6
  let main_v18 : IVec S6400000 1 := cmpi .slt main_arg4 main_v17
  let main_v19 : IVec S6400000 1 := andi main_v16 main_v18
  let main_c_7 : IVec S_ 32 := constantI S_ 32 0#32
  let main_v20 : IVec S100000 32 := broadcastInDim S100000 ![] bcast_S_S100000 main_c_7
  let main_v21 : IVec S100000 1 := cmpi .sge main_arg5 main_v20
  let main_c_8 : IVec S_ 32 := constantI S_ 32 2#32
  let main_v22 : IVec S100000 32 := broadcastInDim S100000 ![] bcast_S_S100000 main_c_8
  let main_v23 : IVec S100000 1 := cmpi .slt main_arg5 main_v22
  let main_v24 : IVec S100000 1 := andi main_v21 main_v23
  let main_cst : FVec F S_ .f32 := constant S_ .f32 0x3F000000#32
  let main_v25 : FVec F S2x100 .f32 := broadcastInDim S2x100 ![] bcast_S_S2x100 main_cst
  let main_v26 : IVec S2x100 1 := cmpf .oge main_arg6 main_v25
  let main_cst_9 : FVec F S_ .f32 := constant S_ .f32 0x3FC00000#32
  let main_v27 : FVec F S2x100 .f32 := broadcastInDim S2x100 ![] bcast_S_S2x100 main_cst_9
  let main_v28 : IVec S2x100 1 := cmpf .ole main_arg6 main_v27
  let main_v29 : IVec S2x100 1 := andi main_v26 main_v28
  (main_v4, main_v9, main_v14, main_v19, main_v24, main_v29)

def fn {F : FTy → Type} [FloatOps F] (main_arg0 : IVec S100000 32) (main_arg1 : IVec S100000 32) (main_arg2 : FVec F S6400000x3 .f32) (main_arg3 : IVec S6400000 32) (main_arg4 : IVec S6400000 32) (main_arg5 : IVec S100000 32) (main_arg6 : FVec F S2x100 .f32) : IVec S100000 1 × IVec S100000 1 × IVec S6400000 1 × IVec S6400000 1 × IVec S100000 1 × IVec S2x100 1 :=
  let main_c : IVec S_ 32 := constantI S_ 32 0#32
  let main_v0 : IVec S100000 32 := broadcastInDim S100000 ![] bcast_S_S100000 main_c
  let main_v1 : IVec S100000 1 := cmpi .sge main_arg0 main_v0
  let main_c_0 : IVec S_ 32 := constantI S_ 32 100#32
  let main_v2 : IVec S100000 32 := broadcastInDim S100000 ![] bcast_S_S100000 main_c_0
  let main_v3 : IVec S100000 1 := cmpi .slt main_arg0 main_v2
  let main_v4 : IVec S100000 1 := andi main_v1 main_v3
  let main_c_1 : IVec S_ 32 := constantI S_ 32 0#32
  let main_v5 : IVec S100000 32 := broadcastInDim S100000 ![] bcast_S_S100000 main_c_1
  let main_v6 : IVec S100000 1 := cmpi .sge main_arg1 main_v5
  let main_c_2 : IVec S_ 32 := constantI S_ 32 1024#32
  let main_v7 : IVec S100000 32 := broadcastInDim S100000 ![] bcast_S_S100000 main_c_2
  let main_v8 : IVec S100000 1 := cmpi .slt main_arg1 main_v7
  let main_v9 : IVec S100000 1 := andi main_v6 main_v8
  let main_c_3 : IVec S_ 32 := constantI S_ 32 0#32
  let main_v10 : IVec S6400000 32 := broadcastInDim S6400000 ![] bcast_S_S6400000 main_c_3
  let main_v11 : IVec S6400000 1 := cmpi .sge main_arg3 main_v10
  let main_c_4 : IVec S_ 32 := constantI S_ 32 100000#32
  let main_v12 : IVec S6400000 32 := broadcastInDim S6400000 ![] bcast_S_S6400000 main_c_4
  let main_v13 : IVec S6400000 1 := cmpi .slt main_arg3 main_v12
  let main_v14 : IVec S6400000 1 := andi main_v11 main_v13
  let main_c_5 : IVec S_ 32 := constantI S_ 32 0#32
  let main_v15 : IVec S6400000 32 := broadcastInDim S6400000 ![] bcast_S_S6400000 main_c_5
  let main_v16 : IVec S6400000 1 := cmpi .sge main_arg4 main_v15
  fn_part1 (F := F) main_arg4 main_arg5 main_arg6 main_v4 main_v9 main_v14 main_v16
-- ==== Kernel.lean ====
abbrev S100000 : Shape := ⟨1, ![100000]⟩
abbrev S6400000x3 : Shape := ⟨2, ![6400000, 3]⟩
abbrev S6400000 : Shape := ⟨1, ![6400000]⟩
abbrev S2x100 : Shape := ⟨2, ![2, 100]⟩
abbrev S_ : Shape := ⟨0, ![]⟩
abbrev S100352 : Shape := ⟨1, ![100352]⟩
abbrev S200 : Shape := ⟨1, ![200]⟩
abbrev S3136 : Shape := ⟨1, ![3136]⟩
abbrev S16 : Shape := ⟨1, ![16]⟩
abbrev S3x6400000 : Shape := ⟨2, ![3, 6400000]⟩
abbrev S3x51200 : Shape := ⟨2, ![3, 51200]⟩
abbrev S51200 : Shape := ⟨1, ![51200]⟩
abbrev S1x51200 : Shape := ⟨2, ![1, 51200]⟩
abbrev S32x1024 : Shape := ⟨2, ![32, 1024]⟩
abbrev S16x1024 : Shape := ⟨2, ![16, 1024]⟩
abbrev S2000 : Shape := ⟨1, ![2000]⟩
abbrev S1024 : Shape := ⟨1, ![1024]⟩
abbrev S1x16 : Shape := ⟨2, ![1, 16]⟩
abbrev S1x1024 : Shape := ⟨2, ![1, 1024]⟩

abbrev nBuf : Table → Nat
  | .hbm => 22
  | .local .tc .vmem => 6
  | .local .scVector .vmem => 14
  | _ => 0

abbrev bufTy : (tb : Table) → Fin (nBuf tb) → BufTy
  | .hbm, ⟨0, _⟩ => ⟨S100000, .i32⟩
  | .hbm, ⟨1, _⟩ => ⟨S100000, .i32⟩
  | .hbm, ⟨2, _⟩ => ⟨S6400000x3, .f32⟩
  | .hbm, ⟨3, _⟩ => ⟨S6400000, .i32⟩
  | .hbm, ⟨4, _⟩ => ⟨S6400000, .i32⟩
  | .hbm, ⟨5, _⟩ => ⟨S100000, .i32⟩
  | .hbm, ⟨6, _⟩ => ⟨S2x100, .f32⟩
  | .hbm, ⟨7, _⟩ => ⟨S_, .i32⟩
  | .hbm, ⟨8, _⟩ => ⟨S_, .i32⟩
  | .hbm, ⟨9, _⟩ => ⟨S100352, .i32⟩
  | .hbm, ⟨10, _⟩ => ⟨S_, .i32⟩
  | .hbm, ⟨11, _⟩ => ⟨S_, .i32⟩
  | .hbm, ⟨12, _⟩ => ⟨S100352, .i32⟩
  | .hbm, ⟨13, _⟩ => ⟨S_, .i32⟩
  | .hbm, ⟨14, _⟩ => ⟨S_, .i32⟩
  | .hbm, ⟨15, _⟩ => ⟨S100352, .i32⟩
  | .hbm, ⟨16, _⟩ => ⟨S200, .f32⟩
  | .hbm, ⟨17, _⟩ => ⟨S100352, .i32⟩
  | .hbm, ⟨18, _⟩ => ⟨S3x6400000, .f32⟩
  | .hbm, ⟨19, _⟩ => ⟨S6400000, .f32⟩
  | .hbm, ⟨20, _⟩ => ⟨S32x1024, .f32⟩
  | .hbm, ⟨21, _⟩ => ⟨S1024, .f32⟩
  | .local .tc .vmem, ⟨0, _⟩ => ⟨S3x51200, .f32⟩
  | .local .tc .vmem, ⟨1, _⟩ => ⟨S3x51200, .f32⟩
  | .local .tc .vmem, ⟨2, _⟩ => ⟨S51200, .f32⟩
  | .local .tc .vmem, ⟨3, _⟩ => ⟨S51200, .f32⟩
  | .local .tc .vmem, ⟨4, _⟩ => ⟨S32x1024, .f32⟩
  | .local .tc .vmem, ⟨5, _⟩ => ⟨S1024, .f32⟩
  | .local .scVector .vmem, ⟨0, _⟩ => ⟨S3136, .i32⟩
  | .local .scVector .vmem, ⟨1, _⟩ => ⟨S3136, .i32⟩
  | .local .scVector .vmem, ⟨2, _⟩ => ⟨S3136, .i32⟩
  | .local .scVector .vmem, ⟨3, _⟩ => ⟨S200, .f32⟩
  | .local .scVector .vmem, ⟨4, _⟩ => ⟨S3136, .i32⟩
  | .local .scVector .vmem, ⟨5, _⟩ => ⟨S100352, .i32⟩
  | .local .scVector .vmem, ⟨6, _⟩ => ⟨S16x1024, .f32⟩
  | .local .scVector .vmem, ⟨7, _⟩ => ⟨S2000, .i32⟩
  | .local .scVector .vmem, ⟨8, _⟩ => ⟨S2000, .i32⟩
  | .local .scVector .vmem, ⟨9, _⟩ => ⟨S2000, .f32⟩
  | .local .scVector .vmem, ⟨10, _⟩ => ⟨S2000, .i32⟩
  | .local .scVector .vmem, ⟨11, _⟩ => ⟨S2000, .i32⟩
  | .local .scVector .vmem, ⟨12, _⟩ => ⟨S2000, .f32⟩
  | .local .scVector .vmem, ⟨13, _⟩ => ⟨S1024, .f32⟩
  | _, _ => ⟨S100000, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_c_1 : Ref sig .tc := ⟨.hbm, 13, rfl⟩
abbrev main_call2_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v0_scv : Ref sig .scVector := ⟨.hbm, 9, rfl⟩
abbrev main_v1_scv : Ref sig .scVector := ⟨.hbm, 12, rfl⟩
abbrev main_v2_scv : Ref sig .scVector := ⟨.hbm, 15, rfl⟩
abbrev main_v3_scv : Ref sig .scVector := ⟨.hbm, 16, rfl⟩
abbrev main_v4_scv : Ref sig .scVector := ⟨.hbm, 17, rfl⟩
abbrev main_arg3_scv : Ref sig .scVector := ⟨.hbm, 3, rfl⟩
abbrev main_arg4_scv : Ref sig .scVector := ⟨.hbm, 4, rfl⟩
abbrev main_v6_scv : Ref sig .scVector := ⟨.hbm, 19, rfl⟩
abbrev main_v7_scv : Ref sig .scVector := ⟨.hbm, 20, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc3_stg0_0 : Ref sig .tc := ⟨.vmem, 4, rfl⟩
abbrev cc3_stg1_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc2_scratch0 : Ref sig .scVector := ⟨.vmem, 5, rfl⟩
abbrev cc2_scratch1 : Ref sig .scVector := ⟨.vmem, 6, rfl⟩
abbrev cc2_scratch2 : Ref sig .scVector := ⟨.vmem, 7, rfl⟩
abbrev cc2_scratch3 : Ref sig .scVector := ⟨.vmem, 8, rfl⟩
abbrev cc2_scratch4 : Ref sig .scVector := ⟨.vmem, 9, rfl⟩
abbrev cc2_scratch5 : Ref sig .scVector := ⟨.vmem, 10, rfl⟩
abbrev cc2_scratch6 : Ref sig .scVector := ⟨.vmem, 11, rfl⟩
abbrev cc2_scratch7 : Ref sig .scVector := ⟨.vmem, 12, rfl⟩
abbrev cc2_scratch8 : Ref sig .scVector := ⟨.vmem, 13, rfl⟩
abbrev cc1_sem0_0 : DmaSem sig := 5
abbrev cc1_sem0_1 : DmaSem sig := 6
abbrev cc1_sem1_0 : DmaSem sig := 7
abbrev cc1_sem1_1 : DmaSem sig := 8
abbrev cc3_sem0_0 : DmaSem sig := 13
abbrev cc3_sem1_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
@[reducible] def k0_t1_loop : Scf.Loop 32 :=
  let c0_i32 : BitVec 32 := 0#32
  let c196_i32 : BitVec 32 := 196#32
  let v3 : BitVec 32 := Scalar.addi c0_i32 c196_i32
  let c1_i32 : BitVec 32 := 1#32
  ⟨c0_i32, v3, c1_i32⟩
def k0_off2 (k0_t1 : Fin k0_t1_loop.trips) : Fin 1 → Nat :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v4 : BitVec 32 := Scalar.muli arg12 c1_i32_1
  let v5 : BitVec 32 := Scalar.addi c0_i32_2 v4
  let c16_i32 : BitVec 32 := 16#32
  let v6 : BitVec 32 := Scalar.muli v5 c16_i32
  let v7 : Index := Scalar.indexCast v6
  ![v7.toNat]

def k0_chk1 (v15 : IVec S16 32) : Prop :=
  (∀ a x, ((![v15] : Fin 1 → IVec S16 32) a x).toNat < S200.size a)
theorem k0_idx1_inb : ∀ (v15 : IVec S16 32) (k0_hw1 : k0_chk1 v15), ∀ a x, ((![v15] : Fin 1 → IVec S16 32) a x).toNat < S200.size a := fun v15 k0_hw1 => k0_hw1
def k0_off3 (k0_t1 : Fin k0_t1_loop.trips) : Fin 1 → Nat :=
  let c0_i32_2 : BitVec 32 := 0#32
  let c0_i32 : BitVec 32 := 0#32
  let c1_i32 : BitVec 32 := 1#32
  let arg12 : BitVec 32 := Scf.iv c0_i32 c1_i32 k0_t1
  let c1_i32_1 : BitVec 32 := 1#32
  let v4 : BitVec 32 := Scalar.muli arg12 c1_i32_1
  let v5 : BitVec 32 := Scalar.addi c0_i32_2 v4
  let c16_i32 : BitVec 32 := 16#32
  let v6 : BitVec 32 := Scalar.muli v5 c16_i32
  let v25 : Index := Scalar.indexCast v6
  ![v25.toNat]
abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S3x51200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S51200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

@[reducible] def k2_t1_loop : Scf.Loop 32 :=
  let c0_i32 : BitVec 32 := 0#32
  let c64_i32 : BitVec 32 := 64#32
  let v5 : BitVec 32 := Scalar.addi c0_i32 c64_i32
  let c1_i32 : BitVec 32 := 1#32
  ⟨c0_i32, v5, c1_i32⟩
def k2_off1 (k2_t1 : Fin k2_t1_loop.trips) : Fin 2 → Nat :=
  let c0_i32_14 : BitVec 32 := 0#32
  let v21 : Index := Scalar.indexCast c0_i32_14
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v22 : Index := Scalar.indexCast v20
  ![0, v22.toNat]
def k2_off2 (k2_t1 : Fin k2_t1_loop.trips) : Fin 2 → Nat :=
  let c1_i32_15 : BitVec 32 := 1#32
  let v24 : Index := Scalar.indexCast c1_i32_15
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v25 : Index := Scalar.indexCast v20
  ![1, v25.toNat]
def k2_off3 (k2_t1 : Fin k2_t1_loop.trips) : Fin 2 → Nat :=
  let c2_i32_16 : BitVec 32 := 2#32
  let v27 : Index := Scalar.indexCast c2_i32_16
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v28 : Index := Scalar.indexCast v20
  ![2, v28.toNat]
def k2_off4 (k2_t1 : Fin k2_t1_loop.trips) : Fin 2 → Nat :=
  let c3_i32 : BitVec 32 := 3#32
  let v30 : Index := Scalar.indexCast c3_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v31 : Index := Scalar.indexCast v20
  ![3, v31.toNat]
def k2_off5 (k2_t1 : Fin k2_t1_loop.trips) : Fin 2 → Nat :=
  let c4_i32 : BitVec 32 := 4#32
  let v33 : Index := Scalar.indexCast c4_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v34 : Index := Scalar.indexCast v20
  ![4, v34.toNat]
def k2_off6 (k2_t1 : Fin k2_t1_loop.trips) : Fin 2 → Nat :=
  let c5_i32 : BitVec 32 := 5#32
  let v36 : Index := Scalar.indexCast c5_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v37 : Index := Scalar.indexCast v20
  ![5, v37.toNat]
def k2_off7 (k2_t1 : Fin k2_t1_loop.trips) : Fin 2 → Nat :=
  let c6_i32 : BitVec 32 := 6#32
  let v39 : Index := Scalar.indexCast c6_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v40 : Index := Scalar.indexCast v20
  ![6, v40.toNat]
def k2_off8 (k2_t1 : Fin k2_t1_loop.trips) : Fin 2 → Nat :=
  let c7_i32 : BitVec 32 := 7#32
  let v42 : Index := Scalar.indexCast c7_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v43 : Index := Scalar.indexCast v20
  ![7, v43.toNat]
def k2_off9 (k2_t1 : Fin k2_t1_loop.trips) : Fin 2 → Nat :=
  let c8_i32 : BitVec 32 := 8#32
  let v45 : Index := Scalar.indexCast c8_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v46 : Index := Scalar.indexCast v20
  ![8, v46.toNat]
def k2_off10 (k2_t1 : Fin k2_t1_loop.trips) : Fin 2 → Nat :=
  let c9_i32 : BitVec 32 := 9#32
  let v48 : Index := Scalar.indexCast c9_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v49 : Index := Scalar.indexCast v20
  ![9, v49.toNat]
def k2_off11 (k2_t1 : Fin k2_t1_loop.trips) : Fin 2 → Nat :=
  let c10_i32 : BitVec 32 := 10#32
  let v51 : Index := Scalar.indexCast c10_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v52 : Index := Scalar.indexCast v20
  ![10, v52.toNat]
def k2_off12 (k2_t1 : Fin k2_t1_loop.trips) : Fin 2 → Nat :=
  let c11_i32 : BitVec 32 := 11#32
  let v54 : Index := Scalar.indexCast c11_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v55 : Index := Scalar.indexCast v20
  ![11, v55.toNat]
def k2_off13 (k2_t1 : Fin k2_t1_loop.trips) : Fin 2 → Nat :=
  let c12_i32 : BitVec 32 := 12#32
  let v57 : Index := Scalar.indexCast c12_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v58 : Index := Scalar.indexCast v20
  ![12, v58.toNat]
def k2_off14 (k2_t1 : Fin k2_t1_loop.trips) : Fin 2 → Nat :=
  let c13_i32 : BitVec 32 := 13#32
  let v60 : Index := Scalar.indexCast c13_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v61 : Index := Scalar.indexCast v20
  ![13, v61.toNat]
def k2_off15 (k2_t1 : Fin k2_t1_loop.trips) : Fin 2 → Nat :=
  let c14_i32 : BitVec 32 := 14#32
  let v63 : Index := Scalar.indexCast c14_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v64 : Index := Scalar.indexCast v20
  ![14, v64.toNat]
def k2_off16 (k2_t1 : Fin k2_t1_loop.trips) : Fin 2 → Nat :=
  let c15_i32 : BitVec 32 := 15#32
  let v66 : Index := Scalar.indexCast c15_i32
  let c0_i32_13 : BitVec 32 := 0#32
  let c0_i32 : BitVec 32 := 0#32
  let c1_i32 : BitVec 32 := 1#32
  let arg18 : BitVec 32 := Scf.iv c0_i32 c1_i32 k2_t1
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v67 : Index := Scalar.indexCast v20
  ![15, v67.toNat]
def k2_off17 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c0_i32_2 : BitVec 32 := 0#32
  let v7 : BitVec 32 := Scalar.addi v2 c0_i32_2
  ![v7.toNat]
@[reducible] def k2_t2_loop : Scf.Loop 32 :=
  let c0_i32_5 : BitVec 32 := 0#32
  let c50_i32 : BitVec 32 := 50#32
  let v16 : BitVec 32 := Scalar.addi c0_i32_5 c50_i32
  let c1_i32_6 : BitVec 32 := 1#32
  ⟨c0_i32_5, v16, c1_i32_6⟩
def k2_off18 (i : grid2.Coords) (k2_t2 : Fin k2_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c0_i32_13 : BitVec 32 := 0#32
  let c0_i32_5 : BitVec 32 := 0#32
  let c1_i32_6 : BitVec 32 := 1#32
  let arg18 : BitVec 32 := Scf.iv c0_i32_5 c1_i32_6 k2_t2
  let c2_i32_12 : BitVec 32 := 2#32
  let v18 : BitVec 32 := Scalar.muli arg18 c2_i32_12
  let v19 : BitVec 32 := Scalar.addi c0_i32_13 v18
  let c1_i32_14 : BitVec 32 := 1#32
  let v20 : BitVec 32 := Scalar.addi v19 c1_i32_14
  let c2000_i32 : BitVec 32 := 2000#32
  let v21 : BitVec 32 := Scalar.muli v20 c2000_i32
  let v22 : BitVec 32 := Scalar.addi v2 v21
  ![v22.toNat]
@[reducible] def k2_t3_loop : Scf.Loop 32 :=
  let c0_i32_21 : BitVec 32 := 0#32
  let c125_i32 : BitVec 32 := 125#32
  let v37 : BitVec 32 := Scalar.addi c0_i32_21 c125_i32
  let c1_i32_22 : BitVec 32 := 1#32
  ⟨c0_i32_21, v37, c1_i32_22⟩
def k2_off19 (k2_t3 : Fin k2_t3_loop.trips) : Fin 1 → Nat :=
  let c0_i32_37 : BitVec 32 := 0#32
  let c0_i32_21 : BitVec 32 := 0#32
  let c1_i32_22 : BitVec 32 := 1#32
  let arg19 : BitVec 32 := Scf.iv c0_i32_21 c1_i32_22 k2_t3
  let c1_i32_36 : BitVec 32 := 1#32
  let v49 : BitVec 32 := Scalar.muli arg19 c1_i32_36
  let v50 : BitVec 32 := Scalar.addi c0_i32_37 v49
  let c16_i32 : BitVec 32 := 16#32
  let v51 : BitVec 32 := Scalar.muli v50 c16_i32
  let v52 : Index := Scalar.indexCast v51
  ![v52.toNat]

def k2_chk1 (v53 : IVec S16 32) : Prop :=
  (∀ a x, ((![v53] : Fin 1 → IVec S16 32) a x).toNat < S100352.size a)
theorem k2_idx1_inb : ∀ (v53 : IVec S16 32) (k2_hw1 : k2_chk1 v53), ∀ a x, ((![v53] : Fin 1 → IVec S16 32) a x).toNat < S100352.size a := fun v53 k2_hw1 => k2_hw1

def k2_chk2 (v55 : IVec S16 32) : Prop :=
  (∀ a x, ((![v55] : Fin 1 → IVec S16 32) a x).toNat < S100352.size a)
theorem k2_idx2_inb : ∀ (v55 : IVec S16 32) (k2_hw2 : k2_chk2 v55), ∀ a x, ((![v55] : Fin 1 → IVec S16 32) a x).toNat < S100352.size a := fun v55 k2_hw2 => k2_hw2

def k2_chk3 (v6 : IVec S16 32) (v61 : IVec S16 32) : Prop :=
  (∀ a x, ((![v6, v61] : Fin 2 → IVec S16 32) a x).toNat < S16x1024.size a)
theorem k2_idx3_inb : ∀ (v6 : IVec S16 32) (v61 : IVec S16 32) (k2_hw3 : k2_chk3 v6 v61), ∀ a x, ((![v6, v61] : Fin 2 → IVec S16 32) a x).toNat < S16x1024.size a := fun v6 v61 k2_hw3 => k2_hw3
def k2_cond1 (k2_t2 : Fin k2_t2_loop.trips) : BitVec 1 :=
  let c0_i32_13 : BitVec 32 := 0#32
  let c0_i32_5 : BitVec 32 := 0#32
  let c1_i32_6 : BitVec 32 := 1#32
  let arg18 : BitVec 32 := Scf.iv c0_i32_5 c1_i32_6 k2_t2
  let c2_i32_12 : BitVec 32 := 2#32
  let v18 : BitVec 32 := Scalar.muli arg18 c2_i32_12
  let v19 : BitVec 32 := Scalar.addi c0_i32_13 v18
  let c2_i32_24 : BitVec 32 := 2#32
  let v38 : BitVec 32 := Scalar.addi v19 c2_i32_24
  let c100_i32 : BitVec 32 := 100#32
  let v39 : BitVec 1 := Scalar.cmpi .slt v38 c100_i32
  let v40 : BitVec 32 := Scalar.extui v39
  let c0_i32_25 : BitVec 32 := 0#32
  let v41 : BitVec 1 := Scalar.cmpi .ne v40 c0_i32_25
  v41

def k2_off20 (i : grid2.Coords) (k2_t2 : Fin k2_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200000_i32 : BitVec 32 := 200000#32
  let v2 : BitVec 32 := Scalar.muli v1 c200000_i32
  let c0_i32_13 : BitVec 32 := 0#32
  let c0_i32_5 : BitVec 32 := 0#32
  let c1_i32_6 : BitVec 32 := 1#32
  let arg18 : BitVec 32 := Scf.iv c0_i32_5 c1_i32_6 k2_t2
  let c2_i32_12 : BitVec 32 := 2#32
  let v18 : BitVec 32 := Scalar.muli arg18 c2_i32_12
  let v19 : BitVec 32 := Scalar.addi c0_i32_13 v18
  let c2_i32_36 : BitVec 32 := 2#32
  let v49 : BitVec 32 := Scalar.addi v19 c2_i32_36
  let c2000_i32_37 : BitVec 32 := 2000#32
  let v50 : BitVec 32 := Scalar.muli v49 c2000_i32_37
  let v51 : BitVec 32 := Scalar.addi v2 v50
  ![v51.toNat]
@[reducible] def k2_t4_loop : Scf.Loop 32 :=
  let c0_i32_32 : BitVec 32 := 0#32
  let c125_i32_33 : BitVec 32 := 125#32
  let v48 : BitVec 32 := Scalar.addi c0_i32_32 c125_i32_33
  let c1_i32_34 : BitVec 32 := 1#32
  ⟨c0_i32_32, v48, c1_i32_34⟩
def k2_off21 (k2_t4 : Fin k2_t4_loop.trips) : Fin 1 → Nat :=
  let c0_i32_37 : BitVec 32 := 0#32
  let c0_i32_32 : BitVec 32 := 0#32
  let c1_i32_34 : BitVec 32 := 1#32
  let arg19 : BitVec 32 := Scf.iv c0_i32_32 c1_i32_34 k2_t4
  let c1_i32_36 : BitVec 32 := 1#32
  let v49 : BitVec 32 := Scalar.muli arg19 c1_i32_36
  let v50 : BitVec 32 := Scalar.addi c0_i32_37 v49
  let c16_i32 : BitVec 32 := 16#32
  let v51 : BitVec 32 := Scalar.muli v50 c16_i32
  let v52 : Index := Scalar.indexCast v51
  ![v52.toNat]

def k2_chk4 (v53 : IVec S16 32) : Prop :=
  (∀ a x, ((![v53] : Fin 1 → IVec S16 32) a x).toNat < S100352.size a)
theorem k2_idx4_inb : ∀ (v53 : IVec S16 32) (k2_hw4 : k2_chk4 v53), ∀ a x, ((![v53] : Fin 1 → IVec S16 32) a x).toNat < S100352.size a := fun v53 k2_hw4 => k2_hw4

def k2_chk5 (v55 : IVec S16 32) : Prop :=
  (∀ a x, ((![v55] : Fin 1 → IVec S16 32) a x).toNat < S100352.size a)
theorem k2_idx5_inb : ∀ (v55 : IVec S16 32) (k2_hw5 : k2_chk5 v55), ∀ a x, ((![v55] : Fin 1 → IVec S16 32) a x).toNat < S100352.size a := fun v55 k2_hw5 => k2_hw5

def k2_chk6 (v6 : IVec S16 32) (v61 : IVec S16 32) : Prop :=
  (∀ a x, ((![v6, v61] : Fin 2 → IVec S16 32) a x).toNat < S16x1024.size a)
theorem k2_idx6_inb : ∀ (v6 : IVec S16 32) (v61 : IVec S16 32) (k2_hw6 : k2_chk6 v6 v61), ∀ a x, ((![v6, v61] : Fin 2 → IVec S16 32) a x).toNat < S16x1024.size a := fun v6 v61 k2_hw6 => k2_hw6
@[reducible] def k2_t5_loop : Scf.Loop 32 :=
  let c0_i32_8 : BitVec 32 := 0#32
  let c64_i32_9 : BitVec 32 := 64#32
  let v17 : BitVec 32 := Scalar.addi c0_i32_8 c64_i32_9
  let c1_i32_10 : BitVec 32 := 1#32
  ⟨c0_i32_8, v17, c1_i32_10⟩
def k2_off22 (k2_t5 : Fin k2_t5_loop.trips) : Fin 2 → Nat :=
  let c0_i32_14 : BitVec 32 := 0#32
  let v21 : Index := Scalar.indexCast c0_i32_14
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v22 : Index := Scalar.indexCast v20
  ![0, v22.toNat]
def k2_off23 (k2_t5 : Fin k2_t5_loop.trips) : Fin 2 → Nat :=
  let c1_i32_15 : BitVec 32 := 1#32
  let v24 : Index := Scalar.indexCast c1_i32_15
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v25 : Index := Scalar.indexCast v20
  ![1, v25.toNat]
def k2_off24 (k2_t5 : Fin k2_t5_loop.trips) : Fin 2 → Nat :=
  let c2_i32_16 : BitVec 32 := 2#32
  let v28 : Index := Scalar.indexCast c2_i32_16
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v29 : Index := Scalar.indexCast v20
  ![2, v29.toNat]
def k2_off25 (k2_t5 : Fin k2_t5_loop.trips) : Fin 2 → Nat :=
  let c3_i32 : BitVec 32 := 3#32
  let v32 : Index := Scalar.indexCast c3_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v33 : Index := Scalar.indexCast v20
  ![3, v33.toNat]
def k2_off26 (k2_t5 : Fin k2_t5_loop.trips) : Fin 2 → Nat :=
  let c4_i32 : BitVec 32 := 4#32
  let v36 : Index := Scalar.indexCast c4_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v37 : Index := Scalar.indexCast v20
  ![4, v37.toNat]
def k2_off27 (k2_t5 : Fin k2_t5_loop.trips) : Fin 2 → Nat :=
  let c5_i32 : BitVec 32 := 5#32
  let v40 : Index := Scalar.indexCast c5_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v41 : Index := Scalar.indexCast v20
  ![5, v41.toNat]
def k2_off28 (k2_t5 : Fin k2_t5_loop.trips) : Fin 2 → Nat :=
  let c6_i32 : BitVec 32 := 6#32
  let v44 : Index := Scalar.indexCast c6_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v45 : Index := Scalar.indexCast v20
  ![6, v45.toNat]
def k2_off29 (k2_t5 : Fin k2_t5_loop.trips) : Fin 2 → Nat :=
  let c7_i32 : BitVec 32 := 7#32
  let v48 : Index := Scalar.indexCast c7_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v49 : Index := Scalar.indexCast v20
  ![7, v49.toNat]
def k2_off30 (k2_t5 : Fin k2_t5_loop.trips) : Fin 2 → Nat :=
  let c8_i32 : BitVec 32 := 8#32
  let v52 : Index := Scalar.indexCast c8_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v53 : Index := Scalar.indexCast v20
  ![8, v53.toNat]
def k2_off31 (k2_t5 : Fin k2_t5_loop.trips) : Fin 2 → Nat :=
  let c9_i32 : BitVec 32 := 9#32
  let v56 : Index := Scalar.indexCast c9_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v57 : Index := Scalar.indexCast v20
  ![9, v57.toNat]
def k2_off32 (k2_t5 : Fin k2_t5_loop.trips) : Fin 2 → Nat :=
  let c10_i32 : BitVec 32 := 10#32
  let v60 : Index := Scalar.indexCast c10_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v61 : Index := Scalar.indexCast v20
  ![10, v61.toNat]
def k2_off33 (k2_t5 : Fin k2_t5_loop.trips) : Fin 2 → Nat :=
  let c11_i32 : BitVec 32 := 11#32
  let v64 : Index := Scalar.indexCast c11_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v65 : Index := Scalar.indexCast v20
  ![11, v65.toNat]
def k2_off34 (k2_t5 : Fin k2_t5_loop.trips) : Fin 2 → Nat :=
  let c12_i32 : BitVec 32 := 12#32
  let v68 : Index := Scalar.indexCast c12_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v69 : Index := Scalar.indexCast v20
  ![12, v69.toNat]
def k2_off35 (k2_t5 : Fin k2_t5_loop.trips) : Fin 2 → Nat :=
  let c13_i32 : BitVec 32 := 13#32
  let v72 : Index := Scalar.indexCast c13_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v73 : Index := Scalar.indexCast v20
  ![13, v73.toNat]
def k2_off36 (k2_t5 : Fin k2_t5_loop.trips) : Fin 2 → Nat :=
  let c14_i32 : BitVec 32 := 14#32
  let v76 : Index := Scalar.indexCast c14_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v77 : Index := Scalar.indexCast v20
  ![14, v77.toNat]
def k2_off37 (k2_t5 : Fin k2_t5_loop.trips) : Fin 2 → Nat :=
  let c15_i32 : BitVec 32 := 15#32
  let v80 : Index := Scalar.indexCast c15_i32
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v81 : Index := Scalar.indexCast v20
  ![15, v81.toNat]
def k2_off38 (k2_t5 : Fin k2_t5_loop.trips) : Fin 1 → Nat :=
  let c0_i32_13 : BitVec 32 := 0#32
  let c0_i32_8 : BitVec 32 := 0#32
  let c1_i32_10 : BitVec 32 := 1#32
  let arg18 : BitVec 32 := Scf.iv c0_i32_8 c1_i32_10 k2_t5
  let c1_i32_12 : BitVec 32 := 1#32
  let v18 : BitVec 32 := Scalar.muli arg18 c1_i32_12
  let v19 : BitVec 32 := Scalar.addi c0_i32_13 v18
  let c16_i32 : BitVec 32 := 16#32
  let v20 : BitVec 32 := Scalar.muli v19 c16_i32
  let v84 : Index := Scalar.indexCast v20
  ![v84.toNat]
def k2_off39 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12_r1 : BitVec 32 := 0#32
  ![v1.toNat, 0]
abbrev grid3 : Pipeline.Grid := .none

abbrev stage3_0 : Fin 1 → Memref sig .tc .vmem S32x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S100000 : Shape := ⟨1, ![100000]⟩
abbrev S6400000x3 : Shape := ⟨2, ![6400000, 3]⟩
abbrev S6400000 : Shape := ⟨1, ![6400000]⟩
abbrev S2x100 : Shape := ⟨2, ![2, 100]⟩
abbrev S_ : Shape := ⟨0, ![]⟩
abbrev S6400000x1 : Shape := ⟨2, ![6400000, 1]⟩
abbrev S6400000x2 : Shape := ⟨2, ![6400000, 2]⟩
abbrev S1024 : Shape := ⟨1, ![1024]⟩
abbrev S100000x1 : Shape := ⟨2, ![100000, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000, .i32⟩
  | .hbm, ⟨1, _⟩ => ⟨S100000, .i32⟩
  | .hbm, ⟨2, _⟩ => ⟨S6400000x3, .f32⟩
  | .hbm, ⟨3, _⟩ => ⟨S6400000, .i32⟩
  | .hbm, ⟨4, _⟩ => ⟨S6400000, .i32⟩
  | .hbm, ⟨5, _⟩ => ⟨S100000, .i32⟩
  | .hbm, ⟨6, _⟩ => ⟨S2x100, .f32⟩
  | .hbm, ⟨7, _⟩ => ⟨S_, .f32⟩
  | .hbm, ⟨8, _⟩ => ⟨S2x100, .f32⟩
  | .hbm, ⟨9, _⟩ => ⟨S2x100, .f32⟩
  | .hbm, ⟨10, _⟩ => ⟨S_, .f32⟩
  | .hbm, ⟨11, _⟩ => ⟨S2x100, .f32⟩
  | .hbm, ⟨12, _⟩ => ⟨S2x100, .f32⟩
  | .hbm, ⟨13, _⟩ => ⟨S2x100, .f32⟩
  | .hbm, ⟨14, _⟩ => ⟨S_, .f32⟩
  | .hbm, ⟨15, _⟩ => ⟨S2x100, .f32⟩
  | .hbm, ⟨16, _⟩ => ⟨S2x100, .f32⟩
  | .hbm, ⟨17, _⟩ => ⟨S6400000x3, .f32⟩
  | .hbm, ⟨18, _⟩ => ⟨S_, .f32⟩
  | .hbm, ⟨19, _⟩ => ⟨S6400000, .f32⟩
  | .hbm, ⟨20, _⟩ => ⟨S6400000, .f32⟩
  | .hbm, ⟨21, _⟩ => ⟨S_, .i32⟩
  | .hbm, ⟨22, _⟩ => ⟨S6400000, .i32⟩
  | .hbm, ⟨23, _⟩ => ⟨S6400000, .i1⟩
  | .hbm, ⟨24, _⟩ => ⟨S_, .i32⟩
  | .hbm, ⟨25, _⟩ => ⟨S6400000, .i32⟩
  | .hbm, ⟨26, _⟩ => ⟨S6400000, .i32⟩
  | .hbm, ⟨27, _⟩ => ⟨S6400000, .i32⟩
  | .hbm, ⟨28, _⟩ => ⟨S6400000x1, .i32⟩
  | .hbm, ⟨29, _⟩ => ⟨S6400000, .i32⟩
  | .hbm, ⟨30, _⟩ => ⟨S_, .i32⟩
  | .hbm, ⟨31, _⟩ => ⟨S6400000, .i32⟩
  | .hbm, ⟨32, _⟩ => ⟨S6400000, .i1⟩
  | .hbm, ⟨33, _⟩ => ⟨S_, .i32⟩
  | .hbm, ⟨34, _⟩ => ⟨S6400000, .i32⟩
  | .hbm, ⟨35, _⟩ => ⟨S6400000, .i32⟩
  | .hbm, ⟨36, _⟩ => ⟨S6400000, .i32⟩
  | .hbm, ⟨37, _⟩ => ⟨S6400000x1, .i32⟩
  | .hbm, ⟨38, _⟩ => ⟨S6400000, .i32⟩
  | .hbm, ⟨39, _⟩ => ⟨S_, .i32⟩
  | .hbm, ⟨40, _⟩ => ⟨S6400000, .i32⟩
  | .hbm, ⟨41, _⟩ => ⟨S6400000, .i1⟩
  | .hbm, ⟨42, _⟩ => ⟨S_, .i32⟩
  | .hbm, ⟨43, _⟩ => ⟨S6400000, .i32⟩
  | .hbm, ⟨44, _⟩ => ⟨S6400000, .i32⟩
  | .hbm, ⟨45, _⟩ => ⟨S6400000, .i32⟩
  | .hbm, ⟨46, _⟩ => ⟨S_, .i32⟩
  | .hbm, ⟨47, _⟩ => ⟨S6400000, .i32⟩
  | .hbm, ⟨48, _⟩ => ⟨S6400000, .i1⟩
  | .hbm, ⟨49, _⟩ => ⟨S_, .i32⟩
  | .hbm, ⟨50, _⟩ => ⟨S6400000, .i32⟩
  | .hbm, ⟨51, _⟩ => ⟨S6400000, .i32⟩
  | .hbm, ⟨52, _⟩ => ⟨S6400000, .i32⟩
  | .hbm, ⟨53, _⟩ => ⟨S6400000x1, .i32⟩
  | .hbm, ⟨54, _⟩ => ⟨S6400000x1, .i32⟩
  | .hbm, ⟨55, _⟩ => ⟨S6400000x2, .i32⟩
  | .hbm, ⟨56, _⟩ => ⟨S6400000, .f32⟩
  | .hbm, ⟨57, _⟩ => ⟨S_, .i32⟩
  | .hbm, ⟨58, _⟩ => ⟨S6400000, .i32⟩
  | .hbm, ⟨59, _⟩ => ⟨S6400000, .i1⟩
  | .hbm, ⟨60, _⟩ => ⟨S_, .i32⟩
  | .hbm, ⟨61, _⟩ => ⟨S6400000, .i32⟩
  | .hbm, ⟨62, _⟩ => ⟨S6400000, .i32⟩
  | .hbm, ⟨63, _⟩ => ⟨S6400000, .i32⟩
  | .hbm, ⟨64, _⟩ => ⟨S6400000x1, .i32⟩
  | .hbm, ⟨65, _⟩ => ⟨S6400000, .i32⟩
  | .hbm, ⟨66, _⟩ => ⟨S_, .i32⟩
  | .hbm, ⟨67, _⟩ => ⟨S6400000, .i32⟩
  | .hbm, ⟨68, _⟩ => ⟨S6400000, .i1⟩
  | .hbm, ⟨69, _⟩ => ⟨S_, .i32⟩
  | .hbm, ⟨70, _⟩ => ⟨S6400000, .i32⟩
  | .hbm, ⟨71, _⟩ => ⟨S6400000, .i32⟩
  | .hbm, ⟨72, _⟩ => ⟨S6400000, .i32⟩
  | .hbm, ⟨73, _⟩ => ⟨S6400000x1, .i32⟩
  | .hbm, ⟨74, _⟩ => ⟨S6400000, .i32⟩
  | .hbm, ⟨75, _⟩ => ⟨S_, .i32⟩
  | .hbm, ⟨76, _⟩ => ⟨S6400000, .i32⟩
  | .hbm, ⟨77, _⟩ => ⟨S6400000, .i1⟩
  | .hbm, ⟨78, _⟩ => ⟨S_, .i32⟩
  | .hbm, ⟨79, _⟩ => ⟨S6400000, .i32⟩
  | .hbm, ⟨80, _⟩ => ⟨S6400000, .i32⟩
  | .hbm, ⟨81, _⟩ => ⟨S6400000, .i32⟩
  | .hbm, ⟨82, _⟩ => ⟨S_, .i32⟩
  | .hbm, ⟨83, _⟩ => ⟨S6400000, .i32⟩
  | .hbm, ⟨84, _⟩ => ⟨S6400000, .i1⟩
  | .hbm, ⟨85, _⟩ => ⟨S_, .i32⟩
  | .hbm, ⟨86, _⟩ => ⟨S6400000, .i32⟩
  | .hbm, ⟨87, _⟩ => ⟨S6400000, .i32⟩
  | .hbm, ⟨88, _⟩ => ⟨S6400000, .i32⟩
  | .hbm, ⟨89, _⟩ => ⟨S6400000x1, .i32⟩
  | .hbm, ⟨90, _⟩ => ⟨S6400000x1, .i32⟩
  | .hbm, ⟨91, _⟩ => ⟨S6400000x2, .i32⟩
  | .hbm, ⟨92, _⟩ => ⟨S6400000, .f32⟩
  | .hbm, ⟨93, _⟩ => ⟨S6400000, .f32⟩
  | .hbm, ⟨94, _⟩ => ⟨S6400000, .f32⟩
  | .hbm, ⟨95, _⟩ => ⟨S6400000, .f32⟩
  | .hbm, ⟨96, _⟩ => ⟨S6400000, .f32⟩
  | .hbm, ⟨97, _⟩ => ⟨S6400000, .f32⟩
  | .hbm, ⟨98, _⟩ => ⟨S_, .f32⟩
  | .hbm, ⟨99, _⟩ => ⟨S6400000, .f32⟩
  | .hbm, ⟨100, _⟩ => ⟨S6400000, .i1⟩
  | .hbm, ⟨101, _⟩ => ⟨S_, .f32⟩
  | .hbm, ⟨102, _⟩ => ⟨S6400000, .f32⟩
  | .hbm, ⟨103, _⟩ => ⟨S6400000, .f32⟩
  | .hbm, ⟨104, _⟩ => ⟨S_, .f32⟩
  | .hbm, ⟨105, _⟩ => ⟨S100000, .f32⟩
  | .hbm, ⟨106, _⟩ => ⟨S6400000x1, .i32⟩
  | .hbm, ⟨107, _⟩ => ⟨S100000, .f32⟩
  | .hbm, ⟨108, _⟩ => ⟨S_, .f32⟩
  | .hbm, ⟨109, _⟩ => ⟨S1024, .f32⟩
  | .hbm, ⟨110, _⟩ => ⟨S100000x1, .i32⟩
  | .hbm, ⟨111, _⟩ => ⟨S1024, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_c_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_c_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_12 : Ref sig .tc := ⟨.hbm, 66, rfl⟩
abbrev main_v45 : Ref sig .tc := ⟨.hbm, 67, rfl⟩
abbrev main_v46 : Ref sig .tc := ⟨.hbm, 68, rfl⟩
abbrev main_c_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_14 : Ref sig .tc := ⟨.hbm, 75, rfl⟩
abbrev main_v52 : Ref sig .tc := ⟨.hbm, 76, rfl⟩
abbrev main_v53 : Ref sig .tc := ⟨.hbm, 77, rfl⟩
abbrev main_c_15 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_16 : Ref sig .tc := ⟨.hbm, 82, rfl⟩
abbrev main_v57 : Ref sig .tc := ⟨.hbm, 83, rfl⟩
abbrev main_v58 : Ref sig .tc := ⟨.hbm, 84, rfl⟩
abbrev main_c_17 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_cst_20 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_21 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== Proof.ICommon.lean ====
/-
  Set-up shared by the proofs about the kernel: the program as the launch theorem sees it, the resource
  algebra, and the contents the four calls leave, as functions of the contents they read. Generic in the
  float instance.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Batch
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

abbrev EH : Emb UH (MT nD τ sig (HIx 2) (Elt F) ℕ UU ℕ) := embL
def EP : Emb UP (MT nD τ sig (HIx 2) (Elt F) ℕ UU ℕ) := (Emb.inl : Emb UP (UP × Counters)).trans embR

instance EP_landsIn : (EP (F := F)).LandsIn (upEmb : UEmb _ (MT nD τ sig (HIx 2) (Elt F) ℕ UU ℕ)) := by
  unfold EP embR; infer_instance

/-! ## Separating conjunctions over finite sets, a list of members taken out -/

section Peel
variable {M : Type} [URA M]

theorem bigSep_peel {I : Type} [DecidableEq I] (Φ : I → sProp M) :
    ∀ (l : List I) (s : Finset I), l.Nodup → (∀ x ∈ l, x ∈ s) →
      bigSep s Φ = l.foldr (fun x R => iprop(Φ x ∗ R)) (bigSep (s \ l.toFinset) Φ)
  | [], s, _, _ => by simp
  | x :: l, s, hn, hm => by
    obtain ⟨hx, hn'⟩ := List.nodup_cons.mp hn
    rw [List.foldr_cons, SparseCore.bigSep_erase' (hm x List.mem_cons_self),
      bigSep_peel Φ l (s.erase x) hn' (fun y hy => Finset.mem_erase.mpr ⟨fun e => hx (e ▸ hy), hm y (List.mem_cons_of_mem _ hy)⟩)]
    rw [show s.erase x \ l.toFinset = s \ (x :: l).toFinset from by
      ext y; simp only [Finset.mem_erase, Finset.mem_sdiff, List.mem_toFinset, List.mem_cons, not_or]; tauto]
end Peel

/-! ## Indices by number -/

/-- The index of a one-axis shape at number `k` (reduced below the extent, so that it is total). -/
def at1 (n : ℕ) (k : ℕ) (h : 0 < n := by decide) : (⟨1, ![n]⟩ : Shape).Idx := fun | 0 => ⟨k % n, Nat.mod_lt _ h⟩

theorem at1_val {n k : ℕ} (h : 0 < n) (hk : k < n) : ((at1 n k h) 0).val = k := Nat.mod_eq_of_lt hk

theorem idx1_ext {n : ℕ} {x y : (⟨1, ![n]⟩ : Shape).Idx} (h : (x 0).val = (y 0).val) : x = y :=
  funext fun | 0 => Fin.ext h

theorem at1_eq {n k : ℕ} (h : 0 < n) (x : (⟨1, ![n]⟩ : Shape).Idx) (e : (x 0).val = k) : at1 n k h = x :=
  idx1_ext (by rw [at1_val h (e ▸ (x 0).isLt), e])

/-- The index of a two-axis shape at a pair of numbers. -/
def at2 (n n' : ℕ) (a b : ℕ) (h : 0 < n := by decide) (h' : 0 < n' := by decide) : (⟨2, ![n, n']⟩ : Shape).Idx :=
  fun | 0 => ⟨a % n, Nat.mod_lt _ h⟩ | 1 => ⟨b % n', Nat.mod_lt _ h'⟩

theorem idx2_ext {n n' : ℕ} {x y : (⟨2, ![n, n']⟩ : Shape).Idx} (h : (x 0).val = (y 0).val) (h' : (x 1).val = (y 1).val) : x = y :=
  funext fun | 0 => Fin.ext h | 1 => Fin.ext h'

theorem at2_val0 {n n' a b : ℕ} (h : 0 < n) (h' : 0 < n') (ha : a < n) : ((at2 n n' a b h h') 0).val = a := Nat.mod_eq_of_lt ha
theorem at2_val1 {n n' a b : ℕ} (h : 0 < n) (h' : 0 < n') (hb : b < n') : ((at2 n n' a b h h') 1).val = b := Nat.mod_eq_of_lt hb

/-! ## A store through a rectangle of a whole buffer, element by element -/

section Store
variable {κ : Kind} {Val : EltTy → Type}

theorem store_in (b : Ref sig κ) (r : Rect b.ty.shape) (f : b.ty.Contents Val) (w : r.shape.Idx → Val b.ty.elt) (x : r.shape.Idx) {i : b.ty.shape.Idx}
    (h : r.emb x = i) : (Memref.whole b).view.writes Val f [⟨r, w⟩] i = w x := by
  subst h
  exact View.write_emb_of_mem (v := (Memref.whole b).view.slice r) f w (Finset.mem_univ x)

theorem store_out (b : Ref sig κ) (r : Rect b.ty.shape) (f : b.ty.Contents Val) (w : r.shape.Idx → Val b.ty.elt) {i : b.ty.shape.Idx}
    (h : ∀ x, r.emb x ≠ i) : (Memref.whole b).view.writes Val f [⟨r, w⟩] i = f i := by
  refine View.write_of_not_mem (v := (Memref.whole b).view.slice r) f w Finset.univ ?_
  intro hm
  obtain ⟨x, -, hx⟩ := Finset.mem_map.mp hm
  exact h x hx

theorem load_at (b : Ref sig κ) (r : Rect b.ty.shape) (f : b.ty.Contents Val) (x : r.shape.Idx) {i : b.ty.shape.Idx}
    (h : r.emb x = i) : View.readAt Val (Memref.whole b).view r.toLoadRect f x = f i := by
  subst h; rfl

theorem gather_at (b : Ref sig κ) (f : b.ty.Contents (Elt F)) {t : Shape} (idxs : Fin b.ty.shape.rank → IVec t 32)
    (h : ∀ a x, (idxs a x).toNat < b.ty.shape.size a) (x : t.Idx) :
    loadIdx (View.read (Elt F) ((Memref.whole b).access (Rect.whole b.ty.shape)) f) idxs h x = f (idxAt idxs h x) :=
  congrFun (Memref.read_access_whole (Elt F) b f) _

/-- A copy that filled a whole view, at one of the view's positions. -/
theorem landed_at {sp : Space} {s : Shape} {e : EltTy} (v : View sig κ sp s e) (f : v.ty.Contents Val) (w : s.Idx → Val e) (x : s.Idx) :
    v.writes Val f [⟨Rect.whole s, w⟩] (v.emb x) = _root_.cast (congrArg Val v.elt_eq.symm) (w x) := by
  have h := View.write_emb_of_mem (v := v.slice (Rect.whole s)) f w (Finset.mem_univ x)
  rwa [show (v.slice (Rect.whole s)).emb x = v.emb x from congrArg v.emb (Rect.emb_whole_apply s x)] at h

end Store

/-! ## What the four calls leave, of what they read -/

variable [FloatOps F]

abbrev lane0 : S16.Idx := at1 16 0

/-- The packed word of one atom: its quantised radius over its molecule number. -/
def packW (mol : BitVec 32) (r : Elt F .f32) : BitVec 32 := k0_pay2 (F := F) (fun _ => mol) (fun _ => r) lane0

/-- The row of the flat radius table an atom reads. -/
def rowW (z film : BitVec 32) : BitVec 32 := k0_pay1 (F := F) (fun _ => z) (fun _ => film) lane0

theorem k0_pay2_apply (v12 : Vec F S16 .i32) (v16 : Vec F S16 .f32) (x : S16.Idx) : k0_pay2 v12 v16 x = packW (F := F) (v12 x) (v16 x) := rfl
theorem k0_pay1_apply (v8 v10 : Vec F S16 .i32) (x : S16.Idx) : k0_pay1 v8 v10 x = rowW (F := F) (v8 x) (v10 x) := rfl

/-- The packed table. -/
def tableVal (z film mol : Vec F S100352 .i32) (rt : Vec F S200 .f32) : Vec F S100352 .i32 := fun n =>
  packW (F := F) (mol n) (rt (at1 200 (rowW (F := F) (z n) (film n)).toNat))

/-- The squared distances. -/
def d2Val (xt : Vec F S3x6400000 .f32) : Vec F S6400000 .f32 := fun e =>
  let p (r : ℕ) : Elt F .f32 := FloatOps.mulf (xt (at2 3 6400000 r (e 0).val)) (xt (at2 3 6400000 r (e 0).val))
  FloatOps.addf (FloatOps.addf (p 0) (p 1)) (p 2)

/-- The potential of one pair of packed words at a squared distance. -/
def potW (d : Elt F .f32) (pi pj : BitVec 32) : Elt F .f32 := k2_pay2 (F := F) (fun _ => d) (fun _ => pi) (fun _ => pj) lane0

/-- The molecule number in a packed word. -/
def molW (p : BitVec 32) : BitVec 32 := k2_pay1 (F := F) (fun _ => p) lane0

theorem k2_pay2_apply (v57 : Vec F S16 .f32) (v58 v59 : Vec F S16 .i32) (x : S16.Idx) :
    k2_pay2 v57 v58 v59 x = potW (v57 x) (v58 x) (v59 x) := rfl
theorem k2_pay6_apply (v57 : Vec F S16 .f32) (v58 v59 : Vec F S16 .i32) (x : S16.Idx) :
    k2_pay6 v57 v58 v59 x = potW (v57 x) (v58 x) (v59 x) := rfl
theorem k2_pay5_apply (v58 : Vec F S16 .i32) (x : S16.Idx) : k2_pay5 (F := F) v58 x = molW (F := F) (v58 x) := rfl
theorem k2_pay1_apply (v58 : Vec F S16 .i32) (x : S16.Idx) : k2_pay1 (F := F) v58 x = molW (F := F) (v58 x) := rfl

/-- The zero the accumulators start at. -/
def zeroW : Elt F .f32 := Scalar.ofBits .f32 0x00000000#32

end Cert.KernelIdeal.Pf

end
-- ==== Proof.IChunk.lean ====
/-
  One group of sixteen pairs of the pair call, and the loops that clear and that sum the sixteen rows.
-/
module

public import proofs.«01_k».proof.Proof.ICommon

@[expose] public section

set_option maxRecDepth 16384

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "tV" => (Memref.whole Cert.KernelIdeal.main_v4_scv : Memref Cert.KernelIdeal.sig Kind.scVector Space.hbm Cert.KernelIdeal.S100352 EltTy.i32)
local notation "iV" => (Memref.whole Cert.KernelIdeal.main_arg3_scv : Memref Cert.KernelIdeal.sig Kind.scVector Space.hbm Cert.KernelIdeal.S6400000 EltTy.i32)
local notation "jV" => (Memref.whole Cert.KernelIdeal.main_arg4_scv : Memref Cert.KernelIdeal.sig Kind.scVector Space.hbm Cert.KernelIdeal.S6400000 EltTy.i32)
local notation "dV" => (Memref.whole Cert.KernelIdeal.main_v6_scv : Memref Cert.KernelIdeal.sig Kind.scVector Space.hbm Cert.KernelIdeal.S6400000 EltTy.f32)
local notation "oV" => (Memref.whole Cert.KernelIdeal.main_v7_scv : Memref Cert.KernelIdeal.sig Kind.scVector Space.hbm Cert.KernelIdeal.S32x1024 EltTy.f32)
local notation "bT" => (Memref.whole Cert.KernelIdeal.cc2_scratch0 : Memref Cert.KernelIdeal.sig Kind.scVector Space.vmem Cert.KernelIdeal.S100352 EltTy.i32)
local notation "bA" => (Memref.whole Cert.KernelIdeal.cc2_scratch1 : Memref Cert.KernelIdeal.sig Kind.scVector Space.vmem Cert.KernelIdeal.S16x1024 EltTy.f32)
local notation "bI0" => (Memref.whole Cert.KernelIdeal.cc2_scratch2 : Memref Cert.KernelIdeal.sig Kind.scVector Space.vmem Cert.KernelIdeal.S2000 EltTy.i32)
local notation "bJ0" => (Memref.whole Cert.KernelIdeal.cc2_scratch3 : Memref Cert.KernelIdeal.sig Kind.scVector Space.vmem Cert.KernelIdeal.S2000 EltTy.i32)
local notation "bD0" => (Memref.whole Cert.KernelIdeal.cc2_scratch4 : Memref Cert.KernelIdeal.sig Kind.scVector Space.vmem Cert.KernelIdeal.S2000 EltTy.f32)
local notation "bI1" => (Memref.whole Cert.KernelIdeal.cc2_scratch5 : Memref Cert.KernelIdeal.sig Kind.scVector Space.vmem Cert.KernelIdeal.S2000 EltTy.i32)
local notation "bJ1" => (Memref.whole Cert.KernelIdeal.cc2_scratch6 : Memref Cert.KernelIdeal.sig Kind.scVector Space.vmem Cert.KernelIdeal.S2000 EltTy.i32)
local notation "bD1" => (Memref.whole Cert.KernelIdeal.cc2_scratch7 : Memref Cert.KernelIdeal.sig Kind.scVector Space.vmem Cert.KernelIdeal.S2000 EltTy.f32)
local notation "bW" => (Memref.whole Cert.KernelIdeal.cc2_scratch8 : Memref Cert.KernelIdeal.sig Kind.scVector Space.vmem Cert.KernelIdeal.S1024 EltTy.f32)

section Values
variable [FloatOps F]

/-! ## The scattered sum of sixteen lanes, one row to a lane -/

/-- One lane's store. -/
def laneStep (idxs : Fin 2 → IVec S16 32) (v : Vec F S16 .f32) (h : ∀ a x, (idxs a x).toNat < S16x1024.size a) (g : Vec F S16x1024 .f32) (k : Fin 16) :
    Vec F S16x1024 .f32 := fun j =>
  if (∀ a, (j a).val = (idxAt (s := S16x1024) idxs h (Shape.ofLane (d := ![16]) k) a).val)
    then Elt.idxAdd (F := F) .f32 (g (idxAt (s := S16x1024) idxs h (Shape.ofLane (d := ![16]) k))) (v (Shape.ofLane (d := ![16]) k)) else g j

theorem storeIdx_eq (f : Vec F S16x1024 .f32) (idxs : Fin 2 → IVec S16 32) (v : Vec F S16 .f32) (h : ∀ a x, (idxs a x).toNat < S16x1024.size a) :
    storeIdx (F := F) (s := S16x1024) (e := .f32) (d := ![16]) f idxs v (fun _ => 1#1) true h = (List.finRange 16).foldl (laneStep idxs v h) f := by
  unfold storeIdx
  refine congrArg (fun s => List.foldl s f (List.finRange 16)) ?_
  funext g (k : Fin 16)
  show (if (1#1 : BitVec 1) = 1 then _ else _) = _
  refine (if_pos (c := (1#1 : BitVec 1) = 1) rfl).trans ?_
  funext j
  unfold laneStep
  by_cases hc : ∀ a, (j a).val = (idxAt (s := S16x1024) idxs h (Shape.ofLane (d := ![16]) k) a).val
  · exact (if_pos hc).trans (if_pos hc).symm
  · exact (if_neg hc).trans (if_neg hc).symm

theorem laneStep_apply (idxs : Fin 2 → IVec S16 32) (v : Vec F S16 .f32) (h : ∀ a x, (idxs a x).toNat < S16x1024.size a)
    (hl : ∀ x, (idxs 0 x).toNat = (x 0).val) (g : Vec F S16x1024 .f32) (k : Fin 16) (j : S16x1024.Idx) :
    laneStep idxs v h g k j
      = if k.val = (j 0).val ∧ (idxs 1 (at1 16 (j 0).val)).toNat = (j 1).val then Elt.idxAdd (F := F) .f32 (g j) (v (at1 16 (j 0).val)) else g j := by
  have hx0 : ((Shape.ofLane (d := ![16]) k : S16.Idx) 0).val = k.val := rfl
  have hi0 : (idxAt (s := S16x1024) idxs h (Shape.ofLane (d := ![16]) k) 0).val = k.val := (hl _).trans hx0
  unfold laneStep
  by_cases hjk : k.val = (j 0).val
  · have hx : at1 16 (j 0).val = (Shape.ofLane (d := ![16]) k : S16.Idx) := idx1_ext ((at1_val (by decide) (j 0).isLt).trans hjk.symm)
    by_cases hc : (idxs 1 (Shape.ofLane (d := ![16]) k)).toNat = (j 1).val
    · have hji : j = idxAt (s := S16x1024) idxs h (Shape.ofLane (d := ![16]) k) := idx2_ext (hjk.symm.trans hi0.symm) hc.symm
      rw [if_pos (fun a => congrArg (fun i : S16x1024.Idx => (i a).val) hji), if_pos ⟨hjk, (congrArg (fun x => (idxs 1 x).toNat) hx).trans hc⟩, hx, ← hji]
    · rw [if_neg (fun hh => hc (hh 1).symm), if_neg (fun hh => hc ((congrArg (fun x => (idxs 1 x).toNat) hx).symm.trans hh.2))]
  · rw [if_neg (fun hh => hjk (hi0.symm.trans (hh 0).symm)), if_neg (fun hh => hjk hh.1)]

theorem laneSteps (idxs : Fin 2 → IVec S16 32) (v : Vec F S16 .f32) (h : ∀ a x, (idxs a x).toNat < S16x1024.size a)
    (hl : ∀ x, (idxs 0 x).toNat = (x 0).val) (j : S16x1024.Idx) :
    ∀ (l : List (Fin 16)) (g : Vec F S16x1024 .f32), l.Nodup →
      l.foldl (laneStep idxs v h) g j
        = if (∃ k ∈ l, k.val = (j 0).val) ∧ (idxs 1 (at1 16 (j 0).val)).toNat = (j 1).val then Elt.idxAdd (F := F) .f32 (g j) (v (at1 16 (j 0).val)) else g j
  | [], g, _ => by
    rw [if_neg]; · rfl
    rintro ⟨⟨k, hk, _⟩, _⟩
    exact absurd hk List.not_mem_nil
  | k :: l, g, hn => by
    obtain ⟨hk, hn'⟩ := List.nodup_cons.mp hn
    rw [List.foldl_cons, laneSteps idxs v h hl j l _ hn', laneStep_apply idxs v h hl]
    by_cases hjk : k.val = (j 0).val
    · have hno : ¬ ∃ k' ∈ l, k'.val = (j 0).val := fun ⟨k', hk', e⟩ => hk ((Fin.ext (hjk.trans e.symm) : k = k') ▸ hk')
      rw [if_neg (fun hh => hno hh.1)]
      by_cases hc : (idxs 1 (at1 16 (j 0).val)).toNat = (j 1).val
      · rw [if_pos ⟨hjk, hc⟩, if_pos ⟨⟨k, List.mem_cons_self, hjk⟩, hc⟩]
      · rw [if_neg (fun hh => hc hh.2), if_neg (fun hh => hc hh.2)]
    · rw [if_neg (show ¬ (k.val = (j 0).val ∧ _) from fun hh => hjk hh.1)]
      have hiff : (∃ k' ∈ k :: l, k'.val = (j 0).val) ↔ ∃ k' ∈ l, k'.val = (j 0).val :=
        ⟨fun ⟨k', hk', e⟩ => by
          rcases List.mem_cons.mp hk' with rfl | h'
          · exact absurd e hjk
          · exact ⟨k', h', e⟩, fun ⟨k', hk', e⟩ => ⟨k', List.mem_cons_of_mem _ hk', e⟩⟩
      by_cases hc : (∃ k' ∈ l, k'.val = (j 0).val) ∧ (idxs 1 (at1 16 (j 0).val)).toNat = (j 1).val
      · rw [if_pos hc, if_pos ⟨hiff.mpr hc.1, hc.2⟩]
      · rw [if_neg hc, if_neg (fun hh => hc ⟨hiff.mp hh.1, hh.2⟩)]

theorem scatterRows (f : Vec F S16x1024 .f32) (idxs : Fin 2 → IVec S16 32) (v : Vec F S16 .f32) (h : ∀ a x, (idxs a x).toNat < S16x1024.size a)
    (hl : ∀ x, (idxs 0 x).toNat = (x 0).val) (j : S16x1024.Idx) :
    storeIdx (F := F) (s := S16x1024) (e := .f32) (d := ![16]) f idxs v (fun _ => 1#1) true h j
      = if (idxs 1 (at1 16 (j 0).val)).toNat = (j 1).val then Elt.idxAdd (F := F) .f32 (f j) (v (at1 16 (j 0).val)) else f j := by
  rw [storeIdx_eq, laneSteps idxs v h hl j _ f (List.nodup_finRange 16)]
  have hex : ∃ k ∈ List.finRange 16, k.val = (j 0).val := ⟨⟨(j 0).val, (j 0).isLt⟩, List.mem_finRange _, rfl⟩
  by_cases hc : (idxs 1 (at1 16 (j 0).val)).toNat = (j 1).val
  · rw [if_pos ⟨hex, hc⟩, if_pos hc]
  · rw [if_neg (fun hh => hc hh.2), if_neg hc]

/-! ## The accumulators of one task after each group, its row of partial sums -/

def pkAt (pk : Vec F S100352 .i32) (i : BitVec 32) : BitVec 32 := pk (at1 100352 i.toNat)

/-- What one pair adds to column `c` of the accumulator `a` of its lane. -/
def pairStep (pk : Vec F S100352 .i32) (i j : BitVec 32) (dd : Elt F .f32) (c : ℕ) (a : Elt F .f32) : Elt F .f32 :=
  if (molW (F := F) (pkAt (F := F) pk i)).toNat = c then Elt.idxAdd (F := F) .f32 a (potW dd (pkAt (F := F) pk i) (pkAt (F := F) pk j)) else a

theorem pairStep_of {pk : Vec F S100352 .i32} {i j A B : BitVec 32} {D dd : Elt F .f32} (hA : A = pkAt (F := F) pk i) (hB : B = pkAt (F := F) pk j) (hD : D = dd)
    (c : ℕ) (a : Elt F .f32) :
    (if (molW (F := F) A).toNat = c then Elt.idxAdd (F := F) .f32 a (potW D A B) else a) = pairStep pk i j dd c a := by
  subst hA hB hD; rfl

def accV (pk : Vec F S100352 .i32) (ii jj : Vec F S6400000 .i32) (dd : Vec F S6400000 .f32) (w : ℕ) : ℕ → Vec F S16x1024 .f32
  | 0 => fun _ => zeroW
  | n + 1 => fun j =>
    pairStep pk (ii (at1 6400000 (200000 * w + 16 * n + (j 0).val))) (jj (at1 6400000 (200000 * w + 16 * n + (j 0).val)))
      (dd (at1 6400000 (200000 * w + 16 * n + (j 0).val))) (j 1).val (accV pk ii jj dd w n j)

/-- The sixteen rows of the accumulators summed, at one column. -/
def rowSum (a : Vec F S16x1024 .f32) (c : ℕ) : Elt F .f32 :=
  (List.range 15).foldl (fun s r => FloatOps.addf s (a (at2 16 1024 (r + 1) c))) (a (at2 16 1024 0 c))

/-- The partial sums of the 32 tasks. -/
def partialVal (pk : Vec F S100352 .i32) (ii jj : Vec F S6400000 .i32) (dd : Vec F S6400000 .f32) : Vec F S32x1024 .f32 := fun j =>
  rowSum (accV pk ii jj dd (j 0).val 12500) (j 1).val

/-- Chunk `c` of a task's 200000 pairs. -/
def chunk {α : Type} (g : S6400000.Idx → α) (w c : ℕ) : S2000.Idx → α := fun k => g (at1 6400000 (200000 * w + 2000 * c + (k 0).val))

theorem molW_lt (p : BitVec 32) : (molW (F := F) p).toNat < 1024 := by
  show (p &&& 1023#32).toNat < 1024
  rw [BitVec.toNat_and]
  exact lt_of_le_of_lt Nat.and_le_right (by decide)

theorem cast_row (v : Vec F S1x16 .f32) (x : S16.Idx) : shapeCast S16 v shapeCasts_S1x16_S16 x = v (at2 1 16 0 (x 0).val) := by
  refine (shapeCast_dropUnit_apply (n := 1) ![16] v shapeCasts_S1x16_S16 x).trans ?_
  congr 1
  exact idx2_ext rfl (at2_val1 (by decide) (by decide) (x 0).isLt).symm

end Values

section Tile
variable (d : Dev nD) (L : grid2.Coords)

abbrev c2 (L : grid2.Coords) : Fin τ.nSC := (L 0).castLE hcore2
abbrev j2 (L : grid2.Coords) : Fin τ.nSub := (L 1).castLE hsub2
abbrev th2 (d : Dev nD) (L : grid2.Coords) : Thread nD τ := V d (c2 L) (j2 L)

/-- The task's number, in the order the kernel deals the pairs. -/
def wid2 (L : grid2.Coords) : ℕ := 2 * (L 1).val + (L 0).val

variable [FloatOps F]

theorem gatherPk (pk : Vec F S100352 .i32) (v : IVec S16 32) (h : ∀ a x, ((![v] : Fin 1 → IVec S16 32) a x).toNat < S100352.size a) (x : S16.Idx) {b : BitVec 32}
    (hb : v x = b) :
    loadIdx (View.read (Elt F) ((bT).access (.whole S100352)) pk) ![v] h x = pkAt (F := F) pk b := by
  subst hb
  refine (gather_at cc2_scratch0 pk ![v] h x).trans ?_
  unfold pkAt
  congr 1
  exact (at1_eq _ _ rfl).symm

/-- The invariant of the loop over a chunk's groups. -/
def inv3 (pk : Vec F S100352 .i32) (ia ja : S2000.Idx → Elt F .i32) (da : S2000.Idx → Elt F .f32) (G : ℕ → Vec F S16x1024 .f32) (t : Nat) (_ : PUnit) : sProp 𝕄 :=
  iprop(((bI0).view.loc (th2 d L) ↦{fullShare} ia) ∗ ((bJ0).view.loc (th2 d L) ↦{fullShare} ja) ∗ ((bD0).view.loc (th2 d L) ↦{fullShare} da)
    ∗ ((bT).view.loc (th2 d L) ↦{fullShare} pk) ∗ ((bA).view.loc (th2 d L) ↦{fullShare} G t))

theorem trip3 (v2 v3 c0 c1 : BitVec 32) (t2 : Fin k2_t2_loop.trips) (pk : Vec F S100352 .i32) (ia ja : S2000.Idx → Elt F .i32) (da : S2000.Idx → Elt F .f32) (G : ℕ → Vec F S16x1024 .f32) (k : Fin k2_t3_loop.trips)
    (hi : ∀ n, (ia n).toNat < 100352) (hj : ∀ n, (ja n).toNat < 100352)
    (hG : ∀ j, G (k.val + 1) j = pairStep pk (ia (at1 2000 (16 * k.val + (j 0).val))) (ja (at1 2000 (16 * k.val + (j 0).val))) (da (at1 2000 (16 * k.val + (j 0).val))) (j 1).val (G k.val j)) :
    inv3 d L pk ia ja da G k.val ⟨⟩
      ⊢ wp frame (wpE (defs₀ (F := F)) 𝒱₀ (th2 d L) none) Set.univ
          (k2_t3_body L tV (Memref.isWhole_whole _) iV (Memref.isWhole_whole _) jV (Memref.isWhole_whole _) dV (Memref.isWhole_whole _) oV (Memref.isWhole_whole _) bT (Memref.isWhole_whole _) bA (Memref.isWhole_whole _) bI0 (Memref.isWhole_whole _) bJ0 (Memref.isWhole_whole _) bD0 (Memref.isWhole_whole _) bI1 (Memref.isWhole_whole _) bJ1 (Memref.isWhole_whole _) bD1 (Memref.isWhole_whole _) bW (Memref.isWhole_whole _) cc2_scratch9 cc2_scratch10 cc2_scoped0 cc2_scoped1 v2 v3 (iota .scVector S16 32 [0] iota_S16_d0_w32_scVector) c0 c1 t2 k ⟨⟩)
          (inv3 d L pk ia ja da G (k.val + 1)) := by
  unfold inv3
  iintro ⟨HI, HJ, HD, HT, HA⟩
  unfold k2_t3_body
  have hoff : ∀ x : S16.Idx, (Rect.unit (s := S2000) (k2_off19 k) S16.size (k2_off19_inb k)).emb x = at1 2000 (16 * k.val + (x 0).val) := fun x => by
    refine (at1_eq _ _ ?_).symm
    rw [Rect.emb_apply, show (Rect.unit (s := S2000) (k2_off19 k) S16.size (k2_off19_inb k)).off 0 = 16 * k.val from congrFun (k2_off19_eq k) 0]
    show 16 * k.val + 1 * (x 0).val = _
    omega
  have hvi : ∀ x : S16.Idx, View.readAt (Elt F) (bI0).view (Rect.unit (s := S2000) (k2_off19 k) S16.size (k2_off19_inb k)).toLoadRect ia x = ia (at1 2000 (16 * k.val + (x 0).val)) :=
    fun x => load_at (Val := Elt F) cc2_scratch2 (Rect.unit (s := S2000) (k2_off19 k) S16.size (k2_off19_inb k)) ia x (hoff x)
  have hvj : ∀ x : S16.Idx, View.readAt (Elt F) (bJ0).view (Rect.unit (s := S2000) (k2_off19 k) S16.size (k2_off19_inb k)).toLoadRect ja x = ja (at1 2000 (16 * k.val + (x 0).val)) :=
    fun x => load_at (Val := Elt F) cc2_scratch3 (Rect.unit (s := S2000) (k2_off19 k) S16.size (k2_off19_inb k)) ja x (hoff x)
  have hvd : ∀ x : S16.Idx, View.readAt (Elt F) (bD0).view (Rect.unit (s := S2000) (k2_off19 k) S16.size (k2_off19_inb k)).toLoadRect da x = da (at1 2000 (16 * k.val + (x 0).val)) :=
    fun x => load_at (Val := Elt F) cc2_scratch4 (Rect.unit (s := S2000) (k2_off19 k) S16.size (k2_off19_inb k)) da x (hoff x)
  have h1 : k2_chk1 (View.readAt (Elt F) (bI0).view (Rect.unit (s := S2000) (k2_off19 k) S16.size (k2_off19_inb k)).toLoadRect ia) := fun a x => by
    match a with
    | 0 => exact lt_of_eq_of_lt (congrArg BitVec.toNat (hvi x)) (hi _)
  have h2 : k2_chk2 (View.readAt (Elt F) (bJ0).view (Rect.unit (s := S2000) (k2_off19 k) S16.size (k2_off19_inb k)).toLoadRect ja) := fun a x => by
    match a with
    | 0 => exact lt_of_eq_of_lt (congrArg BitVec.toNat (hvj x)) (hj _)
  have h3 : ∀ v : Vec F S16 .i32, k2_chk3 (iota .scVector S16 32 [0] iota_S16_d0_w32_scVector) (k2_pay1 v) := fun v a x => by
    match a with
    | 0 => exact (by
        have hx := (x 0).isLt
        show (BitVec.ofNat 32 (0 * 16 + (x 0).val)).toNat < 16
        rw [BitVec.toNat_ofNat]
        exact lt_of_le_of_lt (Nat.mod_le _ _) (by have : (x 0).val < 16 := hx; omega))
    | 1 => exact molW_lt (F := F) (v x)
  sl_exec
  iapply (SparseCore.wp_vectorLoadIdx 𝒱₀ (th2 d L) none Set.univ (base := bT) (S := Finset.univ) (q := fullShare) (f := pk) (Finset.subset_univ _)) $$ [HT]
  · iexact HT
  iintro HT
  iapply (SparseCore.wp_vectorLoadIdx 𝒱₀ (th2 d L) none Set.univ (base := bT) (S := Finset.univ) (q := fullShare) (f := pk) (Finset.subset_univ _)) $$ [HT]
  · iexact HT
  iintro HT
  sl_exec (disch := exact h3 _)
  ihave HA := (Entails.of_eq (congrArg (fun S => (((bA).access (.whole S16x1024)).loc (th2 d L) ↦[S]{fullShare} G k.val : sProp 𝕄))
    (Memref.set_access_whole cc2_scratch1).symm)) $$ HA
  iapply (SparseCore.wp_vectorStoreIdx 𝒱₀ (th2 d L) none Set.univ (base := bA)) $$ [HA]
  · iexact HA
  iintro HA
  sl_step
  isplitl [HI]; · iexact HI
  isplitl [HJ]; · iexact HJ
  isplitl [HD]; · iexact HD
  isplitl [HT]; · iexact HT
  iapply (Entails.of_eq ?_) $$ HA
  refine (congrArg (fun S => (((bA).access (.whole S16x1024)).loc (th2 d L) ↦[S]{fullShare} _ : sProp 𝕄)) (Memref.set_access_whole cc2_scratch1)).trans ?_
  refine congrArg (fun g => ((bA).view.loc (th2 d L) ↦{fullShare} g : sProp 𝕄)) ?_
  refine (Memref.write_access_whole_univ (Elt F) cc2_scratch1 (G k.val) _).trans ?_
  rw [Memref.read_access_whole]
  funext j
  refine (scatterRows (G k.val) _ _ _ ?_ j).trans ?_
  · intro x
    have hx : (x 0).val < 16 := (x 0).isLt
    show (BitVec.ofNat 32 (0 * 16 + (x 0).val)).toNat = _
    rw [BitVec.toNat_ofNat, Nat.zero_mul, Nat.zero_add]
    exact Nat.mod_eq_of_lt (by omega)
  · have hx : ((at1 16 (j 0).val) 0).val = (j 0).val := at1_val (by decide) (j 0).isLt
    have ei := (hvi (at1 16 (j 0).val)).trans (congrArg (fun n => ia (at1 2000 (16 * k.val + n))) hx)
    have ej := (hvj (at1 16 (j 0).val)).trans (congrArg (fun n => ja (at1 2000 (16 * k.val + n))) hx)
    have ed := (hvd (at1 16 (j 0).val)).trans (congrArg (fun n => da (at1 2000 (16 * k.val + n))) hx)
    have gi := gatherPk pk _ h1 (at1 16 (j 0).val) ei
    have gj := gatherPk pk _ h2 (at1 16 (j 0).val) ej
    have e := (pairStep_of gi gj ed (j 1).val (G k.val j)).trans (hG j).symm
    rw [k2_pay2_apply]
    have ev : (![iota .scVector S16 32 [0] iota_S16_d0_w32_scVector, trip3.sl.v61 d L pk ia k h1] 1 (at1 16 (j 0).val) : BitVec 32)
        = molW (F := F) (loadIdx (View.read (Elt F) ((bT).access (.whole S100352)) pk)
          ![View.readAt (Elt F) (bI0).view (Rect.unit (s := S2000) (k2_off19 k) S16.size (k2_off19_inb k)).toLoadRect ia] h1 (at1 16 (j 0).val)) := by
      delta trip3.sl.v61
      exact k2_pay1_apply _ _
    rw [ev]
    exact e

/-- The invariant of the loop over a chunk's groups. -/
def inv4 (pk : Vec F S100352 .i32) (ia ja : S2000.Idx → Elt F .i32) (da : S2000.Idx → Elt F .f32) (G : ℕ → Vec F S16x1024 .f32) (t : Nat) (_ : PUnit) : sProp 𝕄 :=
  iprop(((bI1).view.loc (th2 d L) ↦{fullShare} ia) ∗ ((bJ1).view.loc (th2 d L) ↦{fullShare} ja) ∗ ((bD1).view.loc (th2 d L) ↦{fullShare} da)
    ∗ ((bT).view.loc (th2 d L) ↦{fullShare} pk) ∗ ((bA).view.loc (th2 d L) ↦{fullShare} G t))

theorem trip4  (pk : Vec F S100352 .i32) (ia ja : S2000.Idx → Elt F .i32) (da : S2000.Idx → Elt F .f32) (G : ℕ → Vec F S16x1024 .f32) (k : Fin k2_t4_loop.trips)
    (hi : ∀ n, (ia n).toNat < 100352) (hj : ∀ n, (ja n).toNat < 100352)
    (hG : ∀ j, G (k.val + 1) j = pairStep pk (ia (at1 2000 (16 * k.val + (j 0).val))) (ja (at1 2000 (16 * k.val + (j 0).val))) (da (at1 2000 (16 * k.val + (j 0).val))) (j 1).val (G k.val j)) :
    inv4 d L pk ia ja da G k.val ⟨⟩
      ⊢ wp frame (wpE (defs₀ (F := F)) 𝒱₀ (th2 d L) none) Set.univ
          (k2_t4_body L tV (Memref.isWhole_whole _) iV (Memref.isWhole_whole _) jV (Memref.isWhole_whole _) dV (Memref.isWhole_whole _) oV (Memref.isWhole_whole _) bT (Memref.isWhole_whole _) bA (Memref.isWhole_whole _) bI0 (Memref.isWhole_whole _) bJ0 (Memref.isWhole_whole _) bD0 (Memref.isWhole_whole _) bI1 (Memref.isWhole_whole _) bJ1 (Memref.isWhole_whole _) bD1 (Memref.isWhole_whole _) bW (Memref.isWhole_whole _) cc2_scratch9 cc2_scratch10 cc2_scoped0 cc2_scoped1 (iota .scVector S16 32 [0] iota_S16_d0_w32_scVector) k ⟨⟩)
          (inv4 d L pk ia ja da G (k.val + 1)) := by
  unfold inv4
  iintro ⟨HI, HJ, HD, HT, HA⟩
  unfold k2_t4_body
  have hoff : ∀ x : S16.Idx, (Rect.unit (s := S2000) (k2_off21 k) S16.size (k2_off21_inb k)).emb x = at1 2000 (16 * k.val + (x 0).val) := fun x => by
    refine (at1_eq _ _ ?_).symm
    rw [Rect.emb_apply, show (Rect.unit (s := S2000) (k2_off21 k) S16.size (k2_off21_inb k)).off 0 = 16 * k.val from congrFun (k2_off21_eq k) 0]
    show 16 * k.val + 1 * (x 0).val = _
    omega
  have hvi : ∀ x : S16.Idx, View.readAt (Elt F) (bI1).view (Rect.unit (s := S2000) (k2_off21 k) S16.size (k2_off21_inb k)).toLoadRect ia x = ia (at1 2000 (16 * k.val + (x 0).val)) :=
    fun x => load_at (Val := Elt F) cc2_scratch5 (Rect.unit (s := S2000) (k2_off21 k) S16.size (k2_off21_inb k)) ia x (hoff x)
  have hvj : ∀ x : S16.Idx, View.readAt (Elt F) (bJ1).view (Rect.unit (s := S2000) (k2_off21 k) S16.size (k2_off21_inb k)).toLoadRect ja x = ja (at1 2000 (16 * k.val + (x 0).val)) :=
    fun x => load_at (Val := Elt F) cc2_scratch6 (Rect.unit (s := S2000) (k2_off21 k) S16.size (k2_off21_inb k)) ja x (hoff x)
  have hvd : ∀ x : S16.Idx, View.readAt (Elt F) (bD1).view (Rect.unit (s := S2000) (k2_off21 k) S16.size (k2_off21_inb k)).toLoadRect da x = da (at1 2000 (16 * k.val + (x 0).val)) :=
    fun x => load_at (Val := Elt F) cc2_scratch7 (Rect.unit (s := S2000) (k2_off21 k) S16.size (k2_off21_inb k)) da x (hoff x)
  have h1 : k2_chk4 (View.readAt (Elt F) (bI1).view (Rect.unit (s := S2000) (k2_off21 k) S16.size (k2_off21_inb k)).toLoadRect ia) := fun a x => by
    match a with
    | 0 => exact lt_of_eq_of_lt (congrArg BitVec.toNat (hvi x)) (hi _)
  have h2 : k2_chk5 (View.readAt (Elt F) (bJ1).view (Rect.unit (s := S2000) (k2_off21 k) S16.size (k2_off21_inb k)).toLoadRect ja) := fun a x => by
    match a with
    | 0 => exact lt_of_eq_of_lt (congrArg BitVec.toNat (hvj x)) (hj _)
  have h3 : ∀ v : Vec F S16 .i32, k2_chk6 (iota .scVector S16 32 [0] iota_S16_d0_w32_scVector) (k2_pay5 v) := fun v a x => by
    match a with
    | 0 => exact (by
        have hx := (x 0).isLt
        show (BitVec.ofNat 32 (0 * 16 + (x 0).val)).toNat < 16
        rw [BitVec.toNat_ofNat]
        exact lt_of_le_of_lt (Nat.mod_le _ _) (by have : (x 0).val < 16 := hx; omega))
    | 1 => exact molW_lt (F := F) (v x)
  sl_exec
  iapply (SparseCore.wp_vectorLoadIdx 𝒱₀ (th2 d L) none Set.univ (base := bT) (S := Finset.univ) (q := fullShare) (f := pk) (Finset.subset_univ _)) $$ [HT]
  · iexact HT
  iintro HT
  iapply (SparseCore.wp_vectorLoadIdx 𝒱₀ (th2 d L) none Set.univ (base := bT) (S := Finset.univ) (q := fullShare) (f := pk) (Finset.subset_univ _)) $$ [HT]
  · iexact HT
  iintro HT
  sl_exec (disch := exact h3 _)
  ihave HA := (Entails.of_eq (congrArg (fun S => (((bA).access (.whole S16x1024)).loc (th2 d L) ↦[S]{fullShare} G k.val : sProp 𝕄))
    (Memref.set_access_whole cc2_scratch1).symm)) $$ HA
  iapply (SparseCore.wp_vectorStoreIdx 𝒱₀ (th2 d L) none Set.univ (base := bA)) $$ [HA]
  · iexact HA
  iintro HA
  sl_step
  isplitl [HI]; · iexact HI
  isplitl [HJ]; · iexact HJ
  isplitl [HD]; · iexact HD
  isplitl [HT]; · iexact HT
  iapply (Entails.of_eq ?_) $$ HA
  refine (congrArg (fun S => (((bA).access (.whole S16x1024)).loc (th2 d L) ↦[S]{fullShare} _ : sProp 𝕄)) (Memref.set_access_whole cc2_scratch1)).trans ?_
  refine congrArg (fun g => ((bA).view.loc (th2 d L) ↦{fullShare} g : sProp 𝕄)) ?_
  refine (Memref.write_access_whole_univ (Elt F) cc2_scratch1 (G k.val) _).trans ?_
  rw [Memref.read_access_whole]
  funext j
  refine (scatterRows (G k.val) _ _ _ ?_ j).trans ?_
  · intro x
    have hx : (x 0).val < 16 := (x 0).isLt
    show (BitVec.ofNat 32 (0 * 16 + (x 0).val)).toNat = _
    rw [BitVec.toNat_ofNat, Nat.zero_mul, Nat.zero_add]
    exact Nat.mod_eq_of_lt (by omega)
  · have hx : ((at1 16 (j 0).val) 0).val = (j 0).val := at1_val (by decide) (j 0).isLt
    have ei := (hvi (at1 16 (j 0).val)).trans (congrArg (fun n => ia (at1 2000 (16 * k.val + n))) hx)
    have ej := (hvj (at1 16 (j 0).val)).trans (congrArg (fun n => ja (at1 2000 (16 * k.val + n))) hx)
    have ed := (hvd (at1 16 (j 0).val)).trans (congrArg (fun n => da (at1 2000 (16 * k.val + n))) hx)
    have gi := gatherPk pk _ h1 (at1 16 (j 0).val) ei
    have gj := gatherPk pk _ h2 (at1 16 (j 0).val) ej
    have e := (pairStep_of gi gj ed (j 1).val (G k.val j)).trans (hG j).symm
    rw [k2_pay6_apply]
    have ev : (![iota .scVector S16 32 [0] iota_S16_d0_w32_scVector, trip4.sl.v61 d L pk ia k h1] 1 (at1 16 (j 0).val) : BitVec 32)
        = molW (F := F) (loadIdx (View.read (Elt F) ((bT).access (.whole S100352)) pk)
          ![View.readAt (Elt F) (bI1).view (Rect.unit (s := S2000) (k2_off21 k) S16.size (k2_off21_inb k)).toLoadRect ia] h1 (at1 16 (j 0).val)) := by
      delta trip4.sl.v61
      exact k2_pay5_apply _ _
    rw [ev]
    exact e

end Tile

end Cert.KernelIdeal.Pf

end
-- ==== Proof.IRows.lean ====
/-
  The loops of the pair call that clear its sixteen rows of accumulators and that sum them.
-/
module

public import proofs.«01_k».proof.Proof.IChunk

@[expose] public section

set_option maxRecDepth 16384

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "tV" => (Memref.whole Cert.KernelIdeal.main_v4_scv : Memref Cert.KernelIdeal.sig Kind.scVector Space.hbm Cert.KernelIdeal.S100352 EltTy.i32)
local notation "iV" => (Memref.whole Cert.KernelIdeal.main_arg3_scv : Memref Cert.KernelIdeal.sig Kind.scVector Space.hbm Cert.KernelIdeal.S6400000 EltTy.i32)
local notation "jV" => (Memref.whole Cert.KernelIdeal.main_arg4_scv : Memref Cert.KernelIdeal.sig Kind.scVector Space.hbm Cert.KernelIdeal.S6400000 EltTy.i32)
local notation "dV" => (Memref.whole Cert.KernelIdeal.main_v6_scv : Memref Cert.KernelIdeal.sig Kind.scVector Space.hbm Cert.KernelIdeal.S6400000 EltTy.f32)
local notation "oV" => (Memref.whole Cert.KernelIdeal.main_v7_scv : Memref Cert.KernelIdeal.sig Kind.scVector Space.hbm Cert.KernelIdeal.S32x1024 EltTy.f32)
local notation "bT" => (Memref.whole Cert.KernelIdeal.cc2_scratch0 : Memref Cert.KernelIdeal.sig Kind.scVector Space.vmem Cert.KernelIdeal.S100352 EltTy.i32)
local notation "bA" => (Memref.whole Cert.KernelIdeal.cc2_scratch1 : Memref Cert.KernelIdeal.sig Kind.scVector Space.vmem Cert.KernelIdeal.S16x1024 EltTy.f32)
local notation "bI0" => (Memref.whole Cert.KernelIdeal.cc2_scratch2 : Memref Cert.KernelIdeal.sig Kind.scVector Space.vmem Cert.KernelIdeal.S2000 EltTy.i32)
local notation "bJ0" => (Memref.whole Cert.KernelIdeal.cc2_scratch3 : Memref Cert.KernelIdeal.sig Kind.scVector Space.vmem Cert.KernelIdeal.S2000 EltTy.i32)
local notation "bD0" => (Memref.whole Cert.KernelIdeal.cc2_scratch4 : Memref Cert.KernelIdeal.sig Kind.scVector Space.vmem Cert.KernelIdeal.S2000 EltTy.f32)
local notation "bI1" => (Memref.whole Cert.KernelIdeal.cc2_scratch5 : Memref Cert.KernelIdeal.sig Kind.scVector Space.vmem Cert.KernelIdeal.S2000 EltTy.i32)
local notation "bJ1" => (Memref.whole Cert.KernelIdeal.cc2_scratch6 : Memref Cert.KernelIdeal.sig Kind.scVector Space.vmem Cert.KernelIdeal.S2000 EltTy.i32)
local notation "bD1" => (Memref.whole Cert.KernelIdeal.cc2_scratch7 : Memref Cert.KernelIdeal.sig Kind.scVector Space.vmem Cert.KernelIdeal.S2000 EltTy.f32)
local notation "bW" => (Memref.whole Cert.KernelIdeal.cc2_scratch8 : Memref Cert.KernelIdeal.sig Kind.scVector Space.vmem Cert.KernelIdeal.S1024 EltTy.f32)

section Rows
variable {κ : Kind} {Val : EltTy → Type}

/-- A run of stores of one constant: every element is the constant's or as it was. -/
theorem stores_const (b : Ref sig κ) (f : b.ty.Contents Val) (c : Val b.ty.elt) (i : b.ty.shape.Idx) :
    ∀ l : List (View.Piece Val b.ty.shape b.ty.elt), (∀ p ∈ l, ∀ x, p.2 x = c) →
      ((Memref.whole b).view.writes Val f l i = c ∨ ((Memref.whole b).view.writes Val f l i = f i ∧ ∀ p ∈ l, ∀ x, p.1.emb x ≠ i))
  | [], _ => Or.inr ⟨rfl, fun p hp => absurd hp List.not_mem_nil⟩
  | p :: l, h => by
    by_cases hx : ∃ x, p.1.emb x = i
    · obtain ⟨x, hx⟩ := hx
      exact Or.inl ((store_in b p.1 ((Memref.whole b).view.writes Val f l) p.2 x hx).trans (h p List.mem_cons_self x))
    · have hn : ∀ x, p.1.emb x ≠ i := fun x e => hx ⟨x, e⟩
      have e := store_out b p.1 ((Memref.whole b).view.writes Val f l) p.2 hn
      rcases stores_const b f c i l (fun q hq => h q (List.mem_cons_of_mem _ hq)) with h1 | ⟨h1, h2⟩
      · exact Or.inl (e.trans h1)
      · refine Or.inr ⟨e.trans h1, fun q hq => ?_⟩
        rcases List.mem_cons.mp hq with rfl | hq
        · exact hn
        · exact h2 q hq

theorem stores_const_all (b : Ref sig κ) (f : b.ty.Contents Val) (c : Val b.ty.elt) (i : b.ty.shape.Idx)
    (l : List (View.Piece Val b.ty.shape b.ty.elt)) (hl : ∀ p ∈ l, ∀ x, p.2 x = c) (hf : (∀ p ∈ l, ∀ x, p.1.emb x ≠ i) → f i = c) :
    (Memref.whole b).view.writes Val f l i = c := by
  rcases stores_const b f c i l hl with h1 | ⟨h1, h2⟩
  · exact h1
  · exact h1.trans (hf h2)

variable [FloatOps F]

theorem rowSum_of (v0 v1 v2 v3 v4 v5 v6 v7 v8 v9 v10 v11 v12 v13 v14 v15 : Vec F S1x16 .f32) (a : Vec F S16x1024 .f32) (x : S16.Idx) (c : ℕ)
    (h0 : v0 (at2 1 16 0 (x 0).val) = a (at2 16 1024 0 c))
    (h1 : v1 (at2 1 16 0 (x 0).val) = a (at2 16 1024 1 c))
    (h2 : v2 (at2 1 16 0 (x 0).val) = a (at2 16 1024 2 c))
    (h3 : v3 (at2 1 16 0 (x 0).val) = a (at2 16 1024 3 c))
    (h4 : v4 (at2 1 16 0 (x 0).val) = a (at2 16 1024 4 c))
    (h5 : v5 (at2 1 16 0 (x 0).val) = a (at2 16 1024 5 c))
    (h6 : v6 (at2 1 16 0 (x 0).val) = a (at2 16 1024 6 c))
    (h7 : v7 (at2 1 16 0 (x 0).val) = a (at2 16 1024 7 c))
    (h8 : v8 (at2 1 16 0 (x 0).val) = a (at2 16 1024 8 c))
    (h9 : v9 (at2 1 16 0 (x 0).val) = a (at2 16 1024 9 c))
    (h10 : v10 (at2 1 16 0 (x 0).val) = a (at2 16 1024 10 c))
    (h11 : v11 (at2 1 16 0 (x 0).val) = a (at2 16 1024 11 c))
    (h12 : v12 (at2 1 16 0 (x 0).val) = a (at2 16 1024 12 c))
    (h13 : v13 (at2 1 16 0 (x 0).val) = a (at2 16 1024 13 c))
    (h14 : v14 (at2 1 16 0 (x 0).val) = a (at2 16 1024 14 c))
    (h15 : v15 (at2 1 16 0 (x 0).val) = a (at2 16 1024 15 c)) :
    k2_pay7 (k2_pay3 v0 v1 v2 v3 v4 v5 v6 v7 v8) v9 v10 v11 v12 v13 v14 v15 x = rowSum a c := by
  show (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (shapeCast S16 v0 shapeCasts_S1x16_S16 x) (shapeCast S16 v1 shapeCasts_S1x16_S16 x)) (shapeCast S16 v2 shapeCasts_S1x16_S16 x)) (shapeCast S16 v3 shapeCasts_S1x16_S16 x)) (shapeCast S16 v4 shapeCasts_S1x16_S16 x)) (shapeCast S16 v5 shapeCasts_S1x16_S16 x)) (shapeCast S16 v6 shapeCasts_S1x16_S16 x)) (shapeCast S16 v7 shapeCasts_S1x16_S16 x)) (shapeCast S16 v8 shapeCasts_S1x16_S16 x)) (shapeCast S16 v9 shapeCasts_S1x16_S16 x)) (shapeCast S16 v10 shapeCasts_S1x16_S16 x)) (shapeCast S16 v11 shapeCasts_S1x16_S16 x)) (shapeCast S16 v12 shapeCasts_S1x16_S16 x)) (shapeCast S16 v13 shapeCasts_S1x16_S16 x)) (shapeCast S16 v14 shapeCasts_S1x16_S16 x)) (shapeCast S16 v15 shapeCasts_S1x16_S16 x)) = _
  rw [cast_row v0 x, h0, cast_row v1 x, h1, cast_row v2 x, h2, cast_row v3 x, h3, cast_row v4 x, h4, cast_row v5 x, h5, cast_row v6 x, h6, cast_row v7 x, h7, cast_row v8 x, h8, cast_row v9 x, h9, cast_row v10 x, h10, cast_row v11 x, h11, cast_row v12 x, h12, cast_row v13 x, h13, cast_row v14 x, h14, cast_row v15 x, h15]
  rfl

theorem row_emb {n m r k : ℕ} {off : Fin 2 → ℕ} (inb : ∀ a, off a + S1x16.size a ≤ (⟨2, ![n, m]⟩ : Shape).size a) (ho : off = ![r, 16 * k]) (x : S1x16.Idx)
    (j : (⟨2, ![n, m]⟩ : Shape).Idx) (h0 : (j 0).val = r) (h1 : (j 1).val = 16 * k + (x 1).val) :
    (Rect.unit (s := ⟨2, ![n, m]⟩) off S1x16.size inb).emb x = j := by
  subst ho
  have hx : (x 0).val = 0 := by have : (x 0).val < 1 := (x 0).isLt; omega
  refine idx2_ext ?_ ?_
  · rw [Rect.emb_apply]; show r + 1 * (x 0).val = _; omega
  · rw [Rect.emb_apply]; show 16 * k + 1 * (x 1).val = _; omega

end Rows

section Tile
variable (d : Dev nD) (L : grid2.Coords)
variable [FloatOps F]

/-- The clearing loop's invariant: the columns of the trips done hold zero. -/
def inv1 (t : Nat) (_ : PUnit) : sProp 𝕄 :=
  iprop(∃ g : S16x1024.Idx → Elt F .f32, ⌜∀ j, (j 1).val < 16 * t → g j = zeroW⌝ ∗ ((bA).view.loc (th2 d L) ↦{fullShare} g))

theorem trip1 (k : Fin k2_t1_loop.trips) :
    inv1 (F := F) d L k.val ⟨⟩
      ⊢ wp frame (wpE (defs₀ (F := F)) 𝒱₀ (th2 d L) none) Set.univ
          (k2_t1_body L tV (Memref.isWhole_whole _) iV (Memref.isWhole_whole _) jV (Memref.isWhole_whole _) dV (Memref.isWhole_whole _) oV (Memref.isWhole_whole _) bT (Memref.isWhole_whole _) bA (Memref.isWhole_whole _) bI0 (Memref.isWhole_whole _) bJ0 (Memref.isWhole_whole _) bD0 (Memref.isWhole_whole _) bI1 (Memref.isWhole_whole _) bJ1 (Memref.isWhole_whole _) bD1 (Memref.isWhole_whole _) bW (Memref.isWhole_whole _) cc2_scratch9 cc2_scratch10 cc2_scoped0 cc2_scoped1 k ⟨⟩)
          (inv1 d L (k.val + 1)) := by
  unfold k2_t1_body
  simp only [k2_part1_eq_skeleton]
  unfold k2_part1_skel inv1
  iintro ⟨%g, %hg, HA⟩
  sl_exec
  sl_step
  iexists _; isplitr
  swap; · iexact HA
  ipureintro
  intro j hj
  refine stores_const_all (Val := Elt F) cc2_scratch1 g zeroW j _ ?_ fun hno => ?_
  swap
  · by_cases hlt : (j 1).val < 16 * k.val
    · exact hg j hlt
    · exfalso
      have hx1 : (j 1).val = 16 * k.val + ((at2 1 16 0 ((j 1).val - 16 * k.val)) 1).val := by
        rw [at2_val1 (by decide) (by decide) (by omega)]; omega
      have h16 : (j 0).val < 16 := (j 0).isLt
      rcases (show (j 0).val = 0 ∨ (j 0).val = 1 ∨ (j 0).val = 2 ∨ (j 0).val = 3 ∨ (j 0).val = 4 ∨ (j 0).val = 5 ∨ (j 0).val = 6 ∨ (j 0).val = 7 ∨ (j 0).val = 8 ∨ (j 0).val = 9 ∨ (j 0).val = 10 ∨ (j 0).val = 11 ∨ (j 0).val = 12 ∨ (j 0).val = 13 ∨ (j 0).val = 14 ∨ (j 0).val = 15 by omega) with h | h | h | h | h | h | h | h | h | h | h | h | h | h | h | h
      · exact hno _ (.tail _ <| .tail _ <| .tail _ <| .tail _ <| .tail _ <| .tail _ <| .tail _ <| .tail _ <| .tail _ <| .tail _ <| .tail _ <| .tail _ <| .tail _ <| .tail _ <| .tail _ <| .head _) (at2 1 16 0 ((j 1).val - 16 * k.val)) (row_emb (k2_off1_inb k) (k2_off1_eq k) _ j h hx1)
      · exact hno _ (.tail _ <| .tail _ <| .tail _ <| .tail _ <| .tail _ <| .tail _ <| .tail _ <| .tail _ <| .tail _ <| .tail _ <| .tail _ <| .tail _ <| .tail _ <| .tail _ <| .head _) (at2 1 16 0 ((j 1).val - 16 * k.val)) (row_emb (k2_off2_inb k) (k2_off2_eq k) _ j h hx1)
      · exact hno _ (.tail _ <| .tail _ <| .tail _ <| .tail _ <| .tail _ <| .tail _ <| .tail _ <| .tail _ <| .tail _ <| .tail _ <| .tail _ <| .tail _ <| .tail _ <| .head _) (at2 1 16 0 ((j 1).val - 16 * k.val)) (row_emb (k2_off3_inb k) (k2_off3_eq k) _ j h hx1)
      · exact hno _ (.tail _ <| .tail _ <| .tail _ <| .tail _ <| .tail _ <| .tail _ <| .tail _ <| .tail _ <| .tail _ <| .tail _ <| .tail _ <| .tail _ <| .head _) (at2 1 16 0 ((j 1).val - 16 * k.val)) (row_emb (k2_off4_inb k) (k2_off4_eq k) _ j h hx1)
      · exact hno _ (.tail _ <| .tail _ <| .tail _ <| .tail _ <| .tail _ <| .tail _ <| .tail _ <| .tail _ <| .tail _ <| .tail _ <| .tail _ <| .head _) (at2 1 16 0 ((j 1).val - 16 * k.val)) (row_emb (k2_off5_inb k) (k2_off5_eq k) _ j h hx1)
      · exact hno _ (.tail _ <| .tail _ <| .tail _ <| .tail _ <| .tail _ <| .tail _ <| .tail _ <| .tail _ <| .tail _ <| .tail _ <| .head _) (at2 1 16 0 ((j 1).val - 16 * k.val)) (row_emb (k2_off6_inb k) (k2_off6_eq k) _ j h hx1)
      · exact hno _ (.tail _ <| .tail _ <| .tail _ <| .tail _ <| .tail _ <| .tail _ <| .tail _ <| .tail _ <| .tail _ <| .head _) (at2 1 16 0 ((j 1).val - 16 * k.val)) (row_emb (k2_off7_inb k) (k2_off7_eq k) _ j h hx1)
      · exact hno _ (.tail _ <| .tail _ <| .tail _ <| .tail _ <| .tail _ <| .tail _ <| .tail _ <| .tail _ <| .head _) (at2 1 16 0 ((j 1).val - 16 * k.val)) (row_emb (k2_off8_inb k) (k2_off8_eq k) _ j h hx1)
      · exact hno _ (.tail _ <| .tail _ <| .tail _ <| .tail _ <| .tail _ <| .tail _ <| .tail _ <| .head _) (at2 1 16 0 ((j 1).val - 16 * k.val)) (row_emb (k2_off9_inb k) (k2_off9_eq k) _ j h hx1)
      · exact hno _ (.tail _ <| .tail _ <| .tail _ <| .tail _ <| .tail _ <| .tail _ <| .head _) (at2 1 16 0 ((j 1).val - 16 * k.val)) (row_emb (k2_off10_inb k) (k2_off10_eq k) _ j h hx1)
      · exact hno _ (.tail _ <| .tail _ <| .tail _ <| .tail _ <| .tail _ <| .head _) (at2 1 16 0 ((j 1).val - 16 * k.val)) (row_emb (k2_off11_inb k) (k2_off11_eq k) _ j h hx1)
      · exact hno _ (.tail _ <| .tail _ <| .tail _ <| .tail _ <| .head _) (at2 1 16 0 ((j 1).val - 16 * k.val)) (row_emb (k2_off12_inb k) (k2_off12_eq k) _ j h hx1)
      · exact hno _ (.tail _ <| .tail _ <| .tail _ <| .head _) (at2 1 16 0 ((j 1).val - 16 * k.val)) (row_emb (k2_off13_inb k) (k2_off13_eq k) _ j h hx1)
      · exact hno _ (.tail _ <| .tail _ <| .head _) (at2 1 16 0 ((j 1).val - 16 * k.val)) (row_emb (k2_off14_inb k) (k2_off14_eq k) _ j h hx1)
      · exact hno _ (.tail _ <| .head _) (at2 1 16 0 ((j 1).val - 16 * k.val)) (row_emb (k2_off15_inb k) (k2_off15_eq k) _ j h hx1)
      · exact hno _ (.head _) (at2 1 16 0 ((j 1).val - 16 * k.val)) (row_emb (k2_off16_inb k) (k2_off16_eq k) _ j h hx1)
  · intro p hp
    simp only [List.mem_cons, List.not_mem_nil, _root_.or_false] at hp
    rcases hp with rfl | rfl | rfl | rfl | rfl | rfl | rfl | rfl | rfl | rfl | rfl | rfl | rfl | rfl | rfl | rfl <;> exact fun _ => rfl

/-- The summing loop's invariant: the sums of the columns of the trips done. -/
def inv5 (a : S16x1024.Idx → Elt F .f32) (t : Nat) (_ : PUnit) : sProp 𝕄 :=
  iprop(((bA).view.loc (th2 d L) ↦{fullShare} a)
    ∗ ∃ g : S1024.Idx → Elt F .f32, ⌜∀ n, (n 0).val < 16 * t → g n = rowSum a (n 0).val⌝ ∗ ((bW).view.loc (th2 d L) ↦{fullShare} g))

theorem trip5 (a : S16x1024.Idx → Elt F .f32) (k : Fin k2_t5_loop.trips) :
    inv5 d L a k.val ⟨⟩
      ⊢ wp frame (wpE (defs₀ (F := F)) 𝒱₀ (th2 d L) none) Set.univ
          (k2_t5_body L tV (Memref.isWhole_whole _) iV (Memref.isWhole_whole _) jV (Memref.isWhole_whole _) dV (Memref.isWhole_whole _) oV (Memref.isWhole_whole _) bT (Memref.isWhole_whole _) bA (Memref.isWhole_whole _) bI0 (Memref.isWhole_whole _) bJ0 (Memref.isWhole_whole _) bD0 (Memref.isWhole_whole _) bI1 (Memref.isWhole_whole _) bJ1 (Memref.isWhole_whole _) bD1 (Memref.isWhole_whole _) bW (Memref.isWhole_whole _) cc2_scratch9 cc2_scratch10 cc2_scoped0 cc2_scoped1 k ⟨⟩)
          (inv5 d L a (k.val + 1)) := by
  have hrow : ∀ (r : ℕ) (hr : r < 16) {off : Fin 2 → ℕ} (inb : ∀ a, off a + S1x16.size a ≤ S16x1024.size a) (ho : off = ![r, 16 * k.val]) (x : S16.Idx) (c : ℕ)
      (hc : c = 16 * k.val + (x 0).val) (hc' : c < 1024),
      View.readAt (Elt F) (bA).view (Rect.unit (s := S16x1024) off S1x16.size inb).toLoadRect a (at2 1 16 0 (x 0).val) = a (at2 16 1024 r c) := by
    intro r hr off inb ho x c hc hc'
    refine load_at (Val := Elt F) cc2_scratch1 (Rect.unit (s := S16x1024) off S1x16.size inb) a _ (row_emb inb ho _ _ ?_ ?_)
    · exact at2_val0 (by decide) (by decide) hr
    · exact (at2_val1 (by decide) (by decide) hc').trans (hc.trans (congrArg (16 * k.val + ·) (at2_val1 (by decide) (by decide) (x 0).isLt).symm))
  unfold k2_t5_body
  simp only [k2_part3_eq_skeleton]
  unfold k2_part3_skel inv5
  iintro ⟨HA, %g, %hg, HW⟩
  sl_exec
  sl_step
  isplitl [HA]; · iexact HA
  iexists _; isplitr
  swap; · iexact HW
  ipureintro
  intro n hn
  have hoff : ∀ x : S16.Idx, ((Rect.unit (s := S1024) (k2_off38 k) S16.size (k2_off38_inb k)).emb x 0).val = 16 * k.val + (x 0).val := fun x => by
    rw [Rect.emb_apply, show (Rect.unit (s := S1024) (k2_off38 k) S16.size (k2_off38_inb k)).off 0 = 16 * k.val from congrFun (k2_off38_eq k) 0]
    show 16 * k.val + 1 * (x 0).val = _
    omega
  by_cases hin : 16 * k.val ≤ (n 0).val
  · have hx : ((at1 16 ((n 0).val - 16 * k.val)) 0).val = (n 0).val - 16 * k.val := at1_val (by decide) (by omega)
    have hc : (n 0).val = 16 * k.val + ((at1 16 ((n 0).val - 16 * k.val)) 0).val := by rw [hx]; omega
    have e : (Rect.unit (s := S1024) (k2_off38 k) S16.size (k2_off38_inb k)).emb (at1 16 ((n 0).val - 16 * k.val)) = n :=
      idx1_ext (by rw [hoff]; exact hc.symm)
    have hc' : (n 0).val < 1024 := (n 0).isLt
    refine (store_in cc2_scratch8 (Rect.unit (s := S1024) (k2_off38 k) S16.size (k2_off38_inb k)) g _ (at1 16 ((n 0).val - 16 * k.val)) e).trans ?_
    exact rowSum_of _ _ _ _ _ _ _ _ _ _ _ _ _ _ _ _ a _ (n 0).val
      (hrow 0 (by decide) (k2_off22_inb k) (k2_off22_eq k) _ _ hc hc')
      (hrow 1 (by decide) (k2_off23_inb k) (k2_off23_eq k) _ _ hc hc')
      (hrow 2 (by decide) (k2_off24_inb k) (k2_off24_eq k) _ _ hc hc')
      (hrow 3 (by decide) (k2_off25_inb k) (k2_off25_eq k) _ _ hc hc')
      (hrow 4 (by decide) (k2_off26_inb k) (k2_off26_eq k) _ _ hc hc')
      (hrow 5 (by decide) (k2_off27_inb k) (k2_off27_eq k) _ _ hc hc')
      (hrow 6 (by decide) (k2_off28_inb k) (k2_off28_eq k) _ _ hc hc')
      (hrow 7 (by decide) (k2_off29_inb k) (k2_off29_eq k) _ _ hc hc')
      (hrow 8 (by decide) (k2_off30_inb k) (k2_off30_eq k) _ _ hc hc')
      (hrow 9 (by decide) (k2_off31_inb k) (k2_off31_eq k) _ _ hc hc')
      (hrow 10 (by decide) (k2_off32_inb k) (k2_off32_eq k) _ _ hc hc')
      (hrow 11 (by decide) (k2_off33_inb k) (k2_off33_eq k) _ _ hc hc')
      (hrow 12 (by decide) (k2_off34_inb k) (k2_off34_eq k) _ _ hc hc')
      (hrow 13 (by decide) (k2_off35_inb k) (k2_off35_eq k) _ _ hc hc')
      (hrow 14 (by decide) (k2_off36_inb k) (k2_off36_eq k) _ _ hc hc')
      (hrow 15 (by decide) (k2_off37_inb k) (k2_off37_eq k) _ _ hc hc')
  · refine (store_out cc2_scratch8 (Rect.unit (s := S1024) (k2_off38 k) S16.size (k2_off38_inb k)) g _ fun x e => hin ?_).trans (hg n (by omega))
    rw [← e, hoff]; omega

end Tile

end Cert.KernelIdeal.Pf

end
-- ==== Proof.ICopy.lean ====
/-
  The copies of a chunk of the pairs into a task's buffers: three on one semaphore, all waited before any is read.
-/
module

public import proofs.«01_k».proof.Proof.IRows

@[expose] public section

set_option maxRecDepth 16384

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "tV" => (Memref.whole Cert.KernelIdeal.main_v4_scv : Memref Cert.KernelIdeal.sig Kind.scVector Space.hbm Cert.KernelIdeal.S100352 EltTy.i32)
local notation "iV" => (Memref.whole Cert.KernelIdeal.main_arg3_scv : Memref Cert.KernelIdeal.sig Kind.scVector Space.hbm Cert.KernelIdeal.S6400000 EltTy.i32)
local notation "jV" => (Memref.whole Cert.KernelIdeal.main_arg4_scv : Memref Cert.KernelIdeal.sig Kind.scVector Space.hbm Cert.KernelIdeal.S6400000 EltTy.i32)
local notation "dV" => (Memref.whole Cert.KernelIdeal.main_v6_scv : Memref Cert.KernelIdeal.sig Kind.scVector Space.hbm Cert.KernelIdeal.S6400000 EltTy.f32)
local notation "oV" => (Memref.whole Cert.KernelIdeal.main_v7_scv : Memref Cert.KernelIdeal.sig Kind.scVector Space.hbm Cert.KernelIdeal.S32x1024 EltTy.f32)
local notation "bT" => (Memref.whole Cert.KernelIdeal.cc2_scratch0 : Memref Cert.KernelIdeal.sig Kind.scVector Space.vmem Cert.KernelIdeal.S100352 EltTy.i32)
local notation "bA" => (Memref.whole Cert.KernelIdeal.cc2_scratch1 : Memref Cert.KernelIdeal.sig Kind.scVector Space.vmem Cert.KernelIdeal.S16x1024 EltTy.f32)
local notation "bI0" => (Memref.whole Cert.KernelIdeal.cc2_scratch2 : Memref Cert.KernelIdeal.sig Kind.scVector Space.vmem Cert.KernelIdeal.S2000 EltTy.i32)
local notation "bJ0" => (Memref.whole Cert.KernelIdeal.cc2_scratch3 : Memref Cert.KernelIdeal.sig Kind.scVector Space.vmem Cert.KernelIdeal.S2000 EltTy.i32)
local notation "bD0" => (Memref.whole Cert.KernelIdeal.cc2_scratch4 : Memref Cert.KernelIdeal.sig Kind.scVector Space.vmem Cert.KernelIdeal.S2000 EltTy.f32)
local notation "bI1" => (Memref.whole Cert.KernelIdeal.cc2_scratch5 : Memref Cert.KernelIdeal.sig Kind.scVector Space.vmem Cert.KernelIdeal.S2000 EltTy.i32)
local notation "bJ1" => (Memref.whole Cert.KernelIdeal.cc2_scratch6 : Memref Cert.KernelIdeal.sig Kind.scVector Space.vmem Cert.KernelIdeal.S2000 EltTy.i32)
local notation "bD1" => (Memref.whole Cert.KernelIdeal.cc2_scratch7 : Memref Cert.KernelIdeal.sig Kind.scVector Space.vmem Cert.KernelIdeal.S2000 EltTy.f32)
local notation "bW" => (Memref.whole Cert.KernelIdeal.cc2_scratch8 : Memref Cert.KernelIdeal.sig Kind.scVector Space.vmem Cert.KernelIdeal.S1024 EltTy.f32)

/-! ## A task's chunk as a set of elements, and what a copy of it lands -/

/-- The elements of chunk `c` of the pairs of task `w`. -/
def cset (w c : ℕ) : Finset S6400000.Idx :=
  Finset.univ.filter fun k => 200000 * w + 2000 * c ≤ (k 0).val ∧ (k 0).val < 200000 * w + 2000 * c + 2000

theorem chunk_emb {off : Fin 1 → ℕ} {w c : ℕ} (inb : ∀ a, off a + S2000.size a ≤ S6400000.size a) (ho : off = ![200000 * w + 2000 * c]) (x : S2000.Idx) :
    (Rect.unit (s := S6400000) off S2000.size inb).emb x = at1 6400000 (200000 * w + 2000 * c + (x 0).val) := by
  subst ho
  refine (at1_eq _ _ ?_).symm
  rw [Rect.emb_apply]
  show 200000 * w + 2000 * c + 1 * (x 0).val = _
  omega

theorem chunk_set {off : Fin 1 → ℕ} {w c : ℕ} (inb : ∀ a, off a + S2000.size a ≤ S6400000.size a) (ho : off = ![200000 * w + 2000 * c]) :
    Finset.univ.map ⟨(Rect.unit (s := S6400000) off S2000.size inb).emb, (Rect.unit (s := S6400000) off S2000.size inb).emb.injective⟩ = cset w c := by
  have hb : 200000 * w + 2000 * c + 2000 ≤ 6400000 := by
    have := inb 0; rw [ho] at this; exact this
  ext k
  simp only [Finset.mem_map, Finset.mem_univ, true_and, cset, Finset.mem_filter]
  constructor
  · rintro ⟨x, rfl⟩
    have hx : (x 0).val < 2000 := (x 0).isLt
    show _ ≤ (((Rect.unit (s := S6400000) off S2000.size inb).emb x) 0).val ∧ (((Rect.unit (s := S6400000) off S2000.size inb).emb x) 0).val < _
    rw [chunk_emb inb ho, at1_val (by decide) (by omega)]
    omega
  · rintro ⟨h1, h2⟩
    refine ⟨at1 2000 ((k 0).val - (200000 * w + 2000 * c)), ?_⟩
    show (Rect.unit (s := S6400000) off S2000.size inb).emb _ = k
    rw [chunk_emb inb ho, at1_val (by decide) (by omega)]
    exact at1_eq _ _ (by omega)

section Sets
variable {off : Fin 1 → ℕ} {w c : ℕ}

theorem set_i (inb : ∀ a, off a + S2000.size a ≤ S6400000.size a) (ho : off = ![200000 * w + 2000 * c]) :
    ((iV).slice (Rect.unit (s := S6400000) off S2000.size inb) (fun _ => rfl)).view.set = cset w c := chunk_set inb ho

theorem read_i (inb : ∀ a, off a + S2000.size a ≤ S6400000.size a) (ho : off = ![200000 * w + 2000 * c]) (g : S6400000.Idx → Elt F .i32) :
    ((iV).slice (Rect.unit (s := S6400000) off S2000.size inb) (fun _ => rfl)).view.read (Elt F) g = chunk g w c := by
  funext x
  show g ((Rect.unit (s := S6400000) off S2000.size inb).emb x) = _
  rw [chunk_emb inb ho]; rfl

theorem set_j (inb : ∀ a, off a + S2000.size a ≤ S6400000.size a) (ho : off = ![200000 * w + 2000 * c]) :
    ((jV).slice (Rect.unit (s := S6400000) off S2000.size inb) (fun _ => rfl)).view.set = cset w c := chunk_set inb ho

theorem read_j (inb : ∀ a, off a + S2000.size a ≤ S6400000.size a) (ho : off = ![200000 * w + 2000 * c]) (g : S6400000.Idx → Elt F .i32) :
    ((jV).slice (Rect.unit (s := S6400000) off S2000.size inb) (fun _ => rfl)).view.read (Elt F) g = chunk g w c := by
  funext x
  show g ((Rect.unit (s := S6400000) off S2000.size inb).emb x) = _
  rw [chunk_emb inb ho]; rfl

theorem set_d (inb : ∀ a, off a + S2000.size a ≤ S6400000.size a) (ho : off = ![200000 * w + 2000 * c]) :
    ((dV).slice (Rect.unit (s := S6400000) off S2000.size inb) (fun _ => rfl)).view.set = cset w c := chunk_set inb ho

theorem read_d (inb : ∀ a, off a + S2000.size a ≤ S6400000.size a) (ho : off = ![200000 * w + 2000 * c]) (g : S6400000.Idx → Elt F .f32) :
    ((dV).slice (Rect.unit (s := S6400000) off S2000.size inb) (fun _ => rfl)).view.read (Elt F) g = chunk g w c := by
  funext x
  show g ((Rect.unit (s := S6400000) off S2000.size inb).emb x) = _
  rw [chunk_emb inb ho]; rfl
end Sets

section Tile
variable (d : Dev nD) (L : grid2.Coords)

/-- What one copy of 2000 words credits its semaphore with. -/
abbrev NB : ℕ := (bI0).view.amount (SemLoc.dma (sig := sig) cc2_scratch9.sem)

theorem NB_pos : 0 < NB := View.amount_pos _ _ (show 0 < S2000.numel by decide)

abbrev EC : UEmb Counters 𝕄 := countersEmb (U := UU)

/-- What the three copies of a chunk hand back: the chunk in the buffers, the elements read. -/
def D0 (q : PosShare TreeShare) (ii jj : S6400000.Idx → Elt F .i32) (dd : S6400000.Idx → Elt F .f32) (c : ℕ) : Fin 3 → sProp 𝕄
  | 0 => iprop(((bI0).view.loc (th2 d L) ↦{fullShare} chunk ii (wid2 L) c) ∗ ((iV).view.loc (th2 d L) ↦[cset (wid2 L) c]{q} ii))
  | 1 => iprop(((bJ0).view.loc (th2 d L) ↦{fullShare} chunk jj (wid2 L) c) ∗ ((jV).view.loc (th2 d L) ↦[cset (wid2 L) c]{q} jj))
  | 2 => iprop(((bD0).view.loc (th2 d L) ↦{fullShare} chunk dd (wid2 L) c) ∗ ((dV).view.loc (th2 d L) ↦[cset (wid2 L) c]{q} dd))

instance D0_storable (q : PosShare TreeShare) (ii jj : S6400000.Idx → Elt F .i32) (dd : S6400000.Idx → Elt F .f32) (c : ℕ) (t : Fin 3) :
    BI.Storable (upEmb : UEmb _ 𝕄) (D0 d L q ii jj dd c t) := by
  match t with
  | 0 => unfold D0; infer_instance
  | 1 => unfold D0; infer_instance
  | 2 => unfold D0; infer_instance

/-- A chunk's three copies in flight: the batch, and what of the arrays read is not lent to it. -/
def fly0 (q : PosShare TreeShare) (ii jj : S6400000.Idx → Elt F .i32) (dd : S6400000.Idx → Elt F .f32) (c : ℕ) : sProp 𝕄 :=
  iprop(Transfers.Batch (n := 3) EC (th2 d L) (.dma cc2_scratch9.sem) (default : HIx 2) NB (D0 d L q ii jj dd c) 3 0
    ∗ ((iV).view.loc (th2 d L) ↦[Finset.univ \ cset (wid2 L) c]{q} ii) ∗ ((jV).view.loc (th2 d L) ↦[Finset.univ \ cset (wid2 L) c]{q} jj) ∗ ((dV).view.loc (th2 d L) ↦[Finset.univ \ cset (wid2 L) c]{q} dd))

/-- No copy in flight: the buffers at some contents, the semaphore at zero, the arrays whole. -/
def rest0 (q : PosShare TreeShare) (ii jj : S6400000.Idx → Elt F .i32) (dd : S6400000.Idx → Elt F .f32) : sProp 𝕄 :=
  iprop(((iV).view.loc (th2 d L) ↦{q} ii) ∗ ((jV).view.loc (th2 d L) ↦{q} jj) ∗ ((dV).view.loc (th2 d L) ↦{q} dd)
    ∗ (∃ g, (bI0).view.loc (th2 d L) ↦{fullShare} g) ∗ (∃ g, (bJ0).view.loc (th2 d L) ↦{fullShare} g) ∗ (∃ g, (bD0).view.loc (th2 d L) ↦{fullShare} g)
    ∗ semVal (th2 d L, .dma cc2_scratch9.sem) 0)

variable [FloatOps F]

theorem deliver0_i (q : PosShare TreeShare) (a : S6400000.Idx → Elt F .i32) {c : ℕ}
    {off : Fin 1 → ℕ} (inb : ∀ a, off a + S2000.size a ≤ S6400000.size a) (ho : off = ![200000 * wid2 L + 2000 * c]) (g : S2000.Idx → Elt F .i32) :
    iprop(((bI0).view.loc (th2 d L) ↦{fullShare} ((bI0).view.write (Elt F) g (ReadAs.same.apply (((iV).slice (Rect.unit (s := S6400000) off S2000.size inb) (fun _ => rfl)).view.read (Elt F) a)) Finset.univ))
        ∗ (((iV).slice (Rect.unit (s := S6400000) off S2000.size inb) (fun _ => rfl)).view.loc (th2 d L) ↦[((iV).slice (Rect.unit (s := S6400000) off S2000.size inb) (fun _ => rfl)).view.set]{q} a))
      ⊢ (iprop(((bI0).view.loc (th2 d L) ↦{fullShare} chunk a (wid2 L) c) ∗ ((iV).view.loc (th2 d L) ↦[cset (wid2 L) c]{q} a)) : sProp 𝕄) :=
  sep_mono (Entails.of_eq (congrArg (fun z => ((bI0).view.loc (th2 d L) ↦{fullShare} z : sProp 𝕄)) ((View.write_whole_univ cc2_scratch2 g _).trans (read_i inb ho a))))
    (Entails.of_eq (by rw [set_i inb ho]))

theorem deliver0_j (q : PosShare TreeShare) (a : S6400000.Idx → Elt F .i32) {c : ℕ}
    {off : Fin 1 → ℕ} (inb : ∀ a, off a + S2000.size a ≤ S6400000.size a) (ho : off = ![200000 * wid2 L + 2000 * c]) (g : S2000.Idx → Elt F .i32) :
    iprop(((bJ0).view.loc (th2 d L) ↦{fullShare} ((bJ0).view.write (Elt F) g (ReadAs.same.apply (((jV).slice (Rect.unit (s := S6400000) off S2000.size inb) (fun _ => rfl)).view.read (Elt F) a)) Finset.univ))
        ∗ (((jV).slice (Rect.unit (s := S6400000) off S2000.size inb) (fun _ => rfl)).view.loc (th2 d L) ↦[((jV).slice (Rect.unit (s := S6400000) off S2000.size inb) (fun _ => rfl)).view.set]{q} a))
      ⊢ (iprop(((bJ0).view.loc (th2 d L) ↦{fullShare} chunk a (wid2 L) c) ∗ ((jV).view.loc (th2 d L) ↦[cset (wid2 L) c]{q} a)) : sProp 𝕄) :=
  sep_mono (Entails.of_eq (congrArg (fun z => ((bJ0).view.loc (th2 d L) ↦{fullShare} z : sProp 𝕄)) ((View.write_whole_univ cc2_scratch3 g _).trans (read_j inb ho a))))
    (Entails.of_eq (by rw [set_j inb ho]))

theorem deliver0_d (q : PosShare TreeShare) (a : S6400000.Idx → Elt F .f32) {c : ℕ}
    {off : Fin 1 → ℕ} (inb : ∀ a, off a + S2000.size a ≤ S6400000.size a) (ho : off = ![200000 * wid2 L + 2000 * c]) (g : S2000.Idx → Elt F .f32) :
    iprop(((bD0).view.loc (th2 d L) ↦{fullShare} ((bD0).view.write (Elt F) g (ReadAs.same.apply (((dV).slice (Rect.unit (s := S6400000) off S2000.size inb) (fun _ => rfl)).view.read (Elt F) a)) Finset.univ))
        ∗ (((dV).slice (Rect.unit (s := S6400000) off S2000.size inb) (fun _ => rfl)).view.loc (th2 d L) ↦[((dV).slice (Rect.unit (s := S6400000) off S2000.size inb) (fun _ => rfl)).view.set]{q} a))
      ⊢ (iprop(((bD0).view.loc (th2 d L) ↦{fullShare} chunk a (wid2 L) c) ∗ ((dV).view.loc (th2 d L) ↦[cset (wid2 L) c]{q} a)) : sProp 𝕄) :=
  sep_mono (Entails.of_eq (congrArg (fun z => ((bD0).view.loc (th2 d L) ↦{fullShare} z : sProp 𝕄)) ((View.write_whole_univ cc2_scratch4 g _).trans (read_d inb ho a))))
    (Entails.of_eq (by rw [set_d inb ho]))

set_option cleanup.letToHave false in
theorem issue0 (q : PosShare TreeShare) (ii jj : S6400000.Idx → Elt F .i32) (dd : S6400000.Idx → Elt F .f32) (c : ℕ)
    {off : Fin 1 → ℕ} (inb : ∀ a, off a + S2000.size a ≤ S6400000.size a) (ho : off = ![200000 * wid2 L + 2000 * c])
    {α : Type} (k : PUnit → Prog (TpuEff nD τ sig (Elt F) Λ₀ (th2 d L).2) α) (Q : α → sProp 𝕄) :
    rest0 d L q ii jj dd
      ⊢ iprop((fly0 d L q ii jj dd c -∗ wp frame (wpE (defs₀ (F := F)) 𝒱₀ (th2 d L) none) Set.univ (k ⟨⟩) Q)
          -∗ wp frame (wpE (defs₀ (F := F)) 𝒱₀ (th2 d L) none) Set.univ
              (.op (.enqueueDma ((iV).slice (Rect.unit (s := S6400000) off S2000.size inb) (fun _ => rfl)) (.here bI0) (.dma cc2_scratch9.sem) (View.wordExact_bits rfl) (Memref.isWhole_whole _).wordExact ⟨Or.inl rfl, trivial⟩) fun _ =>
               .op (.enqueueDma ((jV).slice (Rect.unit (s := S6400000) off S2000.size inb) (fun _ => rfl)) (.here bJ0) (.dma cc2_scratch9.sem) (View.wordExact_bits rfl) (Memref.isWhole_whole _).wordExact ⟨Or.inl rfl, trivial⟩) fun _ =>
               .op (.enqueueDma ((dV).slice (Rect.unit (s := S6400000) off S2000.size inb) (fun _ => rfl)) (.here bD0) (.dma cc2_scratch9.sem) (View.wordExact_bits rfl) (Memref.isWhole_whole _).wordExact ⟨Or.inl rfl, trivial⟩) k) Q) := by
  unfold rest0
  iintro ⟨HI, HJ, HD, ⟨%gi, BI⟩, ⟨%gj, BJ⟩, ⟨%gd, BD⟩, HS⟩ Hk
  imod (Transfers.batch_alloc' (Lvl := ℕ) EC (th2 d L) (default : HIx 2) NB (D0 d L q ii jj dd c) (sm := .dma cc2_scratch9.sem) (E := Set.univ)) $$ HS with HB
  ihave HI := (pointsTo_split_subset (ℓ := (iV).view.loc (th2 d L)) (q := q) (f := ii) (Finset.subset_univ (cset (wid2 L) c))).1 $$ HI
  icases HI with ⟨HIa, HIb⟩
  ihave HIa := (show ((iV).view.loc (th2 d L) ↦[cset (wid2 L) c]{q} ii : sProp 𝕄) ⊢ (((iV).slice (Rect.unit (s := S6400000) off S2000.size inb) (fun _ => rfl)).view.loc (th2 d L) ↦[((iV).slice (Rect.unit (s := S6400000) off S2000.size inb) (fun _ => rfl)).view.set]{q} ii) from
    Entails.of_eq (by rw [set_i inb ho])) $$ HIa
  iapply (Transfers.wp_dmaBatch (n := 3) EC 𝒱₀ (th2 d L) none (src := ((iV).slice (Rect.unit (s := S6400000) off S2000.size inb) (fun _ => rfl))) (dst := bI0) (sm := .dma cc2_scratch9.sem) (q := q) (fs := ii) (Sd := Finset.univ) (fd := gi)
      (D := D0 d L q ii jj dd c) (j := 0) (u := 0) (default : HIx 2) NB rfl (Finset.subset_univ _) (by decide) (Nat.zero_le _)
      (deliver0_i d L q ii inb ho gi)) $$ [HIa BI HB]
  · isplitl [HIa]; · iexact HIa
    isplitl [BI]; · iexact BI
    iexact HB
  iintro HB
  ihave HJ := (pointsTo_split_subset (ℓ := (jV).view.loc (th2 d L)) (q := q) (f := jj) (Finset.subset_univ (cset (wid2 L) c))).1 $$ HJ
  icases HJ with ⟨HJa, HJb⟩
  ihave HJa := (show ((jV).view.loc (th2 d L) ↦[cset (wid2 L) c]{q} jj : sProp 𝕄) ⊢ (((jV).slice (Rect.unit (s := S6400000) off S2000.size inb) (fun _ => rfl)).view.loc (th2 d L) ↦[((jV).slice (Rect.unit (s := S6400000) off S2000.size inb) (fun _ => rfl)).view.set]{q} jj) from
    Entails.of_eq (by rw [set_j inb ho])) $$ HJa
  iapply (Transfers.wp_dmaBatch (n := 3) EC 𝒱₀ (th2 d L) none (src := ((jV).slice (Rect.unit (s := S6400000) off S2000.size inb) (fun _ => rfl))) (dst := bJ0) (sm := .dma cc2_scratch9.sem) (q := q) (fs := jj) (Sd := Finset.univ) (fd := gj)
      (D := D0 d L q ii jj dd c) (j := 1) (u := 0) (default : HIx 2) NB rfl (Finset.subset_univ _) (by decide) (Nat.zero_le _)
      (deliver0_j d L q jj inb ho gj)) $$ [HJa BJ HB]
  · isplitl [HJa]; · iexact HJa
    isplitl [BJ]; · iexact BJ
    iexact HB
  iintro HB
  ihave HD := (pointsTo_split_subset (ℓ := (dV).view.loc (th2 d L)) (q := q) (f := dd) (Finset.subset_univ (cset (wid2 L) c))).1 $$ HD
  icases HD with ⟨HDa, HDb⟩
  ihave HDa := (show ((dV).view.loc (th2 d L) ↦[cset (wid2 L) c]{q} dd : sProp 𝕄) ⊢ (((dV).slice (Rect.unit (s := S6400000) off S2000.size inb) (fun _ => rfl)).view.loc (th2 d L) ↦[((dV).slice (Rect.unit (s := S6400000) off S2000.size inb) (fun _ => rfl)).view.set]{q} dd) from
    Entails.of_eq (by rw [set_d inb ho])) $$ HDa
  iapply (Transfers.wp_dmaBatch (n := 3) EC 𝒱₀ (th2 d L) none (src := ((dV).slice (Rect.unit (s := S6400000) off S2000.size inb) (fun _ => rfl))) (dst := bD0) (sm := .dma cc2_scratch9.sem) (q := q) (fs := dd) (Sd := Finset.univ) (fd := gd)
      (D := D0 d L q ii jj dd c) (j := 2) (u := 0) (default : HIx 2) NB rfl (Finset.subset_univ _) (by decide) (Nat.zero_le _)
      (deliver0_d d L q dd inb ho gd)) $$ [HDa BD HB]
  · isplitl [HDa]; · iexact HDa
    isplitl [BD]; · iexact BD
    iexact HB
  iintro HB
  iapply Hk
  unfold fly0
  isplitl [HB]; · iexact HB
  isplitl [HIb]; · iexact HIb
  isplitl [HJb]; · iexact HJb
  iexact HDb

/-- What the three copies of a chunk hand back: the chunk in the buffers, the elements read. -/
def D1 (q : PosShare TreeShare) (ii jj : S6400000.Idx → Elt F .i32) (dd : S6400000.Idx → Elt F .f32) (c : ℕ) : Fin 3 → sProp 𝕄
  | 0 => iprop(((bI1).view.loc (th2 d L) ↦{fullShare} chunk ii (wid2 L) c) ∗ ((iV).view.loc (th2 d L) ↦[cset (wid2 L) c]{q} ii))
  | 1 => iprop(((bJ1).view.loc (th2 d L) ↦{fullShare} chunk jj (wid2 L) c) ∗ ((jV).view.loc (th2 d L) ↦[cset (wid2 L) c]{q} jj))
  | 2 => iprop(((bD1).view.loc (th2 d L) ↦{fullShare} chunk dd (wid2 L) c) ∗ ((dV).view.loc (th2 d L) ↦[cset (wid2 L) c]{q} dd))

instance D1_storable (q : PosShare TreeShare) (ii jj : S6400000.Idx → Elt F .i32) (dd : S6400000.Idx → Elt F .f32) (c : ℕ) (t : Fin 3) :
    BI.Storable (upEmb : UEmb _ 𝕄) (D1 d L q ii jj dd c t) := by
  match t with
  | 0 => unfold D1; infer_instance
  | 1 => unfold D1; infer_instance
  | 2 => unfold D1; infer_instance

/-- A chunk's three copies in flight: the batch, and what of the arrays read is not lent to it. -/
def fly1 (q : PosShare TreeShare) (ii jj : S6400000.Idx → Elt F .i32) (dd : S6400000.Idx → Elt F .f32) (c : ℕ) : sProp 𝕄 :=
  iprop(Transfers.Batch (n := 3) EC (th2 d L) (.dma cc2_scratch10.sem) (default : HIx 2) NB (D1 d L q ii jj dd c) 3 0
    ∗ ((iV).view.loc (th2 d L) ↦[Finset.univ \ cset (wid2 L) c]{q} ii) ∗ ((jV).view.loc (th2 d L) ↦[Finset.univ \ cset (wid2 L) c]{q} jj) ∗ ((dV).view.loc (th2 d L) ↦[Finset.univ \ cset (wid2 L) c]{q} dd))

/-- No copy in flight: the buffers at some contents, the semaphore at zero, the arrays whole. -/
def rest1 (q : PosShare TreeShare) (ii jj : S6400000.Idx → Elt F .i32) (dd : S6400000.Idx → Elt F .f32) : sProp 𝕄 :=
  iprop(((iV).view.loc (th2 d L) ↦{q} ii) ∗ ((jV).view.loc (th2 d L) ↦{q} jj) ∗ ((dV).view.loc (th2 d L) ↦{q} dd)
    ∗ (∃ g, (bI1).view.loc (th2 d L) ↦{fullShare} g) ∗ (∃ g, (bJ1).view.loc (th2 d L) ↦{fullShare} g) ∗ (∃ g, (bD1).view.loc (th2 d L) ↦{fullShare} g)
    ∗ semVal (th2 d L, .dma cc2_scratch10.sem) 0)

variable [FloatOps F]

theorem deliver1_i (q : PosShare TreeShare) (a : S6400000.Idx → Elt F .i32) {c : ℕ}
    {off : Fin 1 → ℕ} (inb : ∀ a, off a + S2000.size a ≤ S6400000.size a) (ho : off = ![200000 * wid2 L + 2000 * c]) (g : S2000.Idx → Elt F .i32) :
    iprop(((bI1).view.loc (th2 d L) ↦{fullShare} ((bI1).view.write (Elt F) g (ReadAs.same.apply (((iV).slice (Rect.unit (s := S6400000) off S2000.size inb) (fun _ => rfl)).view.read (Elt F) a)) Finset.univ))
        ∗ (((iV).slice (Rect.unit (s := S6400000) off S2000.size inb) (fun _ => rfl)).view.loc (th2 d L) ↦[((iV).slice (Rect.unit (s := S6400000) off S2000.size inb) (fun _ => rfl)).view.set]{q} a))
      ⊢ (iprop(((bI1).view.loc (th2 d L) ↦{fullShare} chunk a (wid2 L) c) ∗ ((iV).view.loc (th2 d L) ↦[cset (wid2 L) c]{q} a)) : sProp 𝕄) :=
  sep_mono (Entails.of_eq (congrArg (fun z => ((bI1).view.loc (th2 d L) ↦{fullShare} z : sProp 𝕄)) ((View.write_whole_univ cc2_scratch5 g _).trans (read_i inb ho a))))
    (Entails.of_eq (by rw [set_i inb ho]))

theorem deliver1_j (q : PosShare TreeShare) (a : S6400000.Idx → Elt F .i32) {c : ℕ}
    {off : Fin 1 → ℕ} (inb : ∀ a, off a + S2000.size a ≤ S6400000.size a) (ho : off = ![200000 * wid2 L + 2000 * c]) (g : S2000.Idx → Elt F .i32) :
    iprop(((bJ1).view.loc (th2 d L) ↦{fullShare} ((bJ1).view.write (Elt F) g (ReadAs.same.apply (((jV).slice (Rect.unit (s := S6400000) off S2000.size inb) (fun _ => rfl)).view.read (Elt F) a)) Finset.univ))
        ∗ (((jV).slice (Rect.unit (s := S6400000) off S2000.size inb) (fun _ => rfl)).view.loc (th2 d L) ↦[((jV).slice (Rect.unit (s := S6400000) off S2000.size inb) (fun _ => rfl)).view.set]{q} a))
      ⊢ (iprop(((bJ1).view.loc (th2 d L) ↦{fullShare} chunk a (wid2 L) c) ∗ ((jV).view.loc (th2 d L) ↦[cset (wid2 L) c]{q} a)) : sProp 𝕄) :=
  sep_mono (Entails.of_eq (congrArg (fun z => ((bJ1).view.loc (th2 d L) ↦{fullShare} z : sProp 𝕄)) ((View.write_whole_univ cc2_scratch6 g _).trans (read_j inb ho a))))
    (Entails.of_eq (by rw [set_j inb ho]))

theorem deliver1_d (q : PosShare TreeShare) (a : S6400000.Idx → Elt F .f32) {c : ℕ}
    {off : Fin 1 → ℕ} (inb : ∀ a, off a + S2000.size a ≤ S6400000.size a) (ho : off = ![200000 * wid2 L + 2000 * c]) (g : S2000.Idx → Elt F .f32) :
    iprop(((bD1).view.loc (th2 d L) ↦{fullShare} ((bD1).view.write (Elt F) g (ReadAs.same.apply (((dV).slice (Rect.unit (s := S6400000) off S2000.size inb) (fun _ => rfl)).view.read (Elt F) a)) Finset.univ))
        ∗ (((dV).slice (Rect.unit (s := S6400000) off S2000.size inb) (fun _ => rfl)).view.loc (th2 d L) ↦[((dV).slice (Rect.unit (s := S6400000) off S2000.size inb) (fun _ => rfl)).view.set]{q} a))
      ⊢ (iprop(((bD1).view.loc (th2 d L) ↦{fullShare} chunk a (wid2 L) c) ∗ ((dV).view.loc (th2 d L) ↦[cset (wid2 L) c]{q} a)) : sProp 𝕄) :=
  sep_mono (Entails.of_eq (congrArg (fun z => ((bD1).view.loc (th2 d L) ↦{fullShare} z : sProp 𝕄)) ((View.write_whole_univ cc2_scratch7 g _).trans (read_d inb ho a))))
    (Entails.of_eq (by rw [set_d inb ho]))

set_option cleanup.letToHave false in
theorem issue1 (q : PosShare TreeShare) (ii jj : S6400000.Idx → Elt F .i32) (dd : S6400000.Idx → Elt F .f32) (c : ℕ)
    {off : Fin 1 → ℕ} (inb : ∀ a, off a + S2000.size a ≤ S6400000.size a) (ho : off = ![200000 * wid2 L + 2000 * c])
    {α : Type} (k : PUnit → Prog (TpuEff nD τ sig (Elt F) Λ₀ (th2 d L).2) α) (Q : α → sProp 𝕄) :
    rest1 d L q ii jj dd
      ⊢ iprop((fly1 d L q ii jj dd c -∗ wp frame (wpE (defs₀ (F := F)) 𝒱₀ (th2 d L) none) Set.univ (k ⟨⟩) Q)
          -∗ wp frame (wpE (defs₀ (F := F)) 𝒱₀ (th2 d L) none) Set.univ
              (.op (.enqueueDma ((iV).slice (Rect.unit (s := S6400000) off S2000.size inb) (fun _ => rfl)) (.here bI1) (.dma cc2_scratch10.sem) (View.wordExact_bits rfl) (Memref.isWhole_whole _).wordExact ⟨Or.inl rfl, trivial⟩) fun _ =>
               .op (.enqueueDma ((jV).slice (Rect.unit (s := S6400000) off S2000.size inb) (fun _ => rfl)) (.here bJ1) (.dma cc2_scratch10.sem) (View.wordExact_bits rfl) (Memref.isWhole_whole _).wordExact ⟨Or.inl rfl, trivial⟩) fun _ =>
               .op (.enqueueDma ((dV).slice (Rect.unit (s := S6400000) off S2000.size inb) (fun _ => rfl)) (.here bD1) (.dma cc2_scratch10.sem) (View.wordExact_bits rfl) (Memref.isWhole_whole _).wordExact ⟨Or.inl rfl, trivial⟩) k) Q) := by
  unfold rest1
  iintro ⟨HI, HJ, HD, ⟨%gi, BI⟩, ⟨%gj, BJ⟩, ⟨%gd, BD⟩, HS⟩ Hk
  imod (Transfers.batch_alloc' (Lvl := ℕ) EC (th2 d L) (default : HIx 2) NB (D1 d L q ii jj dd c) (sm := .dma cc2_scratch10.sem) (E := Set.univ)) $$ HS with HB
  ihave HI := (pointsTo_split_subset (ℓ := (iV).view.loc (th2 d L)) (q := q) (f := ii) (Finset.subset_univ (cset (wid2 L) c))).1 $$ HI
  icases HI with ⟨HIa, HIb⟩
  ihave HIa := (show ((iV).view.loc (th2 d L) ↦[cset (wid2 L) c]{q} ii : sProp 𝕄) ⊢ (((iV).slice (Rect.unit (s := S6400000) off S2000.size inb) (fun _ => rfl)).view.loc (th2 d L) ↦[((iV).slice (Rect.unit (s := S6400000) off S2000.size inb) (fun _ => rfl)).view.set]{q} ii) from
    Entails.of_eq (by rw [set_i inb ho])) $$ HIa
  iapply (Transfers.wp_dmaBatch (n := 3) EC 𝒱₀ (th2 d L) none (src := ((iV).slice (Rect.unit (s := S6400000) off S2000.size inb) (fun _ => rfl))) (dst := bI1) (sm := .dma cc2_scratch10.sem) (q := q) (fs := ii) (Sd := Finset.univ) (fd := gi)
      (D := D1 d L q ii jj dd c) (j := 0) (u := 0) (default : HIx 2) NB rfl (Finset.subset_univ _) (by decide) (Nat.zero_le _)
      (deliver1_i d L q ii inb ho gi)) $$ [HIa BI HB]
  · isplitl [HIa]; · iexact HIa
    isplitl [BI]; · iexact BI
    iexact HB
  iintro HB
  ihave HJ := (pointsTo_split_subset (ℓ := (jV).view.loc (th2 d L)) (q := q) (f := jj) (Finset.subset_univ (cset (wid2 L) c))).1 $$ HJ
  icases HJ with ⟨HJa, HJb⟩
  ihave HJa := (show ((jV).view.loc (th2 d L) ↦[cset (wid2 L) c]{q} jj : sProp 𝕄) ⊢ (((jV).slice (Rect.unit (s := S6400000) off S2000.size inb) (fun _ => rfl)).view.loc (th2 d L) ↦[((jV).slice (Rect.unit (s := S6400000) off S2000.size inb) (fun _ => rfl)).view.set]{q} jj) from
    Entails.of_eq (by rw [set_j inb ho])) $$ HJa
  iapply (Transfers.wp_dmaBatch (n := 3) EC 𝒱₀ (th2 d L) none (src := ((jV).slice (Rect.unit (s := S6400000) off S2000.size inb) (fun _ => rfl))) (dst := bJ1) (sm := .dma cc2_scratch10.sem) (q := q) (fs := jj) (Sd := Finset.univ) (fd := gj)
      (D := D1 d L q ii jj dd c) (j := 1) (u := 0) (default : HIx 2) NB rfl (Finset.subset_univ _) (by decide) (Nat.zero_le _)
      (deliver1_j d L q jj inb ho gj)) $$ [HJa BJ HB]
  · isplitl [HJa]; · iexact HJa
    isplitl [BJ]; · iexact BJ
    iexact HB
  iintro HB
  ihave HD := (pointsTo_split_subset (ℓ := (dV).view.loc (th2 d L)) (q := q) (f := dd) (Finset.subset_univ (cset (wid2 L) c))).1 $$ HD
  icases HD with ⟨HDa, HDb⟩
  ihave HDa := (show ((dV).view.loc (th2 d L) ↦[cset (wid2 L) c]{q} dd : sProp 𝕄) ⊢ (((dV).slice (Rect.unit (s := S6400000) off S2000.size inb) (fun _ => rfl)).view.loc (th2 d L) ↦[((dV).slice (Rect.unit (s := S6400000) off S2000.size inb) (fun _ => rfl)).view.set]{q} dd) from
    Entails.of_eq (by rw [set_d inb ho])) $$ HDa
  iapply (Transfers.wp_dmaBatch (n := 3) EC 𝒱₀ (th2 d L) none (src := ((dV).slice (Rect.unit (s := S6400000) off S2000.size inb) (fun _ => rfl))) (dst := bD1) (sm := .dma cc2_scratch10.sem) (q := q) (fs := dd) (Sd := Finset.univ) (fd := gd)
      (D := D1 d L q ii jj dd c) (j := 2) (u := 0) (default : HIx 2) NB rfl (Finset.subset_univ _) (by decide) (Nat.zero_le _)
      (deliver1_d d L q dd inb ho gd)) $$ [HDa BD HB]
  · isplitl [HDa]; · iexact HDa
    isplitl [BD]; · iexact BD
    iexact HB
  iintro HB
  iapply Hk
  unfold fly1
  isplitl [HB]; · iexact HB
  isplitl [HIb]; · iexact HIb
  isplitl [HJb]; · iexact HJb
  iexact HDb

/-- A chunk landed: its words in the buffers, the semaphore at zero, the arrays whole. -/
def land0 (q : PosShare TreeShare) (ii jj : S6400000.Idx → Elt F .i32) (dd : S6400000.Idx → Elt F .f32) (c : ℕ) : sProp 𝕄 :=
  iprop(((iV).view.loc (th2 d L) ↦{q} ii) ∗ ((jV).view.loc (th2 d L) ↦{q} jj) ∗ ((dV).view.loc (th2 d L) ↦{q} dd)
    ∗ ((bI0).view.loc (th2 d L) ↦{fullShare} chunk ii (wid2 L) c) ∗ ((bJ0).view.loc (th2 d L) ↦{fullShare} chunk jj (wid2 L) c) ∗ ((bD0).view.loc (th2 d L) ↦{fullShare} chunk dd (wid2 L) c)
    ∗ semVal (th2 d L, .dma cc2_scratch9.sem) 0)

theorem wait0 (q : PosShare TreeShare) (ii jj : S6400000.Idx → Elt F .i32) (dd : S6400000.Idx → Elt F .f32) (c : ℕ)
    (O : CellTallies nD τ sig (HIx 2)) (W : Waits sig (HIx 2))
    {α : Type} (k : PUnit → Prog (TpuEff nD τ sig (Elt F) Λ₀ (th2 d L).2) α) (Q : α → sProp 𝕄) :
    iprop(fly0 d L q ii jj dd c ∗ owes (th2 d L) O W ∗ Transfers.MayWaits (th2 d L) (default : HIx 2) O)
      ⊢ iprop((iprop(land0 d L q ii jj dd c ∗ ∃ W', ⌜∀ p ∈ W', p ∈ W ∨ p.2 = none⌝ ∗ owes (th2 d L) O W')
            -∗ wp frame (wpE (defs₀ (F := F)) 𝒱₀ (th2 d L) none) Set.univ (k ⟨⟩) Q)
          -∗ wp frame (wpE (defs₀ (F := F)) 𝒱₀ (th2 d L) none) Set.univ
              (.op (.waitDma2 cc2_scratch9.sem ((iV).slice (Rect.unit (s := S6400000) ![0] S2000.size inb_S6400000_S2000_0) (fun _ => rfl)) bI0 (View.wordExact_bits rfl) (Memref.isWhole_whole _).wordExact) fun _ =>
               .op (.waitDma2 cc2_scratch9.sem ((jV).slice (Rect.unit (s := S6400000) ![0] S2000.size inb_S6400000_S2000_0) (fun _ => rfl)) bJ0 (View.wordExact_bits rfl) (Memref.isWhole_whole _).wordExact) fun _ =>
               .op (.waitDma2 cc2_scratch9.sem ((dV).slice (Rect.unit (s := S6400000) ![0] S2000.size inb_S6400000_S2000_0) (fun _ => rfl)) bD0 (View.wordExact_bits rfl) (Memref.isWhole_whole _).wordExact) k) Q) := by
  unfold fly0
  iintro ⟨⟨HB, HI, HJ, HD⟩, HO, #Hmw⟩ Hk
  iapply (Transfers.wp_waitBatchO (n := 3) EC 𝒱₀ (th2 d L) none (dstw := bI0) (default : HIx 2) (N := NB) rfl (u := 0 * NB) (by have := NB_pos; omega)) $$ [HB HO]
  · isplitl [HB]; · iapply (Entails.of_eq (show Transfers.Batch (n := 3) EC (th2 d L) (.dma cc2_scratch9.sem) (default : HIx 2) NB (D0 d L q ii jj dd c) 3 0 = Transfers.Batch EC (th2 d L) (.dma cc2_scratch9.sem) (default : HIx 2) NB (D0 d L q ii jj dd c) 3 (0 * NB) from by congr 1)); iexact HB
    isplitl [HO]; · iexact HO
    iapply (Transfers.MayWaits.elim _); iexact Hmw
  iintro ⟨HB, HO⟩
  iapply (Transfers.wp_waitBatchO (n := 3) EC 𝒱₀ (th2 d L) none (dstw := bJ0) (default : HIx 2) (N := NB) rfl (u := 1 * NB) (by have := NB_pos; omega)) $$ [HB HO]
  · isplitl [HB]; · iapply (Entails.of_eq (show Transfers.Batch (n := 3) EC (th2 d L) (.dma cc2_scratch9.sem) (default : HIx 2) NB (D0 d L q ii jj dd c) 3 (0 * NB + NB) = Transfers.Batch EC (th2 d L) (.dma cc2_scratch9.sem) (default : HIx 2) NB (D0 d L q ii jj dd c) 3 (1 * NB) from by congr 1)); iexact HB
    isplitl [HO]; · iexact HO
    iapply (Transfers.MayWaits.elim _); iexact Hmw
  iintro ⟨HB, HO⟩
  iapply (Transfers.wp_waitBatchLastO (n := 3) EC 𝒱₀ (th2 d L) none (dstw := bD0) (default : HIx 2) (N := NB) rfl NB_pos (u := 2 * NB) (by omega)) $$ [HB HO]
  · isplitl [HB]; · iapply (Entails.of_eq (show Transfers.Batch (n := 3) EC (th2 d L) (.dma cc2_scratch9.sem) (default : HIx 2) NB (D0 d L q ii jj dd c) 3 (1 * NB + NB) = Transfers.Batch EC (th2 d L) (.dma cc2_scratch9.sem) (default : HIx 2) NB (D0 d L q ii jj dd c) 3 (2 * NB) from by congr 1)); iexact HB
    isplitl [HO]; · iexact HO
    iapply (Transfers.MayWaits.elim _); iexact Hmw
  iintro ⟨HB, HS, HO⟩
  ihave HB := (show bigSep Finset.univ (D0 d L q ii jj dd c) ⊢ iprop(D0 d L q ii jj dd c 0 ∗ D0 d L q ii jj dd c 1 ∗ D0 d L q ii jj dd c 2) from
    Entails.of_eq (by
      rw [Transfers.bigSep_pending_zero, Transfers.bigSep_pending_step _ 0 (by decide), Transfers.bigSep_pending_step _ 1 (by decide), Transfers.bigSep_pending_last _ 2 (by decide) (by decide)]
      rfl)) $$ HB
  icases HB with ⟨H0, H1, H2⟩
  ihave H0 := (show D0 d L q ii jj dd c 0 ⊢ iprop(((bI0).view.loc (th2 d L) ↦{fullShare} chunk ii (wid2 L) c) ∗ ((iV).view.loc (th2 d L) ↦[cset (wid2 L) c]{q} ii)) from .rfl) $$ H0
  icases H0 with ⟨B0, A0⟩
  ihave HI := (pointsTo_split_subset (ℓ := (iV).view.loc (th2 d L)) (q := q) (f := ii) (Finset.subset_univ (cset (wid2 L) c))).2 $$ [A0 HI]
  · isplitl [A0]; · iexact A0
    iexact HI
  ihave H1 := (show D0 d L q ii jj dd c 1 ⊢ iprop(((bJ0).view.loc (th2 d L) ↦{fullShare} chunk jj (wid2 L) c) ∗ ((jV).view.loc (th2 d L) ↦[cset (wid2 L) c]{q} jj)) from .rfl) $$ H1
  icases H1 with ⟨B1, A1⟩
  ihave HJ := (pointsTo_split_subset (ℓ := (jV).view.loc (th2 d L)) (q := q) (f := jj) (Finset.subset_univ (cset (wid2 L) c))).2 $$ [A1 HJ]
  · isplitl [A1]; · iexact A1
    iexact HJ
  ihave H2 := (show D0 d L q ii jj dd c 2 ⊢ iprop(((bD0).view.loc (th2 d L) ↦{fullShare} chunk dd (wid2 L) c) ∗ ((dV).view.loc (th2 d L) ↦[cset (wid2 L) c]{q} dd)) from .rfl) $$ H2
  icases H2 with ⟨B2, A2⟩
  ihave HD := (pointsTo_split_subset (ℓ := (dV).view.loc (th2 d L)) (q := q) (f := dd) (Finset.subset_univ (cset (wid2 L) c))).2 $$ [A2 HD]
  · isplitl [A2]; · iexact A2
    iexact HD
  iapply Hk
  isplitl [HI HJ HD B0 B1 B2 HS]
  · unfold land0
    isplitl [HI]; · iexact HI
    isplitl [HJ]; · iexact HJ
    isplitl [HD]; · iexact HD
    isplitl [B0]; · iexact B0
    isplitl [B1]; · iexact B1
    isplitl [B2]; · iexact B2
    iexact HS
  iexists _; isplitr
  swap; · iexact HO
  ipureintro
  intro p hp
  simp only [Finset.mem_insert] at hp
  rcases hp with rfl | rfl | rfl | hp
  · exact Or.inr rfl
  · exact Or.inr rfl
  · exact Or.inr rfl
  · exact Or.inl hp

/-- A chunk landed: its words in the buffers, the semaphore at zero, the arrays whole. -/
def land1 (q : PosShare TreeShare) (ii jj : S6400000.Idx → Elt F .i32) (dd : S6400000.Idx → Elt F .f32) (c : ℕ) : sProp 𝕄 :=
  iprop(((iV).view.loc (th2 d L) ↦{q} ii) ∗ ((jV).view.loc (th2 d L) ↦{q} jj) ∗ ((dV).view.loc (th2 d L) ↦{q} dd)
    ∗ ((bI1).view.loc (th2 d L) ↦{fullShare} chunk ii (wid2 L) c) ∗ ((bJ1).view.loc (th2 d L) ↦{fullShare} chunk jj (wid2 L) c) ∗ ((bD1).view.loc (th2 d L) ↦{fullShare} chunk dd (wid2 L) c)
    ∗ semVal (th2 d L, .dma cc2_scratch10.sem) 0)

theorem wait1 (q : PosShare TreeShare) (ii jj : S6400000.Idx → Elt F .i32) (dd : S6400000.Idx → Elt F .f32) (c : ℕ)
    (O : CellTallies nD τ sig (HIx 2)) (W : Waits sig (HIx 2))
    {α : Type} (k : PUnit → Prog (TpuEff nD τ sig (Elt F) Λ₀ (th2 d L).2) α) (Q : α → sProp 𝕄) :
    iprop(fly1 d L q ii jj dd c ∗ owes (th2 d L) O W ∗ Transfers.MayWaits (th2 d L) (default : HIx 2) O)
      ⊢ iprop((iprop(land1 d L q ii jj dd c ∗ ∃ W', ⌜∀ p ∈ W', p ∈ W ∨ p.2 = none⌝ ∗ owes (th2 d L) O W')
            -∗ wp frame (wpE (defs₀ (F := F)) 𝒱₀ (th2 d L) none) Set.univ (k ⟨⟩) Q)
          -∗ wp frame (wpE (defs₀ (F := F)) 𝒱₀ (th2 d L) none) Set.univ
              (.op (.waitDma2 cc2_scratch10.sem ((iV).slice (Rect.unit (s := S6400000) ![0] S2000.size inb_S6400000_S2000_0) (fun _ => rfl)) bI1 (View.wordExact_bits rfl) (Memref.isWhole_whole _).wordExact) fun _ =>
               .op (.waitDma2 cc2_scratch10.sem ((jV).slice (Rect.unit (s := S6400000) ![0] S2000.size inb_S6400000_S2000_0) (fun _ => rfl)) bJ1 (View.wordExact_bits rfl) (Memref.isWhole_whole _).wordExact) fun _ =>
               .op (.waitDma2 cc2_scratch10.sem ((dV).slice (Rect.unit (s := S6400000) ![0] S2000.size inb_S6400000_S2000_0) (fun _ => rfl)) bD1 (View.wordExact_bits rfl) (Memref.isWhole_whole _).wordExact) k) Q) := by
  unfold fly1
  iintro ⟨⟨HB, HI, HJ, HD⟩, HO, #Hmw⟩ Hk
  iapply (Transfers.wp_waitBatchO (n := 3) EC 𝒱₀ (th2 d L) none (dstw := bI1) (default : HIx 2) (N := NB) rfl (u := 0 * NB) (by have := NB_pos; omega)) $$ [HB HO]
  · isplitl [HB]; · iapply (Entails.of_eq (show Transfers.Batch (n := 3) EC (th2 d L) (.dma cc2_scratch10.sem) (default : HIx 2) NB (D1 d L q ii jj dd c) 3 0 = Transfers.Batch EC (th2 d L) (.dma cc2_scratch10.sem) (default : HIx 2) NB (D1 d L q ii jj dd c) 3 (0 * NB) from by congr 1)); iexact HB
    isplitl [HO]; · iexact HO
    iapply (Transfers.MayWaits.elim _); iexact Hmw
  iintro ⟨HB, HO⟩
  iapply (Transfers.wp_waitBatchO (n := 3) EC 𝒱₀ (th2 d L) none (dstw := bJ1) (default : HIx 2) (N := NB) rfl (u := 1 * NB) (by have := NB_pos; omega)) $$ [HB HO]
  · isplitl [HB]; · iapply (Entails.of_eq (show Transfers.Batch (n := 3) EC (th2 d L) (.dma cc2_scratch10.sem) (default : HIx 2) NB (D1 d L q ii jj dd c) 3 (0 * NB + NB) = Transfers.Batch EC (th2 d L) (.dma cc2_scratch10.sem) (default : HIx 2) NB (D1 d L q ii jj dd c) 3 (1 * NB) from by congr 1)); iexact HB
    isplitl [HO]; · iexact HO
    iapply (Transfers.MayWaits.elim _); iexact Hmw
  iintro ⟨HB, HO⟩
  iapply (Transfers.wp_waitBatchLastO (n := 3) EC 𝒱₀ (th2 d L) none (dstw := bD1) (default : HIx 2) (N := NB) rfl NB_pos (u := 2 * NB) (by omega)) $$ [HB HO]
  · isplitl [HB]; · iapply (Entails.of_eq (show Transfers.Batch (n := 3) EC (th2 d L) (.dma cc2_scratch10.sem) (default : HIx 2) NB (D1 d L q ii jj dd c) 3 (1 * NB + NB) = Transfers.Batch EC (th2 d L) (.dma cc2_scratch10.sem) (default : HIx 2) NB (D1 d L q ii jj dd c) 3 (2 * NB) from by congr 1)); iexact HB
    isplitl [HO]; · iexact HO
    iapply (Transfers.MayWaits.elim _); iexact Hmw
  iintro ⟨HB, HS, HO⟩
  ihave HB := (show bigSep Finset.univ (D1 d L q ii jj dd c) ⊢ iprop(D1 d L q ii jj dd c 0 ∗ D1 d L q ii jj dd c 1 ∗ D1 d L q ii jj dd c 2) from
    Entails.of_eq (by
      rw [Transfers.bigSep_pending_zero, Transfers.bigSep_pending_step _ 0 (by decide), Transfers.bigSep_pending_step _ 1 (by decide), Transfers.bigSep_pending_last _ 2 (by decide) (by decide)]
      rfl)) $$ HB
  icases HB with ⟨H0, H1, H2⟩
  ihave H0 := (show D1 d L q ii jj dd c 0 ⊢ iprop(((bI1).view.loc (th2 d L) ↦{fullShare} chunk ii (wid2 L) c) ∗ ((iV).view.loc (th2 d L) ↦[cset (wid2 L) c]{q} ii)) from .rfl) $$ H0
  icases H0 with ⟨B0, A0⟩
  ihave HI := (pointsTo_split_subset (ℓ := (iV).view.loc (th2 d L)) (q := q) (f := ii) (Finset.subset_univ (cset (wid2 L) c))).2 $$ [A0 HI]
  · isplitl [A0]; · iexact A0
    iexact HI
  ihave H1 := (show D1 d L q ii jj dd c 1 ⊢ iprop(((bJ1).view.loc (th2 d L) ↦{fullShare} chunk jj (wid2 L) c) ∗ ((jV).view.loc (th2 d L) ↦[cset (wid2 L) c]{q} jj)) from .rfl) $$ H1
  icases H1 with ⟨B1, A1⟩
  ihave HJ := (pointsTo_split_subset (ℓ := (jV).view.loc (th2 d L)) (q := q) (f := jj) (Finset.subset_univ (cset (wid2 L) c))).2 $$ [A1 HJ]
  · isplitl [A1]; · iexact A1
    iexact HJ
  ihave H2 := (show D1 d L q ii jj dd c 2 ⊢ iprop(((bD1).view.loc (th2 d L) ↦{fullShare} chunk dd (wid2 L) c) ∗ ((dV).view.loc (th2 d L) ↦[cset (wid2 L) c]{q} dd)) from .rfl) $$ H2
  icases H2 with ⟨B2, A2⟩
  ihave HD := (pointsTo_split_subset (ℓ := (dV).view.loc (th2 d L)) (q := q) (f := dd) (Finset.subset_univ (cset (wid2 L) c))).2 $$ [A2 HD]
  · isplitl [A2]; · iexact A2
    iexact HD
  iapply Hk
  isplitl [HI HJ HD B0 B1 B2 HS]
  · unfold land1
    isplitl [HI]; · iexact HI
    isplitl [HJ]; · iexact HJ
    isplitl [HD]; · iexact HD
    isplitl [B0]; · iexact B0
    isplitl [B1]; · iexact B1
    isplitl [B2]; · iexact B2
    iexact HS
  iexists _; isplitr
  swap; · iexact HO
  ipureintro
  intro p hp
  simp only [Finset.mem_insert] at hp
  rcases hp with rfl | rfl | rfl | hp
  · exact Or.inr rfl
  · exact Or.inr rfl
  · exact Or.inr rfl
  · exact Or.inl hp

end Tile

end Cert.KernelIdeal.Pf

end
-- ==== Proof.IEdge.lean ====
/-
  The pair call's task: the table copied in, the accumulators cleared, the chunks summed into them, the sums stored.
-/
module

public import proofs.«01_k».proof.Proof.ICopy

@[expose] public section

set_option maxRecDepth 16384

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "tV" => (Memref.whole Cert.KernelIdeal.main_v4_scv : Memref Cert.KernelIdeal.sig Kind.scVector Space.hbm Cert.KernelIdeal.S100352 EltTy.i32)
local notation "iV" => (Memref.whole Cert.KernelIdeal.main_arg3_scv : Memref Cert.KernelIdeal.sig Kind.scVector Space.hbm Cert.KernelIdeal.S6400000 EltTy.i32)
local notation "jV" => (Memref.whole Cert.KernelIdeal.main_arg4_scv : Memref Cert.KernelIdeal.sig Kind.scVector Space.hbm Cert.KernelIdeal.S6400000 EltTy.i32)
local notation "dV" => (Memref.whole Cert.KernelIdeal.main_v6_scv : Memref Cert.KernelIdeal.sig Kind.scVector Space.hbm Cert.KernelIdeal.S6400000 EltTy.f32)
local notation "oV" => (Memref.whole Cert.KernelIdeal.main_v7_scv : Memref Cert.KernelIdeal.sig Kind.scVector Space.hbm Cert.KernelIdeal.S32x1024 EltTy.f32)
local notation "bT" => (Memref.whole Cert.KernelIdeal.cc2_scratch0 : Memref Cert.KernelIdeal.sig Kind.scVector Space.vmem Cert.KernelIdeal.S100352 EltTy.i32)
local notation "bA" => (Memref.whole Cert.KernelIdeal.cc2_scratch1 : Memref Cert.KernelIdeal.sig Kind.scVector Space.vmem Cert.KernelIdeal.S16x1024 EltTy.f32)
local notation "bI0" => (Memref.whole Cert.KernelIdeal.cc2_scratch2 : Memref Cert.KernelIdeal.sig Kind.scVector Space.vmem Cert.KernelIdeal.S2000 EltTy.i32)
local notation "bJ0" => (Memref.whole Cert.KernelIdeal.cc2_scratch3 : Memref Cert.KernelIdeal.sig Kind.scVector Space.vmem Cert.KernelIdeal.S2000 EltTy.i32)
local notation "bD0" => (Memref.whole Cert.KernelIdeal.cc2_scratch4 : Memref Cert.KernelIdeal.sig Kind.scVector Space.vmem Cert.KernelIdeal.S2000 EltTy.f32)
local notation "bI1" => (Memref.whole Cert.KernelIdeal.cc2_scratch5 : Memref Cert.KernelIdeal.sig Kind.scVector Space.vmem Cert.KernelIdeal.S2000 EltTy.i32)
local notation "bJ1" => (Memref.whole Cert.KernelIdeal.cc2_scratch6 : Memref Cert.KernelIdeal.sig Kind.scVector Space.vmem Cert.KernelIdeal.S2000 EltTy.i32)
local notation "bD1" => (Memref.whole Cert.KernelIdeal.cc2_scratch7 : Memref Cert.KernelIdeal.sig Kind.scVector Space.vmem Cert.KernelIdeal.S2000 EltTy.f32)
local notation "bW" => (Memref.whole Cert.KernelIdeal.cc2_scratch8 : Memref Cert.KernelIdeal.sig Kind.scVector Space.vmem Cert.KernelIdeal.S1024 EltTy.f32)

section Tile
variable (d : Dev nD) (L : grid2.Coords)

theorem trips2 : k2_t2_loop.trips = 50 := by decide +kernel
theorem trips3 : k2_t3_loop.trips = 125 := by decide +kernel
theorem trips4 : k2_t4_loop.trips = 125 := by decide +kernel
theorem cond1_iff : ∀ t : Fin k2_t2_loop.trips, k2_cond1 t = 1#1 ↔ t.val + 1 < 50 := by decide +kernel

/-- A program that has returned, continued. -/
theorem ret_bind_eq {E : Type → Type} {α β : Type} (a : α) (k : α → Prog E β) : (Prog.ret a).bind k = k a := rfl

/-- A continuation passed inside a sequence. -/
theorem seq_bind_eq {E : Type → Type} {α β γ : Type} (x : Prog E α) (f : α → Prog E β) (g : β → Prog E γ) :
    (x >>= f).bind g = x >>= fun a => (f a).bind g :=
  bind_assoc x f g

variable [FloatOps F]

theorem accV_step (pk : Vec F S100352 .i32) (ii jj : S6400000.Idx → Elt F .i32) (dd : S6400000.Idx → Elt F .f32) (w c n s : ℕ) (hs : s < 125)
    (hn : n = 125 * c + s) (j : S16x1024.Idx) :
    accV pk ii jj dd w (n + 1) j = pairStep pk (chunk ii w c (at1 2000 (16 * s + (j 0).val))) (chunk jj w c (at1 2000 (16 * s + (j 0).val)))
      (chunk dd w c (at1 2000 (16 * s + (j 0).val))) (j 1).val (accV pk ii jj dd w n j) := by
  have h0 : (j 0).val < 16 := (j 0).isLt
  have e : 200000 * w + 2000 * c + ((at1 2000 (16 * s + (j 0).val)) 0).val = 200000 * w + 16 * n + (j 0).val := by
    rw [at1_val (by decide) (by omega)]; omega
  unfold chunk
  rw [e]
  rfl

/-- The invariant of the loop over pairs of chunks. -/
def inv2 (q0 q1 : PosShare TreeShare) (pk : Vec F S100352 .i32) (ii jj : S6400000.Idx → Elt F .i32) (dd : S6400000.Idx → Elt F .f32)
    (O : CellTallies nD τ sig (HIx 2)) (W : Waits sig (HIx 2)) (t : Nat) (_ : PUnit) : sProp 𝕄 :=
  iprop(Transfers.MayWaits (th2 d L) (default : HIx 2) O
    ∗ (∃ W', ⌜∀ p ∈ W', p ∈ W ∨ p.2 = none⌝ ∗ owes (th2 d L) O W')
    ∗ (if t < 50 then fly0 d L q0 ii jj dd (2 * t) else rest0 d L q0 ii jj dd)
    ∗ rest1 d L q1 ii jj dd
    ∗ ((bT).view.loc (th2 d L) ↦{fullShare} pk) ∗ ((bA).view.loc (th2 d L) ↦{fullShare} accV pk ii jj dd (wid2 L) (250 * t)))

set_option maxHeartbeats 1000000 in
theorem trip2 (v2 v3 : BitVec 32) (q0 q1 : PosShare TreeShare) (pk : Vec F S100352 .i32) (ii jj : S6400000.Idx → Elt F .i32) (dd : S6400000.Idx → Elt F .f32)
    (O : CellTallies nD τ sig (HIx 2)) (W : Waits sig (HIx 2)) (k : Fin k2_t2_loop.trips)
    (hi : ∀ n, (ii n).toNat < 100352) (hj : ∀ n, (jj n).toNat < 100352) :
    inv2 d L q0 q1 pk ii jj dd O W k.val ⟨⟩
      ⊢ wp frame (wpE (defs₀ (F := F)) 𝒱₀ (th2 d L) none) Set.univ
          (k2_t2_body L tV (Memref.isWhole_whole _) iV (Memref.isWhole_whole _) jV (Memref.isWhole_whole _) dV (Memref.isWhole_whole _) oV (Memref.isWhole_whole _) bT (Memref.isWhole_whole _) bA (Memref.isWhole_whole _) bI0 (Memref.isWhole_whole _) bJ0 (Memref.isWhole_whole _) bD0 (Memref.isWhole_whole _) bI1 (Memref.isWhole_whole _) bJ1 (Memref.isWhole_whole _) bD1 (Memref.isWhole_whole _) bW (Memref.isWhole_whole _) cc2_scratch9 cc2_scratch10 cc2_scoped0 cc2_scoped1 v2 v3 (iota .scVector S16 32 [0] iota_S16_d0_w32_scVector) k ⟨⟩)
          (inv2 d L q0 q1 pk ii jj dd O W (k.val + 1)) := by
  have hk : k.val < 50 := lt_of_lt_of_eq k.isLt trips2
  have ho18 : k2_off18 L k = ![200000 * wid2 L + 2000 * (2 * k.val + 1)] := by
    rw [k2_off18_eq]; unfold wid2; congr 1; omega
  have ho20 : k2_off20 L k = ![200000 * wid2 L + 2000 * (2 * (k.val + 1))] := by
    rw [k2_off20_eq]; unfold wid2; congr 1; omega
  unfold k2_t2_body
  simp only [k2_part2_eq_skeleton]
  unfold k2_part2_skel inv2
  rw [if_pos hk]
  by_cases hc : k2_cond1 k = 1#1
  · simp only [dif_pos hc]
    rw [if_pos ((cond1_iff k).mp hc)]
    iintro ⟨#Hmw, ⟨%W1, %hW1, HO⟩, Hf0, Hr1, HT, HA⟩
    iapply (issue1 d L q1 ii jj dd (2 * k.val + 1) (k2_off18_inb L k) ho18) $$ Hr1
    iintro Hf1
    iapply (wait0 d L q0 ii jj dd (2 * k.val) O W1) $$ [Hf0 HO]
    · isplitl [Hf0]; · iexact Hf0
      isplitl [HO]; · iexact HO
      iexact Hmw
    iintro ⟨Hl0, %W2, %hW2, HO⟩
    unfold land0
    icases Hl0 with ⟨HIa, HJa, HDa, HI, HJ, HD, HS⟩
    dsimp only [ret_bind_eq]
    rw [seq_bind_eq]
    sl_for (inv3 d L pk (chunk ii (wid2 L) (2 * k.val)) (chunk jj (wid2 L) (2 * k.val)) (chunk dd (wid2 L) (2 * k.val)) (fun s => accV pk ii jj dd (wid2 L) (250 * k.val + s))) $$ [HI HJ HD HT HA]
    case region =>
      intro s _
      exact trip3 d L _ _ _ _ _ pk _ _ _ _ s (fun n => hi _) (fun n => hj _)
        (accV_step pk ii jj dd (wid2 L) (2 * k.val) (250 * k.val + s.val) s.val (lt_of_lt_of_eq s.isLt trips3) (by omega))
    · unfold inv3
      isplitl [HI]; · iexact HI
      isplitl [HJ]; · iexact HJ
      isplitl [HD]; · iexact HD
      isplitl [HT]; · iexact HT
      iexact HA
    iintro %_ HL
    unfold inv3
    icases HL with ⟨HI, HJ, HD, HT, HA⟩
    iapply (issue0 d L q0 ii jj dd (2 * (k.val + 1)) (k2_off20_inb L k hc) ho20) $$ [HIa HJa HDa HI HJ HD HS]
    · unfold rest0
      isplitl [HIa]; · iexact HIa
      isplitl [HJa]; · iexact HJa
      isplitl [HDa]; · iexact HDa
      isplitl [HI]; · iexists _; iexact HI
      isplitl [HJ]; · iexists _; iexact HJ
      isplitl [HD]; · iexists _; iexact HD
      iexact HS
    iintro Hf0
    iapply (wait1 d L q1 ii jj dd (2 * k.val + 1) O W2) $$ [Hf1 HO]
    · isplitl [Hf1]; · iexact Hf1
      isplitl [HO]; · iexact HO
      iexact Hmw
    iintro ⟨Hl1, %W3, %hW3, HO⟩
    unfold land1
    icases Hl1 with ⟨HIb, HJb, HDb, KI, KJ, KD, KS⟩
    ihave HA := (show ((bA).view.loc (th2 d L) ↦{fullShare} accV pk ii jj dd (wid2 L) (250 * k.val + k2_t3_loop.trips) : sProp 𝕄) ⊢ ((bA).view.loc (th2 d L) ↦{fullShare} accV pk ii jj dd (wid2 L) (250 * k.val + 125 + 0)) from
      Entails.of_eq (by rw [trips3])) $$ HA
    dsimp only [ret_bind_eq]
    sl_for (inv4 d L pk (chunk ii (wid2 L) (2 * k.val + 1)) (chunk jj (wid2 L) (2 * k.val + 1)) (chunk dd (wid2 L) (2 * k.val + 1)) (fun s => accV pk ii jj dd (wid2 L) (250 * k.val + 125 + s))) $$ [KI KJ KD HT HA]
    case region =>
      intro s _
      exact trip4 d L pk _ _ _ _ s (fun n => hi _) (fun n => hj _)
        (accV_step pk ii jj dd (wid2 L) (2 * k.val + 1) (250 * k.val + 125 + s.val) s.val (lt_of_lt_of_eq s.isLt trips4) (by omega))
    · unfold inv4
      isplitl [KI]; · iexact KI
      isplitl [KJ]; · iexact KJ
      isplitl [KD]; · iexact KD
      isplitl [HT]; · iexact HT
      iexact HA
    iintro %_ HL
    unfold inv4
    icases HL with ⟨KI, KJ, KD, HT, HA⟩
    ihave HA := (show ((bA).view.loc (th2 d L) ↦{fullShare} accV pk ii jj dd (wid2 L) (250 * k.val + 125 + k2_t4_loop.trips) : sProp 𝕄) ⊢ ((bA).view.loc (th2 d L) ↦{fullShare} accV pk ii jj dd (wid2 L) (250 * (k.val + 1))) from
      Entails.of_eq (by rw [trips4, show 250 * k.val + 125 + 125 = 250 * (k.val + 1) from by omega])) $$ HA
    sl_step
    isplitr; · iexact Hmw
    isplitl [HO]
    · iexists W3; isplitr
      · ipureintro
        intro p hp
        rcases hW3 p hp with h | h
        · rcases hW2 p h with h | h
          · exact hW1 p h
          · exact Or.inr h
        · exact Or.inr h
      · iexact HO
    isplitl [Hf0]; · iexact Hf0
    isplitl [HIb HJb HDb KI KJ KD KS]
    · unfold rest1
      isplitl [HIb]; · iexact HIb
      isplitl [HJb]; · iexact HJb
      isplitl [HDb]; · iexact HDb
      isplitl [KI]; · iexists _; iexact KI
      isplitl [KJ]; · iexists _; iexact KJ
      isplitl [KD]; · iexists _; iexact KD
      iexact KS
    isplitl [HT]; · iexact HT
    iexact HA
  · simp only [dif_neg hc]
    rw [if_neg (fun h => hc ((cond1_iff k).mpr h))]
    iintro ⟨#Hmw, ⟨%W1, %hW1, HO⟩, Hf0, Hr1, HT, HA⟩
    iapply (issue1 d L q1 ii jj dd (2 * k.val + 1) (k2_off18_inb L k) ho18) $$ Hr1
    iintro Hf1
    iapply (wait0 d L q0 ii jj dd (2 * k.val) O W1) $$ [Hf0 HO]
    · isplitl [Hf0]; · iexact Hf0
      isplitl [HO]; · iexact HO
      iexact Hmw
    iintro ⟨Hl0, %W2, %hW2, HO⟩
    unfold land0
    icases Hl0 with ⟨HIa, HJa, HDa, HI, HJ, HD, HS⟩
    dsimp only [ret_bind_eq]
    rw [seq_bind_eq]
    sl_for (inv3 d L pk (chunk ii (wid2 L) (2 * k.val)) (chunk jj (wid2 L) (2 * k.val)) (chunk dd (wid2 L) (2 * k.val)) (fun s => accV pk ii jj dd (wid2 L) (250 * k.val + s))) $$ [HI HJ HD HT HA]
    case region =>
      intro s _
      exact trip3 d L _ _ _ _ _ pk _ _ _ _ s (fun n => hi _) (fun n => hj _)
        (accV_step pk ii jj dd (wid2 L) (2 * k.val) (250 * k.val + s.val) s.val (lt_of_lt_of_eq s.isLt trips3) (by omega))
    · unfold inv3
      isplitl [HI]; · iexact HI
      isplitl [HJ]; · iexact HJ
      isplitl [HD]; · iexact HD
      isplitl [HT]; · iexact HT
      iexact HA
    iintro %_ HL
    unfold inv3
    icases HL with ⟨HI, HJ, HD, HT, HA⟩
    iapply (wait1 d L q1 ii jj dd (2 * k.val + 1) O W2) $$ [Hf1 HO]
    · isplitl [Hf1]; · iexact Hf1
      isplitl [HO]; · iexact HO
      iexact Hmw
    iintro ⟨Hl1, %W3, %hW3, HO⟩
    unfold land1
    icases Hl1 with ⟨HIb, HJb, HDb, KI, KJ, KD, KS⟩
    ihave HA := (show ((bA).view.loc (th2 d L) ↦{fullShare} accV pk ii jj dd (wid2 L) (250 * k.val + k2_t3_loop.trips) : sProp 𝕄) ⊢ ((bA).view.loc (th2 d L) ↦{fullShare} accV pk ii jj dd (wid2 L) (250 * k.val + 125 + 0)) from
      Entails.of_eq (by rw [trips3])) $$ HA
    dsimp only [ret_bind_eq]
    sl_for (inv4 d L pk (chunk ii (wid2 L) (2 * k.val + 1)) (chunk jj (wid2 L) (2 * k.val + 1)) (chunk dd (wid2 L) (2 * k.val + 1)) (fun s => accV pk ii jj dd (wid2 L) (250 * k.val + 125 + s))) $$ [KI KJ KD HT HA]
    case region =>
      intro s _
      exact trip4 d L pk _ _ _ _ s (fun n => hi _) (fun n => hj _)
        (accV_step pk ii jj dd (wid2 L) (2 * k.val + 1) (250 * k.val + 125 + s.val) s.val (lt_of_lt_of_eq s.isLt trips4) (by omega))
    · unfold inv4
      isplitl [KI]; · iexact KI
      isplitl [KJ]; · iexact KJ
      isplitl [KD]; · iexact KD
      isplitl [HT]; · iexact HT
      iexact HA
    iintro %_ HL
    unfold inv4
    icases HL with ⟨KI, KJ, KD, HT, HA⟩
    ihave HA := (show ((bA).view.loc (th2 d L) ↦{fullShare} accV pk ii jj dd (wid2 L) (250 * k.val + 125 + k2_t4_loop.trips) : sProp 𝕄) ⊢ ((bA).view.loc (th2 d L) ↦{fullShare} accV pk ii jj dd (wid2 L) (250 * (k.val + 1))) from
      Entails.of_eq (by rw [trips4, show 250 * k.val + 125 + 125 = 250 * (k.val + 1) from by omega])) $$ HA
    sl_step
    isplitr; · iexact Hmw
    isplitl [HO]
    · iexists W3; isplitr
      · ipureintro
        intro p hp
        rcases hW3 p hp with h | h
        · rcases hW2 p h with h | h
          · exact hW1 p h
          · exact Or.inr h
        · exact Or.inr h
      · iexact HO
    isplitl [HIa HJa HDa HI HJ HD HS]
    · unfold rest0
      isplitl [HIa]; · iexact HIa
      isplitl [HJa]; · iexact HJa
      isplitl [HDa]; · iexact HDa
      isplitl [HI]; · iexists _; iexact HI
      isplitl [HJ]; · iexists _; iexact HJ
      isplitl [HD]; · iexists _; iexact HD
      iexact HS
    isplitl [HIb HJb HDb KI KJ KD KS]
    · unfold rest1
      isplitl [HIb]; · iexact HIb
      isplitl [HJb]; · iexact HJb
      isplitl [HDb]; · iexact HDb
      isplitl [KI]; · iexists _; iexact KI
      isplitl [KJ]; · iexists _; iexact KJ
      isplitl [KD]; · iexists _; iexact KD
      iexact KS
    isplitl [HT]; · iexact HT
    iexact HA

end Tile

end Cert.KernelIdeal.Pf

end
-- ==== Proof.ITable.lean ====
/-
  The table call's task on one vector subcore: it stages its 3136 words of each operand, looks every atom's
  radius up in the staged radius table, and writes its 3136 packed words out.
-/
module

public import proofs.«01_k».proof.Proof.ICommon

@[expose] public section

set_option maxRecDepth 16384

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "zV" => (Memref.whole Cert.KernelIdeal.main_v0_scv : Memref Cert.KernelIdeal.sig Kind.scVector Space.hbm Cert.KernelIdeal.S100352 EltTy.i32)
local notation "fV" => (Memref.whole Cert.KernelIdeal.main_v1_scv : Memref Cert.KernelIdeal.sig Kind.scVector Space.hbm Cert.KernelIdeal.S100352 EltTy.i32)
local notation "mV" => (Memref.whole Cert.KernelIdeal.main_v2_scv : Memref Cert.KernelIdeal.sig Kind.scVector Space.hbm Cert.KernelIdeal.S100352 EltTy.i32)
local notation "rV" => (Memref.whole Cert.KernelIdeal.main_v3_scv : Memref Cert.KernelIdeal.sig Kind.scVector Space.hbm Cert.KernelIdeal.S200 EltTy.f32)
local notation "pV" => (Memref.whole Cert.KernelIdeal.main_v4_scv : Memref Cert.KernelIdeal.sig Kind.scVector Space.hbm Cert.KernelIdeal.S100352 EltTy.i32)
local notation "bZ" => (Memref.whole Cert.KernelIdeal.cc0_scratch0 : Memref Cert.KernelIdeal.sig Kind.scVector Space.vmem Cert.KernelIdeal.S3136 EltTy.i32)
local notation "bF" => (Memref.whole Cert.KernelIdeal.cc0_scratch1 : Memref Cert.KernelIdeal.sig Kind.scVector Space.vmem Cert.KernelIdeal.S3136 EltTy.i32)
local notation "bM" => (Memref.whole Cert.KernelIdeal.cc0_scratch2 : Memref Cert.KernelIdeal.sig Kind.scVector Space.vmem Cert.KernelIdeal.S3136 EltTy.i32)
local notation "bR" => (Memref.whole Cert.KernelIdeal.cc0_scratch3 : Memref Cert.KernelIdeal.sig Kind.scVector Space.vmem Cert.KernelIdeal.S200 EltTy.f32)
local notation "bP" => (Memref.whole Cert.KernelIdeal.cc0_scratch4 : Memref Cert.KernelIdeal.sig Kind.scVector Space.vmem Cert.KernelIdeal.S3136 EltTy.i32)

abbrev zLoc (d : Dev nD) : Loc nD τ sig := (SparseCore.T d).loc main_v0
abbrev fLoc (d : Dev nD) : Loc nD τ sig := (SparseCore.T d).loc main_v1
abbrev mLoc (d : Dev nD) : Loc nD τ sig := (SparseCore.T d).loc main_v2
abbrev rLoc (d : Dev nD) : Loc nD τ sig := (SparseCore.T d).loc main_v3
abbrev pLoc (d : Dev nD) : Loc nD τ sig := (SparseCore.T d).loc main_v4

section Tile
variable (d : Dev nD) (L : grid0.Coords)

abbrev c0 (L : grid0.Coords) : Fin τ.nSC := (L 0).castLE hcore0
abbrev j0 (L : grid0.Coords) : Fin τ.nSub := (L 1).castLE hsub0
abbrev th0 (d : Dev nD) (L : grid0.Coords) : Thread nD τ := V d (c0 L) (j0 L)

/-- The task's number, in the order the kernel deals the slices. -/
def wid0 (L : grid0.Coords) : ℕ := 2 * (L 1).val + (L 0).val

/-- The task's slice of a padded array of atoms, as the body addresses it. -/
abbrev sl0 (L : grid0.Coords) : Rect S100352 := Rect.unit (s := S100352) (k0_off1 L) S3136.size (k0_off1_inb L)
abbrev zK (L : grid0.Coords) : Memref sig .scVector .hbm S3136 .i32 := (zV).slice (sl0 L) (fun _ => rfl)
abbrev fK (L : grid0.Coords) : Memref sig .scVector .hbm S3136 .i32 := (fV).slice (sl0 L) (fun _ => rfl)
abbrev mK (L : grid0.Coords) : Memref sig .scVector .hbm S3136 .i32 := (mV).slice (sl0 L) (fun _ => rfl)
abbrev pK (L : grid0.Coords) : Memref sig .scVector .hbm S3136 .i32 := (pV).slice (sl0 L) (fun _ => rfl)

theorem ownSems0_th0 :
    (ownSems0 (th0 d L) : sProp 𝕄)
      = iprop(semVal (th0 d L, .dma cc0_scoped0.sem) 0 ∗ semVal (th0 d L, .dma cc0_scoped1.sem) 0 ∗ semVal (th0 d L, .dma cc0_scoped2.sem) 0
          ∗ semVal (th0 d L, .dma cc0_scoped3.sem) 0 ∗ semVal (th0 d L, .dma cc0_scoped4.sem) 0
          ∗ bigSep (ownCells (th0 d L) \ [(th0 d L, .dma cc0_scoped0.sem), (th0 d L, .dma cc0_scoped1.sem), (th0 d L, .dma cc0_scoped2.sem),
              (th0 d L, .dma cc0_scoped3.sem), (th0 d L, .dma cc0_scoped4.sem)].toFinset) fun g => semVal g 0) := by
  unfold SparseCore.Cfg.ownSems0
  refine bigSep_peel (fun g : GSem nD τ sig => semVal g 0) [(th0 d L, .dma cc0_scoped0.sem), (th0 d L, .dma cc0_scoped1.sem), (th0 d L, .dma cc0_scoped2.sem),
              (th0 d L, .dma cc0_scoped3.sem), (th0 d L, .dma cc0_scoped4.sem)] _ ?_ ?_
  · refine List.Nodup.map (f := fun s : SemLoc sig => ((th0 d L, s) : GSem nD τ sig)) (l := [.dma cc0_scoped0.sem, .dma cc0_scoped1.sem, .dma cc0_scoped2.sem,
      .dma cc0_scoped3.sem, .dma cc0_scoped4.sem]) (fun a b h => (Prod.mk.inj h).2) (by decide)
  · intro x hx
    obtain ⟨s, hs, rfl⟩ := List.mem_map.mp (show x ∈ List.map (fun s : SemLoc sig => ((th0 d L, s) : GSem nD τ sig)) [.dma cc0_scoped0.sem, .dma cc0_scoped1.sem, .dma cc0_scoped2.sem,
      .dma cc0_scoped3.sem, .dma cc0_scoped4.sem] from hx)
    exact mem_ownCells.mpr ⟨rfl, (by decide : ∀ s ∈ ([.dma cc0_scoped0.sem, .dma cc0_scoped1.sem, .dma cc0_scoped2.sem,
      .dma cc0_scoped3.sem, .dma cc0_scoped4.sem] : List (SemLoc sig)), s.isScoped .scVector = true) s hs⟩

abbrev pr0 (L : grid0.Coords) : Proc τ := Proc.scVector (c0 L) (j0 L)

theorem ownBufs_th0 :
    (ownBufs (th0 d L) : sProp 𝕄)
      = iprop((∃ f, (th0 d L).loc cc0_scratch0 ↦{fullShare} f) ∗ (∃ f, (th0 d L).loc cc0_scratch1 ↦{fullShare} f) ∗ (∃ f, (th0 d L).loc cc0_scratch2 ↦{fullShare} f)
          ∗ (∃ f, (th0 d L).loc cc0_scratch3 ↦{fullShare} f) ∗ (∃ f, (th0 d L).loc cc0_scratch4 ↦{fullShare} f)
          ∗ bigSep (ownRefs (τ := τ) (pr0 L) \ [(pr0 L).devRef cc0_scratch0, (pr0 L).devRef cc0_scratch1, (pr0 L).devRef cc0_scratch2, (pr0 L).devRef cc0_scratch3,
              (pr0 L).devRef cc0_scratch4].toFinset) fun b => iprop(∃ f, ((d, b) : Loc nD τ sig) ↦{fullShare} f)) := by
  unfold SparseCore.Cfg.ownBufs
  refine bigSep_peel (fun b : DevRef τ sig => iprop(∃ f, ((d, b) : Loc nD τ sig) ↦{fullShare} f)) [(pr0 L).devRef cc0_scratch0, (pr0 L).devRef cc0_scratch1,
    (pr0 L).devRef cc0_scratch2, (pr0 L).devRef cc0_scratch3, (pr0 L).devRef cc0_scratch4] _ ?_ ?_
  · exact List.Nodup.map (f := fun r : Ref sig .scVector => (pr0 L).devRef r) (l := [cc0_scratch0, cc0_scratch1, cc0_scratch2, cc0_scratch3, cc0_scratch4])
      (fun _ _ e => Proc.devRef_injective _ e) (by decide)
  · intro x hx
    simp only [List.mem_cons, List.not_mem_nil, _root_.or_false] at hx
    rcases hx with rfl | rfl | rfl | rfl | rfl <;> exact SparseCore.Cfg.mem_ownRefs_of_owner (p := pr0 L) rfl

variable [FloatOps F]

/-- The staged slice of an array of atoms. -/
def stage0 {α : Type} (L : grid0.Coords) (g : S100352.Idx → α) : S3136.Idx → α := fun k => g (at1 100352 (3136 * wid0 L + (k 0).val))

theorem sl0_elem (x : S3136.Idx) : (sl0 L).emb x = at1 100352 (3136 * wid0 L + (x 0).val) := by
  refine (at1_eq _ _ ?_).symm
  rw [Rect.emb_apply]
  have h0 : (sl0 L).off 0 = 6272 * (L 1).val + 3136 * (L 0).val := congrFun (k0_off1_eq L) 0
  rw [h0]
  show 6272 * (L 1).val + 3136 * (L 0).val + 1 * (x 0).val = _
  unfold wid0; omega

theorem staged0 {e : EltTy} (z : S100352.Idx → Elt F e) : (fun x => z ((sl0 L).emb x)) = stage0 L z :=
  funext fun x => congrArg z (sl0_elem L x)

/-- The loop's invariant: the four staged operands as fetched, the packed words of the trips done in place. -/
def inv0 (zs fs ms : S3136.Idx → Elt F .i32) (rt : S200.Idx → Elt F .f32) (G : S3136.Idx → Elt F .i32) (t : Nat) (_ : PUnit) : sProp 𝕄 :=
  iprop(((bZ).view.loc (th0 d L) ↦{fullShare} zs) ∗ ((bF).view.loc (th0 d L) ↦{fullShare} fs) ∗ ((bM).view.loc (th0 d L) ↦{fullShare} ms)
    ∗ ((bR).view.loc (th0 d L) ↦{fullShare} rt)
    ∗ ∃ g, ⌜∀ k : S3136.Idx, (k 0).val < 16 * t → g k = G k⌝ ∗ ((bP).view.loc (th0 d L) ↦{fullShare} g))

theorem rowW_lt {a b : BitVec 32} (ha : a.toNat < 100) (hb : b.toNat < 2) : (rowW (F := F) a b).toNat < 200 := by
  show (b * 100#32 + a).toNat < 200
  have e : (b * 100#32 : BitVec 32).toNat = b.toNat * 100 := by
    rw [BitVec.toNat_mul, show (100#32 : BitVec 32).toNat = 100 from rfl, Nat.mod_eq_of_lt (by omega)]
  rw [BitVec.toNat_add, e, Nat.mod_eq_of_lt (by omega)]
  omega

theorem trip0 (zs fs ms : S3136.Idx → Elt F .i32) (rt : S200.Idx → Elt F .f32) (G : S3136.Idx → Elt F .i32) (k : Fin k0_t1_loop.trips)
    (hz : ∀ n, (zs n).toNat < 100) (hf : ∀ n, (fs n).toNat < 2)
    (hG : ∀ n, G n = packW (F := F) (ms n) (rt (at1 200 (rowW (F := F) (zs n) (fs n)).toNat))) :
    inv0 d L zs fs ms rt G k.val ⟨⟩
      ⊢ wp frame (wpE (defs₀ (F := F)) 𝒱₀ (th0 d L) none) Set.univ
          (k0_t1_body L zV (Memref.isWhole_whole _) fV (Memref.isWhole_whole _) mV (Memref.isWhole_whole _) rV (Memref.isWhole_whole _) pV (Memref.isWhole_whole _)
            bZ (Memref.isWhole_whole _) bF (Memref.isWhole_whole _) bM (Memref.isWhole_whole _) bR (Memref.isWhole_whole _) bP (Memref.isWhole_whole _)
            cc0_scoped0 cc0_scoped1 cc0_scoped2 cc0_scoped3 cc0_scoped4 k ⟨⟩)
          fun _ => inv0 d L zs fs ms rt G (k.val + 1) ⟨⟩ := by
  unfold inv0
  iintro ⟨H0, H1, H2, H3, %g, %hg, H4⟩
  unfold k0_t1_body
  have hoff : ∀ x : S16.Idx, ((Rect.unit (s := S3136) (k0_off2 k) S16.size (k0_off2_inb k)).emb x 0).val = 16 * k.val + (x 0).val := fun x => by
    rw [Rect.emb_apply, show (Rect.unit (s := S3136) (k0_off2 k) S16.size (k0_off2_inb k)).off 0 = 16 * k.val from congrFun (k0_off2_eq k) 0]
    show 16 * k.val + 1 * (x 0).val = _
    omega
  have hoff3 : ∀ x : S16.Idx, ((Rect.unit (s := S3136) (k0_off3 k) S16.size (k0_off3_inb k)).emb x 0).val = 16 * k.val + (x 0).val := fun x => by
    rw [Rect.emb_apply, show (Rect.unit (s := S3136) (k0_off3 k) S16.size (k0_off3_inb k)).off 0 = 16 * k.val from congrFun (k0_off3_eq k) 0]
    show 16 * k.val + 1 * (x 0).val = _
    omega
  sl_exec
  have hchk : k0_chk1 (trip0.sl.v15 zs fs k) := fun a x => by
    match a with
    | 0 => exact rowW_lt (F := F) (hz _) (hf _)
  sl_exec
  iapply (SparseCore.wp_vectorLoadIdx 𝒱₀ (th0 d L) none Set.univ (base := bR) (S := Finset.univ) (q := fullShare) (f := rt) (Finset.subset_univ _)) $$ [H3]
  · iexact H3
  iintro H3
  sl_exec
  sl_step
  isplitl [H0]; · iexact H0
  isplitl [H1]; · iexact H1
  isplitl [H2]; · iexact H2
  isplitl [H3]; · iexact H3
  iexists _; isplitr
  swap; · iexact H4
  ipureintro
  intro n hn
  by_cases hin : 16 * k.val ≤ (n 0).val
  · have e3 : (Rect.unit (s := S3136) (k0_off3 k) S16.size (k0_off3_inb k)).emb (at1 16 ((n 0).val - 16 * k.val)) = n :=
      idx1_ext (by rw [hoff3, at1_val (by decide) (by omega)]; omega)
    have e2 : (Rect.unit (s := S3136) (k0_off2 k) S16.size (k0_off2_inb k)).emb (at1 16 ((n 0).val - 16 * k.val)) = n :=
      idx1_ext (by rw [hoff, at1_val (by decide) (by omega)]; omega)
    refine (store_in cc0_scratch4 _ g _ (at1 16 ((n 0).val - 16 * k.val)) e3).trans ?_
    rw [k0_pay2_apply, hG]
    have ez := load_at (Val := Elt F) cc0_scratch0 _ zs _ e2
    have ef := load_at (Val := Elt F) cc0_scratch1 _ fs _ e2
    have em := load_at (Val := Elt F) cc0_scratch2 _ ms _ e2
    congr 1
    refine (gather_at cc0_scratch3 rt _ hchk _).trans ?_
    congr 1
    refine (at1_eq _ _ ?_).symm
    show (trip0.sl.v15 zs fs k (at1 16 ((n 0).val - 16 * k.val))).toNat = _
    delta trip0.sl.v15
    rw [k0_pay1_apply, ez, ef]
  · refine (store_out cc0_scratch4 _ g _ fun x e => hin ?_).trans (hg n (by omega))
    rw [← e, hoff3]; omega

/-- The packed slice once its copy has landed, at one function of the whole array. -/
theorem out0 (o G : Buf (Elt F) (pLoc d)) (w : S3136.Idx → Elt F .i32) (hw : ∀ x, w x = stage0 (α := Elt F .i32) L G x) :
    ((pK L).view.loc (th0 d L) ↦[(pK L).view.set]{fullShare} (pK L).view.writes (Elt F) o [⟨Rect.whole S3136, w⟩] : sProp 𝕄)
      ⊢ (pLoc d ↦[(pK L).view.set]{fullShare} G) := by
  refine Entails.of_eq (pointsTo_congr fun i hi => ?_)
  obtain ⟨x, -, rfl⟩ := Finset.mem_map.mp hi
  refine (landed_at (Val := Elt F) (pK L).view o w x).trans ?_
  exact (hw x).trans (congrFun (staged0 (e := .i32) L G) x).symm

/-- What the table call hands one task: read shares of the operands, its slice of the result. -/
def go0 (d : Dev nD) (L : grid0.Coords) (q : PosShare TreeShare) (z f mm : Buf (Elt F) (zLoc d)) (rt : Buf (Elt F) (rLoc d)) (o : Buf (Elt F) (pLoc d)) : sProp 𝕄 :=
  iprop((zLoc d ↦{q} z) ∗ (fLoc d ↦{q} f) ∗ (mLoc d ↦{q} mm) ∗ (rLoc d ↦{q} rt) ∗ (pLoc d ↦[(pK L).view.set]{fullShare} o))

theorem tile0 (hF : (K (F := F)).Facts) (O : CellTallies nD τ sig (HIx 2)) (W : Waits sig (HIx 2)) (hO : ∀ g, O g none = 0)
    (q : PosShare TreeShare) (z f mm : Buf (Elt F) (zLoc d)) (rt : Buf (Elt F) (rLoc d)) (o : Buf (Elt F) (pLoc d))
    (hz : ∀ n, (z n).toNat < 100) (hf : ∀ n, (f n).toNat < 2) :
    iprop(levAts (K (F := F)).L (K (F := F)).lev ∗ emp
        ∗ go0 d L q z f mm rt o
        ∗ scopedBufs (th0 d L) ∗ scopedSems0 (th0 d L) ∗ owes (th0 d L) O W)
      ⊢ wp frame (wpE (defs₀ (F := F)) 𝒱₀ (th0 d L) none) Set.univ
          (cc0__table_body L zV (Memref.isWhole_whole _) fV (Memref.isWhole_whole _) mV (Memref.isWhole_whole _) rV (Memref.isWhole_whole _) pV (Memref.isWhole_whole _)
            bZ (Memref.isWhole_whole _) bF (Memref.isWhole_whole _) bM (Memref.isWhole_whole _) bR (Memref.isWhole_whole _) bP (Memref.isWhole_whole _)
            cc0_scoped0 cc0_scoped1 cc0_scoped2 cc0_scoped3 cc0_scoped4)
          fun _ => iprop(go0 d L q z f mm rt (tableVal z f mm rt : Buf (Elt F) (pLoc d))
            ∗ scopedBufs (th0 d L) ∗ scopedSems0 (th0 d L)
            ∗ ∃ W', ⌜∀ p ∈ W', p ∈ W ∨ p.2 = none⌝ ∗ owes (th0 d L) O W') := by
  simp only [cc0__table_body_eq_skeleton]; unfold cc0__table_body_skel
  unfold go0
  rw [(K (F := F)).scopedBufs_V hF d (c0 L) (j0 L), SparseCore.Cfg.scopedSems0_V (Val := Elt F) d (c0 L) (j0 L), ownSems0_th0, ownBufs_th0]
  iintro ⟨#Hlv, -, ⟨Hz, Hf, Hm, Hr, Hp⟩, ⟨⟨%g0, H0⟩, ⟨%g1, H1⟩, ⟨%g2, H2⟩, ⟨%g3, H3⟩, ⟨%g4, H4⟩, Hbufs⟩, ⟨S0, S1, S2, S3, S4, Hsems⟩, HO⟩
  ihave Hmw := (show levAts (K (F := F)).L (K (F := F)).lev ⊢ Transfers.MayWaits (th0 d L) (default : HIx 2) O from
    (K (F := F)).mayWaits_none (thr := th0 d L) hO) $$ Hlv
  ihave Hz := (show (zLoc d ↦{q} z : sProp 𝕄) ⊢ ((zV).view.loc (th0 d L) ↦{q} z) from .rfl) $$ Hz
  ihave Hf := (show (fLoc d ↦{q} f : sProp 𝕄) ⊢ ((fV).view.loc (th0 d L) ↦{q} f) from .rfl) $$ Hf
  ihave Hm := (show (mLoc d ↦{q} mm : sProp 𝕄) ⊢ ((mV).view.loc (th0 d L) ↦{q} mm) from .rfl) $$ Hm
  ihave Hr := (show (rLoc d ↦{q} rt : sProp 𝕄) ⊢ ((rV).view.loc (th0 d L) ↦{q} rt) from .rfl) $$ Hr
  ihave Hp := (show (pLoc d ↦[(pK L).view.set]{fullShare} o : sProp 𝕄) ⊢ ((pK L).view.loc (th0 d L) ↦[(pK L).view.set]{fullShare} o) from .rfl) $$ Hp
  ihave H0 := (show ((th0 d L).loc cc0_scratch0 ↦{fullShare} g0 : sProp 𝕄) ⊢ ((bZ).view.loc (th0 d L) ↦{fullShare} g0) from .rfl) $$ H0
  ihave H1 := (show ((th0 d L).loc cc0_scratch1 ↦{fullShare} g1 : sProp 𝕄) ⊢ ((bF).view.loc (th0 d L) ↦{fullShare} g1) from .rfl) $$ H1
  ihave H2 := (show ((th0 d L).loc cc0_scratch2 ↦{fullShare} g2 : sProp 𝕄) ⊢ ((bM).view.loc (th0 d L) ↦{fullShare} g2) from .rfl) $$ H2
  ihave H3 := (show ((th0 d L).loc cc0_scratch3 ↦{fullShare} g3 : sProp 𝕄) ⊢ ((bR).view.loc (th0 d L) ↦{fullShare} g3) from .rfl) $$ H3
  ihave H4 := (show ((th0 d L).loc cc0_scratch4 ↦{fullShare} g4 : sProp 𝕄) ⊢ ((bP).view.loc (th0 d L) ↦{fullShare} g4) from .rfl) $$ H4
  sl_exec (disch := exact View.amount_pos _ _ (show 0 < S3136.numel by decide))
  ihave H0 := (show ((bZ).view.loc (th0 d L) ↦{fullShare} View.write (Elt F) (bZ).view g0 (tile0.sl.dma0_1 d L z) Finset.univ : sProp 𝕄)
      ⊢ ((bZ).view.loc (th0 d L) ↦{fullShare} stage0 L z) from
    Entails.of_eq (congrArg (fun g => ((bZ).view.loc (th0 d L) ↦{fullShare} g : sProp 𝕄)) ((View.write_whole_univ cc0_scratch0 g0 _).trans (staged0 (e := .i32) L z)))) $$ H0
  ihave H1 := (show ((bF).view.loc (th0 d L) ↦{fullShare} View.write (Elt F) (bF).view g1 (tile0.sl.dma0_2 d L f) Finset.univ : sProp 𝕄)
      ⊢ ((bF).view.loc (th0 d L) ↦{fullShare} stage0 L f) from
    Entails.of_eq (congrArg (fun g => ((bF).view.loc (th0 d L) ↦{fullShare} g : sProp 𝕄)) ((View.write_whole_univ cc0_scratch1 g1 _).trans (staged0 (e := .i32) L f)))) $$ H1
  ihave H2 := (show ((bM).view.loc (th0 d L) ↦{fullShare} View.write (Elt F) (bM).view g2 (tile0.sl.dma0_3 d L mm) Finset.univ : sProp 𝕄)
      ⊢ ((bM).view.loc (th0 d L) ↦{fullShare} stage0 L mm) from
    Entails.of_eq (congrArg (fun g => ((bM).view.loc (th0 d L) ↦{fullShare} g : sProp 𝕄)) ((View.write_whole_univ cc0_scratch2 g2 _).trans (staged0 (e := .i32) L mm)))) $$ H2
  ihave H3 := (show ((bR).view.loc (th0 d L) ↦{fullShare} View.write (Elt F) (bR).view g3 (tile0.sl.dma0 d rt) Finset.univ : sProp 𝕄)
      ⊢ ((bR).view.loc (th0 d L) ↦{fullShare} rt) from
    Entails.of_eq (congrArg (fun g => ((bR).view.loc (th0 d L) ↦{fullShare} g : sProp 𝕄)) (View.write_whole_univ cc0_scratch3 g3 rt))) $$ H3
  sl_for (inv0 d L (stage0 L z) (stage0 L f) (stage0 L mm) rt (stage0 L (tableVal z f mm rt))) $$ [H0 H1 H2 H3 H4]
  case region =>
    intro k _
    exact trip0 d L _ _ _ rt _ k (fun n => hz _) (fun n => hf _) fun n => rfl
  · unfold inv0
    isplitl [H0]; · iexact H0
    isplitl [H1]; · iexact H1
    isplitl [H2]; · iexact H2
    isplitl [H3]; · iexact H3
    iexists g4; isplitr
    · ipureintro; intro k hk; omega
    · iexact H4
  iintro %_ HI
  unfold inv0
  icases HI with ⟨H0, H1, H2, H3, %g, %hg, H4⟩
  sl_exec (disch := exact View.amount_pos _ _ (show 0 < S3136.numel by decide))
  sl_step
  ihave Hp := (out0 d L o (tableVal z f mm rt) (tile0.sl.dma0_4 d L g) fun x => hg x (by
    have := (x 0).isLt
    exact lt_of_lt_of_eq this (show 3136 = 16 * k0_t1_loop.trips by decide +kernel))) $$ Hp
  isplitl [Hz Hf Hm Hr Hp]
  · isplitl [Hz]; · iexact Hz
    isplitl [Hf]; · iexact Hf
    isplitl [Hm]; · iexact Hm
    isplitl [Hr]; · iexact Hr
    iexact Hp
  isplitl [H0 H1 H2 H3 H4 Hbufs]
  · isplitl [H0]; · iexists _; iexact H0
    isplitl [H1]; · iexists _; iexact H1
    isplitl [H2]; · iexists _; iexact H2
    isplitl [H3]; · iexists _; iexact H3
    isplitl [H4]; · iexists _; iexact H4
    iexact Hbufs
  isplitl [S0 S1 S2 S3 S4 Hsems]
  · isplitl [S0]; · iexact S0
    isplitl [S1]; · iexact S1
    isplitl [S2]; · iexact S2
    isplitl [S3]; · iexact S3
    isplitl [S4]; · iexact S4
    iexact Hsems
  iexists _; isplitr
  swap; · iexact HO
  ipureintro
  intro p hp
  simp only [Finset.mem_insert] at hp
  rcases hp with rfl | rfl | rfl | rfl | rfl | hp
  · exact Or.inr rfl
  · exact Or.inr rfl
  · exact Or.inr rfl
  · exact Or.inr rfl
  · exact Or.inr rfl
  · exact Or.inl hp

end Tile

end Cert.KernelIdeal.Pf

end
-- ==== Proof.IOwn.lean ====
/-
  What a pair task owns: its scratch buffers and semaphores, its row of the partial sums, its read shares.
-/
module

public import proofs.«01_k».proof.Proof.IEdge
public import proofs.«01_k».proof.Proof.ITable

@[expose] public section

set_option maxRecDepth 16384

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "tV" => (Memref.whole Cert.KernelIdeal.main_v4_scv : Memref Cert.KernelIdeal.sig Kind.scVector Space.hbm Cert.KernelIdeal.S100352 EltTy.i32)
local notation "iV" => (Memref.whole Cert.KernelIdeal.main_arg3_scv : Memref Cert.KernelIdeal.sig Kind.scVector Space.hbm Cert.KernelIdeal.S6400000 EltTy.i32)
local notation "jV" => (Memref.whole Cert.KernelIdeal.main_arg4_scv : Memref Cert.KernelIdeal.sig Kind.scVector Space.hbm Cert.KernelIdeal.S6400000 EltTy.i32)
local notation "dV" => (Memref.whole Cert.KernelIdeal.main_v6_scv : Memref Cert.KernelIdeal.sig Kind.scVector Space.hbm Cert.KernelIdeal.S6400000 EltTy.f32)
local notation "oV" => (Memref.whole Cert.KernelIdeal.main_v7_scv : Memref Cert.KernelIdeal.sig Kind.scVector Space.hbm Cert.KernelIdeal.S32x1024 EltTy.f32)
local notation "bT" => (Memref.whole Cert.KernelIdeal.cc2_scratch0 : Memref Cert.KernelIdeal.sig Kind.scVector Space.vmem Cert.KernelIdeal.S100352 EltTy.i32)
local notation "bA" => (Memref.whole Cert.KernelIdeal.cc2_scratch1 : Memref Cert.KernelIdeal.sig Kind.scVector Space.vmem Cert.KernelIdeal.S16x1024 EltTy.f32)
local notation "bI0" => (Memref.whole Cert.KernelIdeal.cc2_scratch2 : Memref Cert.KernelIdeal.sig Kind.scVector Space.vmem Cert.KernelIdeal.S2000 EltTy.i32)
local notation "bJ0" => (Memref.whole Cert.KernelIdeal.cc2_scratch3 : Memref Cert.KernelIdeal.sig Kind.scVector Space.vmem Cert.KernelIdeal.S2000 EltTy.i32)
local notation "bD0" => (Memref.whole Cert.KernelIdeal.cc2_scratch4 : Memref Cert.KernelIdeal.sig Kind.scVector Space.vmem Cert.KernelIdeal.S2000 EltTy.f32)
local notation "bI1" => (Memref.whole Cert.KernelIdeal.cc2_scratch5 : Memref Cert.KernelIdeal.sig Kind.scVector Space.vmem Cert.KernelIdeal.S2000 EltTy.i32)
local notation "bJ1" => (Memref.whole Cert.KernelIdeal.cc2_scratch6 : Memref Cert.KernelIdeal.sig Kind.scVector Space.vmem Cert.KernelIdeal.S2000 EltTy.i32)
local notation "bD1" => (Memref.whole Cert.KernelIdeal.cc2_scratch7 : Memref Cert.KernelIdeal.sig Kind.scVector Space.vmem Cert.KernelIdeal.S2000 EltTy.f32)
local notation "bW" => (Memref.whole Cert.KernelIdeal.cc2_scratch8 : Memref Cert.KernelIdeal.sig Kind.scVector Space.vmem Cert.KernelIdeal.S1024 EltTy.f32)

section Tile
variable (d : Dev nD) (L : grid2.Coords)

abbrev iLoc (d : Dev nD) : Loc nD τ sig := (SparseCore.T d).loc main_arg3
abbrev jLoc (d : Dev nD) : Loc nD τ sig := (SparseCore.T d).loc main_arg4
abbrev dLoc (d : Dev nD) : Loc nD τ sig := (SparseCore.T d).loc main_v6
abbrev oLoc (d : Dev nD) : Loc nD τ sig := (SparseCore.T d).loc main_v7
abbrev pr2 (L : grid2.Coords) : Proc τ := Proc.scVector (c2 L) (j2 L)

theorem trips1 : k2_t1_loop.trips = 64 := by decide +kernel
theorem trips5 : k2_t5_loop.trips = 64 := by decide +kernel

/-- The task's row of the partial sums, as the body addresses it. -/
abbrev oK (L : grid2.Coords) : Memref sig .scVector .hbm S1024 .f32 :=
  ((oV).slice (Rect.unit (s := S32x1024) (k2_off39 L) S1x1024.size (k2_off39_inb L)) (fun _ => rfl)).squeeze S1024 squeezes_S1x1024_S1024

theorem ownSems0_th2 :
    (ownSems0 (th2 d L) : sProp 𝕄)
      = iprop(semVal (th2 d L, .dma cc2_scratch9.sem) 0 ∗ semVal (th2 d L, .dma cc2_scratch10.sem) 0 ∗ semVal (th2 d L, .dma cc2_scoped0.sem) 0 ∗ semVal (th2 d L, .dma cc2_scoped1.sem) 0
          ∗ bigSep (ownCells (th2 d L) \ [(th2 d L, .dma cc2_scratch9.sem), (th2 d L, .dma cc2_scratch10.sem), (th2 d L, .dma cc2_scoped0.sem), (th2 d L, .dma cc2_scoped1.sem)].toFinset) fun g => semVal g 0) := by
  unfold SparseCore.Cfg.ownSems0
  refine bigSep_peel (fun g : GSem nD τ sig => semVal g 0) [(th2 d L, .dma cc2_scratch9.sem), (th2 d L, .dma cc2_scratch10.sem), (th2 d L, .dma cc2_scoped0.sem), (th2 d L, .dma cc2_scoped1.sem)] _ ?_ ?_
  · refine List.Nodup.map (f := fun s : SemLoc sig => ((th2 d L, s) : GSem nD τ sig)) (l := [.dma cc2_scratch9.sem, .dma cc2_scratch10.sem, .dma cc2_scoped0.sem, .dma cc2_scoped1.sem]) (fun a b h => (Prod.mk.inj h).2) (by decide)
  · intro x hx
    obtain ⟨s, hs, rfl⟩ := List.mem_map.mp (show x ∈ List.map (fun s : SemLoc sig => ((th2 d L, s) : GSem nD τ sig)) [.dma cc2_scratch9.sem, .dma cc2_scratch10.sem, .dma cc2_scoped0.sem, .dma cc2_scoped1.sem] from hx)
    exact mem_ownCells.mpr ⟨rfl, (by decide : ∀ s ∈ ([.dma cc2_scratch9.sem, .dma cc2_scratch10.sem, .dma cc2_scoped0.sem, .dma cc2_scoped1.sem] : List (SemLoc sig)), s.isScoped .scVector = true) s hs⟩

set_option maxHeartbeats 2000000 in
theorem ownBufs_th2 :
    (ownBufs (th2 d L) : sProp 𝕄)
      = iprop((∃ f, (th2 d L).loc cc2_scratch0 ↦{fullShare} f) ∗ (∃ f, (th2 d L).loc cc2_scratch1 ↦{fullShare} f) ∗ (∃ f, (th2 d L).loc cc2_scratch2 ↦{fullShare} f) ∗ (∃ f, (th2 d L).loc cc2_scratch3 ↦{fullShare} f) ∗ (∃ f, (th2 d L).loc cc2_scratch4 ↦{fullShare} f) ∗ (∃ f, (th2 d L).loc cc2_scratch5 ↦{fullShare} f) ∗ (∃ f, (th2 d L).loc cc2_scratch6 ↦{fullShare} f) ∗ (∃ f, (th2 d L).loc cc2_scratch7 ↦{fullShare} f) ∗ (∃ f, (th2 d L).loc cc2_scratch8 ↦{fullShare} f)
          ∗ bigSep (ownRefs (τ := τ) (pr2 L) \ [(pr2 L).devRef cc2_scratch0, (pr2 L).devRef cc2_scratch1, (pr2 L).devRef cc2_scratch2, (pr2 L).devRef cc2_scratch3, (pr2 L).devRef cc2_scratch4, (pr2 L).devRef cc2_scratch5, (pr2 L).devRef cc2_scratch6, (pr2 L).devRef cc2_scratch7, (pr2 L).devRef cc2_scratch8].toFinset) fun b => iprop(∃ f, ((d, b) : Loc nD τ sig) ↦{fullShare} f)) := by
  unfold SparseCore.Cfg.ownBufs
  refine bigSep_peel (fun b : DevRef τ sig => iprop(∃ f, ((d, b) : Loc nD τ sig) ↦{fullShare} f)) [(pr2 L).devRef cc2_scratch0, (pr2 L).devRef cc2_scratch1, (pr2 L).devRef cc2_scratch2, (pr2 L).devRef cc2_scratch3, (pr2 L).devRef cc2_scratch4, (pr2 L).devRef cc2_scratch5, (pr2 L).devRef cc2_scratch6, (pr2 L).devRef cc2_scratch7, (pr2 L).devRef cc2_scratch8] _ ?_ ?_
  · exact List.Nodup.map (f := fun r : Ref sig .scVector => (pr2 L).devRef r) (l := [cc2_scratch0, cc2_scratch1, cc2_scratch2, cc2_scratch3, cc2_scratch4, cc2_scratch5, cc2_scratch6, cc2_scratch7, cc2_scratch8])
      (fun _ _ e => Proc.devRef_injective _ e) (by decide)
  · intro x hx
    simp only [List.mem_cons, List.not_mem_nil, _root_.or_false] at hx
    rcases hx with rfl | rfl | rfl | rfl | rfl | rfl | rfl | rfl | rfl <;> exact SparseCore.Cfg.mem_ownRefs_of_owner (p := pr2 L) rfl

theorem oK_emb (x : S1024.Idx) : (oK L).view.emb x = at2 32 1024 (wid2 L) (x 0).val := by
  have hL0 : (L 0).val < 2 := (L 0).isLt
  have hL1 : (L 1).val < 16 := (L 1).isLt
  have e : Shape.reshapeEquiv (squeezes_S1x1024_S1024 : S1x1024.Squeezes S1024).numel_eq x = (Fin.cons ⟨0, Nat.one_pos⟩ x : S1x1024.Idx) :=
    shapeCast_dropUnit_apply (n := 1) ![1024] (fun i : S1x1024.Idx => i) _ x
  have hx : (x 0).val < 1024 := (x 0).isLt
  show (Rect.unit (s := S32x1024) (k2_off39 L) S1x1024.size (k2_off39_inb L)).emb (Shape.reshapeEquiv _ x) = _
  rw [e]
  have h := Rect.emb_apply (Rect.unit (s := S32x1024) (k2_off39 L) S1x1024.size (k2_off39_inb L)) (Fin.cons ⟨0, Nat.one_pos⟩ x : S1x1024.Idx)
  refine idx2_ext ?_ ?_
  · rw [h, at2_val0 (by decide) (by decide) (show wid2 L < 32 by unfold wid2; omega)]
    rw [show (Rect.unit (s := S32x1024) (k2_off39 L) S1x1024.size (k2_off39_inb L)).off 0 = 2 * (L 1).val + (L 0).val from congrFun (k2_off39_eq L) 0]
    rfl
  · rw [h, at2_val1 (by decide) (by decide) hx]
    rw [show (Rect.unit (s := S32x1024) (k2_off39 L) S1x1024.size (k2_off39_inb L)).off 1 = 0 from congrFun (k2_off39_eq L) 1]
    show 0 + 1 * (x 0).val = _
    omega

variable [FloatOps F]

/-- The row once its copy has landed, at one function of the whole array. -/
theorem out2 (o G : Buf (Elt F) (oLoc d)) (w : S1024.Idx → Elt F .f32) (hw : ∀ x : S1024.Idx, w x = G (at2 32 1024 (wid2 L) (x 0).val)) :
    ((oK L).view.loc (th2 d L) ↦[(oK L).view.set]{fullShare} (oK L).view.writes (Elt F) o [⟨Rect.whole S1024, w⟩] : sProp 𝕄)
      ⊢ (oLoc d ↦[(oK L).view.set]{fullShare} G) := by
  refine Entails.of_eq (pointsTo_congr fun i hi => ?_)
  obtain ⟨x, -, rfl⟩ := Finset.mem_map.mp hi
  refine (landed_at (Val := Elt F) (oK L).view o w x).trans ?_
  exact (hw x).trans (congrArg G (oK_emb L x)).symm

/-- What the pair call hands one task: read shares of the operands, its row of the result. -/
def go2 (d : Dev nD) (L : grid2.Coords) (q : PosShare TreeShare) (pk : Buf (Elt F) (pLoc d)) (ii jj : Buf (Elt F) (iLoc d)) (dd : Buf (Elt F) (dLoc d)) (o : Buf (Elt F) (oLoc d)) : sProp 𝕄 :=
  iprop((pLoc d ↦{q} pk) ∗ (iLoc d ↦{q} ii) ∗ (jLoc d ↦{q} jj) ∗ (dLoc d ↦{q} dd) ∗ (oLoc d ↦[(oK L).view.set]{fullShare} o))

/-- A program that goes on to return, continued. -/
theorem seq_pure_eq {E : Type → Type} {α β γ : Type} (x : Prog E α) (a : β) (g : β → Prog E γ) :
    (x >>= fun _ => (pure a : Prog E β)).bind g = x >>= fun _ => g a :=
  bind_assoc x _ g

end Tile

end Cert.KernelIdeal.Pf

end
-- ==== Proof.ITile.lean ====
/-
  The pair call's task as a whole: from read shares of the table and the pair arrays to its row of partial sums.
-/
module

public import proofs.«01_k».proof.Proof.IOwn

@[expose] public section

set_option maxRecDepth 16384

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "tV" => (Memref.whole Cert.KernelIdeal.main_v4_scv : Memref Cert.KernelIdeal.sig Kind.scVector Space.hbm Cert.KernelIdeal.S100352 EltTy.i32)
local notation "iV" => (Memref.whole Cert.KernelIdeal.main_arg3_scv : Memref Cert.KernelIdeal.sig Kind.scVector Space.hbm Cert.KernelIdeal.S6400000 EltTy.i32)
local notation "jV" => (Memref.whole Cert.KernelIdeal.main_arg4_scv : Memref Cert.KernelIdeal.sig Kind.scVector Space.hbm Cert.KernelIdeal.S6400000 EltTy.i32)
local notation "dV" => (Memref.whole Cert.KernelIdeal.main_v6_scv : Memref Cert.KernelIdeal.sig Kind.scVector Space.hbm Cert.KernelIdeal.S6400000 EltTy.f32)
local notation "oV" => (Memref.whole Cert.KernelIdeal.main_v7_scv : Memref Cert.KernelIdeal.sig Kind.scVector Space.hbm Cert.KernelIdeal.S32x1024 EltTy.f32)
local notation "bT" => (Memref.whole Cert.KernelIdeal.cc2_scratch0 : Memref Cert.KernelIdeal.sig Kind.scVector Space.vmem Cert.KernelIdeal.S100352 EltTy.i32)
local notation "bA" => (Memref.whole Cert.KernelIdeal.cc2_scratch1 : Memref Cert.KernelIdeal.sig Kind.scVector Space.vmem Cert.KernelIdeal.S16x1024 EltTy.f32)
local notation "bI0" => (Memref.whole Cert.KernelIdeal.cc2_scratch2 : Memref Cert.KernelIdeal.sig Kind.scVector Space.vmem Cert.KernelIdeal.S2000 EltTy.i32)
local notation "bJ0" => (Memref.whole Cert.KernelIdeal.cc2_scratch3 : Memref Cert.KernelIdeal.sig Kind.scVector Space.vmem Cert.KernelIdeal.S2000 EltTy.i32)
local notation "bD0" => (Memref.whole Cert.KernelIdeal.cc2_scratch4 : Memref Cert.KernelIdeal.sig Kind.scVector Space.vmem Cert.KernelIdeal.S2000 EltTy.f32)
local notation "bI1" => (Memref.whole Cert.KernelIdeal.cc2_scratch5 : Memref Cert.KernelIdeal.sig Kind.scVector Space.vmem Cert.KernelIdeal.S2000 EltTy.i32)
local notation "bJ1" => (Memref.whole Cert.KernelIdeal.cc2_scratch6 : Memref Cert.KernelIdeal.sig Kind.scVector Space.vmem Cert.KernelIdeal.S2000 EltTy.i32)
local notation "bD1" => (Memref.whole Cert.KernelIdeal.cc2_scratch7 : Memref Cert.KernelIdeal.sig Kind.scVector Space.vmem Cert.KernelIdeal.S2000 EltTy.f32)
local notation "bW" => (Memref.whole Cert.KernelIdeal.cc2_scratch8 : Memref Cert.KernelIdeal.sig Kind.scVector Space.vmem Cert.KernelIdeal.S1024 EltTy.f32)

section Tile
variable (d : Dev nD) (L : grid2.Coords)
variable [FloatOps F]

set_option maxHeartbeats 1000000 in
theorem tile2 (hF : (K (F := F)).Facts) (O : CellTallies nD τ sig (HIx 2)) (W : Waits sig (HIx 2)) (hO : ∀ g, O g none = 0)
    (q : PosShare TreeShare) (pk : Buf (Elt F) (pLoc d)) (ii jj : Buf (Elt F) (iLoc d)) (dd : Buf (Elt F) (dLoc d)) (o : Buf (Elt F) (oLoc d))
    (hi : ∀ n, (ii n).toNat < 100352) (hj : ∀ n, (jj n).toNat < 100352) :
    iprop(levAts (K (F := F)).L (K (F := F)).lev ∗ emp
        ∗ go2 d L q pk ii jj dd o
        ∗ scopedBufs (th2 d L) ∗ scopedSems0 (th2 d L) ∗ owes (th2 d L) O W)
      ⊢ wp frame (wpE (defs₀ (F := F)) 𝒱₀ (th2 d L) none) Set.univ
          (cc2__edge_body L tV (Memref.isWhole_whole _) iV (Memref.isWhole_whole _) jV (Memref.isWhole_whole _) dV (Memref.isWhole_whole _) oV (Memref.isWhole_whole _) bT (Memref.isWhole_whole _) bA (Memref.isWhole_whole _) bI0 (Memref.isWhole_whole _) bJ0 (Memref.isWhole_whole _) bD0 (Memref.isWhole_whole _) bI1 (Memref.isWhole_whole _) bJ1 (Memref.isWhole_whole _) bD1 (Memref.isWhole_whole _) bW (Memref.isWhole_whole _) cc2_scratch9 cc2_scratch10 cc2_scoped0 cc2_scoped1)
          fun _ => iprop(go2 d L q pk ii jj dd (partialVal pk ii jj dd : Buf (Elt F) (oLoc d))
            ∗ scopedBufs (th2 d L) ∗ scopedSems0 (th2 d L)
            ∗ ∃ W', ⌜∀ p ∈ W', p ∈ W ∨ p.2 = none⌝ ∗ owes (th2 d L) O W') := by
  have ho17 : k2_off17 L = ![200000 * wid2 L + 2000 * (2 * 0)] := by
    rw [k2_off17_eq]; unfold wid2; congr 1; omega
  simp only [cc2__edge_body_eq_skeleton]; unfold cc2__edge_body_skel
  simp only [k2_part4_eq_skeleton]; unfold k2_part4_skel
  unfold go2
  rw [(K (F := F)).scopedBufs_V hF d (c2 L) (j2 L), SparseCore.Cfg.scopedSems0_V (Val := Elt F) d (c2 L) (j2 L), ownSems0_th2, ownBufs_th2]
  iintro ⟨#Hlv, -, ⟨Hp, Hi, Hj, Hd, Ho⟩, ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, Hbufs⟩, ⟨S9, S10, Sa, Sb, Hsems⟩, HO⟩
  ihave #Hmw := (show levAts (K (F := F)).L (K (F := F)).lev ⊢ Transfers.MayWaits (th2 d L) (default : HIx 2) O from
    (K (F := F)).mayWaits_none (thr := th2 d L) hO) $$ Hlv
  ihave Hp := (show (pLoc d ↦{q} pk : sProp 𝕄) ⊢ ((tV).view.loc (th2 d L) ↦{q} pk) from .rfl) $$ Hp
  ihave H0 := (show ((th2 d L).loc cc2_scratch0 ↦{fullShare} g0 : sProp 𝕄) ⊢ ((bT).view.loc (th2 d L) ↦{fullShare} g0) from .rfl) $$ H0
  ihave H1 := (show ((th2 d L).loc cc2_scratch1 ↦{fullShare} g1 : sProp 𝕄) ⊢ ((bA).view.loc (th2 d L) ↦{fullShare} g1) from .rfl) $$ H1
  ihave H8 := (show ((th2 d L).loc cc2_scratch8 ↦{fullShare} g8 : sProp 𝕄) ⊢ ((bW).view.loc (th2 d L) ↦{fullShare} g8) from .rfl) $$ H8
  ihave Ho := (show (oLoc d ↦[(oK L).view.set]{fullShare} o : sProp 𝕄) ⊢ ((oK L).view.loc (th2 d L) ↦[(oK L).view.set]{fullShare} o) from .rfl) $$ Ho
  sl_exec (disch := exact View.amount_pos _ _ (show 0 < S100352.numel by decide))
  ihave H0 := (show ((bT).view.loc (th2 d L) ↦{fullShare} View.write (Elt F) (bT).view g0 (tile2.sl.dma0 d pk) Finset.univ : sProp 𝕄)
      ⊢ ((bT).view.loc (th2 d L) ↦{fullShare} pk) from
    Entails.of_eq (congrArg (fun g => ((bT).view.loc (th2 d L) ↦{fullShare} g : sProp 𝕄)) (View.write_whole_univ cc2_scratch0 g0 pk))) $$ H0
  rw [bind_assoc]
  sl_for (inv1 d L) $$ [H1]
  case region =>
    intro k _
    exact trip1 d L k
  · unfold inv1
    iexists g1; isplitr
    · ipureintro; intro k hk; omega
    · iexact H1
  iintro %_ HI
  unfold inv1
  icases HI with ⟨%ga, %hga, H1⟩
  ihave H1 := (show ((bA).view.loc (th2 d L) ↦{fullShare} ga : sProp 𝕄) ⊢ ((bA).view.loc (th2 d L) ↦{fullShare} accV pk ii jj dd (wid2 L) (250 * 0)) from
    Entails.of_eq (congrArg (fun g => ((bA).view.loc (th2 d L) ↦{fullShare} g : sProp 𝕄)) (funext fun j => hga j (by
      show (j 1).val < 16 * k2_t1_loop.trips
      rw [trips1]; exact (j 1).isLt)))) $$ H1
  ihave Hi := (show (iLoc d ↦{q} ii : sProp 𝕄) ⊢ ((iV).view.loc (th2 d L) ↦{q} ii) from .rfl) $$ Hi
  ihave Hi := (pointsTo_share (ℓ := (iV).view.loc (th2 d L)) (f := ii) (PosShare.mem_left_op_right q)).1 $$ Hi
  ihave Hj := (show (jLoc d ↦{q} jj : sProp 𝕄) ⊢ ((jV).view.loc (th2 d L) ↦{q} jj) from .rfl) $$ Hj
  ihave Hj := (pointsTo_share (ℓ := (jV).view.loc (th2 d L)) (f := jj) (PosShare.mem_left_op_right q)).1 $$ Hj
  ihave Hd := (show (dLoc d ↦{q} dd : sProp 𝕄) ⊢ ((dV).view.loc (th2 d L) ↦{q} dd) from .rfl) $$ Hd
  ihave Hd := (pointsTo_share (ℓ := (dV).view.loc (th2 d L)) (f := dd) (PosShare.mem_left_op_right q)).1 $$ Hd
  icases Hi with ⟨Hi0, Hi1⟩
  icases Hj with ⟨Hj0, Hj1⟩
  icases Hd with ⟨Hd0, Hd1⟩
  iapply (issue0 d L q.left ii jj dd (2 * 0) (k2_off17_inb L) ho17) $$ [Hi0 Hj0 Hd0 H2 H3 H4 S9]
  · unfold rest0
    isplitl [Hi0]; · iexact Hi0
    isplitl [Hj0]; · iexact Hj0
    isplitl [Hd0]; · iexact Hd0
    isplitl [H2]; · iexists _; iexact H2
    isplitl [H3]; · iexists _; iexact H3
    isplitl [H4]; · iexists _; iexact H4
    iexact S9
  iintro Hf0
  dsimp only [ret_bind_eq]
  rw [seq_bind_eq]
  sl_for (inv2 d L q.left q.right pk ii jj dd O W) $$ [HO Hf0 Hi1 Hj1 Hd1 H5 H6 H7 S10 H0 H1]
  case region =>
    intro k _
    exact trip2 d L _ _ q.left q.right pk ii jj dd O W k hi hj
  · unfold inv2
    isplitr; · iexact Hmw
    isplitl [HO]
    · iexists _; isplitr
      swap; · iexact HO
      ipureintro
      intro p hp
      simp only [Finset.mem_insert] at hp
      rcases hp with rfl | hp
      · exact Or.inr rfl
      · exact Or.inl hp
    rw [if_pos (show (0 : ℕ) < 50 by decide)]
    isplitl [Hf0]; · iexact Hf0
    isplitl [Hi1 Hj1 Hd1 H5 H6 H7 S10]
    · unfold rest1
      isplitl [Hi1]; · iexact Hi1
      isplitl [Hj1]; · iexact Hj1
      isplitl [Hd1]; · iexact Hd1
      isplitl [H5]; · iexists _; iexact H5
      isplitl [H6]; · iexists _; iexact H6
      isplitl [H7]; · iexists _; iexact H7
      iexact S10
    isplitl [H0]; · iexact H0
    iexact H1
  iintro %_ HI
  unfold inv2
  rw [if_neg (show ¬ k2_t2_loop.trips < 50 by rw [trips2]; omega)]
  unfold rest0 rest1
  icases HI with ⟨-, ⟨%W1, %hW1, HO⟩, ⟨Hi0, Hj0, Hd0, ⟨%b2, H2⟩, ⟨%b3, H3⟩, ⟨%b4, H4⟩, S9⟩, ⟨Hi1, Hj1, Hd1, ⟨%b5, H5⟩, ⟨%b6, H6⟩, ⟨%b7, H7⟩, S10⟩, H0, H1⟩
  sl_respell []
  rw [seq_bind_eq]
  sl_for (inv5 d L (accV pk ii jj dd (wid2 L) (250 * k2_t2_loop.trips))) $$ [H1 H8]
  case region =>
    intro k _
    exact trip5 d L _ k
  · unfold inv5
    isplitl [H1]; · iexact H1
    iexists g8; isplitr
    · ipureintro; intro k hk; omega
    · iexact H8
  iintro %_ HI
  unfold inv5
  icases HI with ⟨H1, %gw, %hgw, H8⟩
  sl_respell []
  rw [seq_pure_eq]
  ihave Ho := (show (oLoc d ↦[(oK L).view.set]{fullShare} o : sProp 𝕄) ⊢ ((oK L).view.loc (th2 d L) ↦[(oK L).view.set]{fullShare} o) from .rfl) $$ Ho
  ihave H8 := (show ((th2 d L).loc cc2_scratch8 ↦{fullShare} gw : sProp 𝕄) ⊢ ((bW).view.loc (th2 d L) ↦{fullShare} gw) from .rfl) $$ H8
  ihave Sb := (show (semVal (th2 d L, .dma cc2_scoped1.sem) 0 : sProp 𝕄) ⊢ (semVal (th2 d L, .dma cc2_scoped1.sem) 0) from .rfl) $$ Sb
  sl_exec (disch := exact View.amount_pos _ _ (show 0 < S1024.numel by decide))
  sl_step
  ihave Ho := (out2 d L o (partialVal pk ii jj dd) (tile2.sl.dma0_1 gw) fun x => by
    have hL0 : (L 0).val < 2 := (L 0).isLt
    have hL1 : (L 1).val < 16 := (L 1).isLt
    have hx : (x 0).val < 1024 := (x 0).isLt
    refine (hgw x (by show (x 0).val < 16 * k2_t5_loop.trips; rw [trips5]; omega)).trans ?_
    unfold partialVal
    rw [at2_val0 (by decide) (by decide) (show wid2 L < 32 by unfold wid2; omega), at2_val1 (by decide) (by decide) hx, trips2]) $$ Ho
  ihave Hi := (pointsTo_share (ℓ := (iV).view.loc (th2 d L)) (f := ii) (PosShare.mem_left_op_right q)).2 $$ [Hi0 Hi1]
  · isplitl [Hi0]; · iexact Hi0
    iexact Hi1
  ihave Hj := (pointsTo_share (ℓ := (jV).view.loc (th2 d L)) (f := jj) (PosShare.mem_left_op_right q)).2 $$ [Hj0 Hj1]
  · isplitl [Hj0]; · iexact Hj0
    iexact Hj1
  ihave Hd := (pointsTo_share (ℓ := (dV).view.loc (th2 d L)) (f := dd) (PosShare.mem_left_op_right q)).2 $$ [Hd0 Hd1]
  · isplitl [Hd0]; · iexact Hd0
    iexact Hd1
  isplitl [Hp Hi Hj Hd Ho]
  · isplitl [Hp]; · iexact Hp
    isplitl [Hi]; · iexact Hi
    isplitl [Hj]; · iexact Hj
    isplitl [Hd]; · iexact Hd
    iexact Ho
  isplitl [H0 H1 H2 H3 H4 H5 H6 H7 H8 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexact Hbufs
  isplitl [S9 S10 Sa Sb Hsems]
  · isplitl [S9]; · iexact S9
    isplitl [S10]; · iexact S10
    isplitl [Sa]; · iexact Sa
    isplitl [Sb]; · iexact Sb
    iexact Hsems
  iexists _; isplitr
  swap; · iexact HO
  ipureintro
  intro p hp
  simp only [Finset.mem_insert] at hp
  rcases hp with rfl | hp
  · exact Or.inr rfl
  · exact hW1 p hp

end Tile

end Cert.KernelIdeal.Pf

end
-- ==== Proof.IRegion.lean ====
/-
  The two TensorCore calls: their bodies run once each, what they leave in their result arrays, and each as a
  step of the main thread, the bound on the waits it has recorded carried across. Generic in the float instance.
-/
module

public import proofs.«01_k».proof.Proof.ICommon
public import Idealize.ShloMosaic.Lib.Pipeline.RegionArraysS
public import Idealize.ShloMosaic.Lib.Pipeline.ValueKit

@[expose] public section

noncomputable section

namespace Cert.KernelIdeal.Pf

open Cert.KernelIdeal Cert.KernelIdeal.Gen
open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 2) (Elt F) ℕ UU ℕ

/-! ## The bodies -/

section Whole
variable {κ : Kind} {Val : EltTy → Type} {sp : Space} {e : EltTy}

theorem read1 {n : ℕ} (v : View sig κ sp ⟨1, ![n]⟩ e) (f : v.ty.Contents Val) (inb : ∀ a, (![0] : Fin 1 → ℕ) a + (⟨1, ![n]⟩ : Shape).size a ≤ (⟨1, ![n]⟩ : Shape).size a)
    (w : (⟨1, ![n]⟩ : Shape).Idx → Val e) :
    v.read Val (v.writes Val f [⟨Rect.unit (s := ⟨1, ![n]⟩) ![0] (⟨1, ![n]⟩ : Shape).size inb, w⟩]) = w := by
  funext y
  have hy : (Rect.unit (s := (⟨1, ![n]⟩ : Shape)) ![0] (⟨1, ![n]⟩ : Shape).size inb).emb y = y := by
    refine idx1_ext ?_
    rw [Rect.emb_apply]
    simp [Rect.unit]
  conv_lhs => rw [← hy]
  exact View.read_writes_cons_emb ..

theorem load2 {n n' : ℕ} (v : View sig κ sp ⟨2, ![n, n']⟩ e) (f : v.ty.Contents Val)
    (inb : ∀ a, (![0, 0] : Fin 2 → ℕ) a + (⟨2, ![n, n']⟩ : Shape).size a ≤ (⟨2, ![n, n']⟩ : Shape).size a) :
    v.readAt Val (Rect.unit (s := ⟨2, ![n, n']⟩) ![0, 0] (⟨2, ![n, n']⟩ : Shape).size inb).toLoadRect f = v.read Val f := by
  funext y
  have hy : (Rect.unit (s := (⟨2, ![n, n']⟩ : Shape)) ![0, 0] (⟨2, ![n, n']⟩ : Shape).size inb).emb y = y := by
    refine idx2_ext ?_ ?_ <;>
    · rw [Rect.emb_apply]
      simp [Rect.unit]
  conv_rhs => rw [← hy]
  rfl

end Whole

theorem body1 (c : Dev nD) (i : grid1.Coords) (M0 : Memref sig .tc .vmem S3x51200 .f32) (h0 : M0.IsWhole) (M1 : Memref sig .tc .vmem S51200 .f32) (h1 : M1.IsWhole)
    (X0 : Vec F S3x51200 .f32) (X1 : Vec F S51200 .f32) (Q : PUnit → sProp 𝕄) :
    (iprop(owns (SparseCore.T c) M0 fullShare X0 ∗ owns (SparseCore.T c) M1 fullShare X1
      ∗ (iprop(owns (SparseCore.T c) M0 fullShare X0 ∗ owns (SparseCore.T c) M1 fullShare (k1_pay1 X0)) -∗ Q ⟨⟩)) : sProp 𝕄)
      ⊢ wp frame (wpE (defs₀ (F := F)) 𝒱₀ (SparseCore.T c) none) Set.univ (cc1__d2_body i M0 h0 M1 h1) Q := by
  simp only [cc1__d2_body_eq_skeleton]
  unfold cc1__d2_body_skel owns
  rw [h0.set_eq_univ, h1.set_eq_univ]
  iintro ⟨⟨%f0, %e0, H0⟩, ⟨%f1, -, H1⟩, Hk⟩
  subst e0
  sl_exec
  sl_step
  iapply Hk
  isplitl [H0]
  · iexists _
    isplitr; swap; (· iexact H0)
    ipureintro; rfl
  iexists _
  isplitr; swap; (· iexact H1)
  ipureintro
  rw [read1, load2]

theorem body3 (c : Dev nD) (M0 : Memref sig .tc .vmem S32x1024 .f32) (h0 : M0.IsWhole) (M1 : Memref sig .tc .vmem S1024 .f32) (h1 : M1.IsWhole)
    (X0 : Vec F S32x1024 .f32) (X1 : Vec F S1024 .f32) (Q : PUnit → sProp 𝕄) :
    (iprop(owns (SparseCore.T c) M0 fullShare X0 ∗ owns (SparseCore.T c) M1 fullShare X1
      ∗ (iprop(owns (SparseCore.T c) M0 fullShare X0 ∗ owns (SparseCore.T c) M1 fullShare (k3_pay1 X0)) -∗ Q ⟨⟩)) : sProp 𝕄)
      ⊢ wp frame (wpE (defs₀ (F := F)) 𝒱₀ (SparseCore.T c) none) Set.univ (cc3__reduce_body M0 h0 M1 h1) Q := by
  simp only [cc3__reduce_body_eq_skeleton]
  unfold cc3__reduce_body_skel owns
  rw [h0.set_eq_univ, h1.set_eq_univ]
  iintro ⟨⟨%f0, %e0, H0⟩, ⟨%f1, -, H1⟩, Hk⟩
  subst e0
  sl_exec
  sl_step
  iapply Hk
  isplitl [H0]
  · iexists _
    isplitr; swap; (· iexact H0)
    ipureintro; rfl
  iexists _
  isplitr; swap; (· iexact H1)
  ipureintro
  rw [read1, load2]

/-! ## The proof data, at the contents `V` of every buffer and before SparseCore call `n` -/

variable (V : Valuation τ sig (Elt F))

/-- The waits the main thread may have recorded before SparseCore call `n`. -/
def recd (n : ℕ) (c : Dev nD) : Set (SemLoc sig × HIx 2) := {p | (K (F := F)).lev (SparseCore.T c, p.1) p.2 ≤ 8 * n}

def dat1 (c : Dev nD) : Dat τ (Elt F) (HIx 2) ℕ UU ℕ cfg1 c where
  A w := V (Proc.devRef .tc (Pipeline.arrRef spec1 w))
  after w t := match w with
    | ⟨0, _⟩ => ((cfg1.win 0).blk t).view.read (Elt F) (V (Proc.devRef .tc main_v5))
    | ⟨1, _⟩ => k1_pay1 (F := F) (((cfg1.win 0).blk t).view.read (Elt F) (V (Proc.devRef .tc main_v5)))
  Φ _ := Pipeline.scopedRest spec1 c
  q _ := fullShare
  owed _ := (K (F := F)).Otc c 1
  recorded _ := recd (F := F) 1 c

def dat3 (c : Dev nD) : Dat τ (Elt F) (HIx 2) ℕ UU ℕ cfg3 c where
  A w := V (Proc.devRef .tc (Pipeline.arrRef spec3 w))
  after w t := match w with
    | ⟨0, _⟩ => ((cfg3.win 0).blk t).view.read (Elt F) (V (Proc.devRef .tc main_v7))
    | ⟨1, _⟩ => k3_pay1 (F := F) (((cfg3.win 0).blk t).view.read (Elt F) (V (Proc.devRef .tc main_v7)))
  Φ _ := Pipeline.scopedRest spec3 c
  q _ := fullShare
  owed _ := (K (F := F)).Otc c 2
  recorded _ := recd (F := F) 2 c

theorem before1 (c : Dev nD) (t : Fin cfg1.N) (d : (cfg1.win 0).block.Idx → Elt F (cfg1.win 0).elt) :
    (dat1 V c).before 0 t d = ((cfg1.win 0).blk t).view.read (Elt F) (V (Proc.devRef .tc main_v5)) := by
  unfold Dat.before; rw [if_pos (fetch1_0 t)]; rfl

theorem before3 (c : Dev nD) (t : Fin cfg3.N) (d : (cfg3.win 0).block.Idx → Elt F (cfg3.win 0).elt) :
    (dat3 V c).before 0 t d = ((cfg3.win 0).blk t).view.read (Elt F) (V (Proc.devRef .tc main_v7)) := by
  unfold Dat.before; rw [if_pos (fetch3_0 t)]; rfl

theorem obl1 (c : Dev nD) : BodyObligation (dat1 V c) (defs₀ (F := F)) 𝒱₀ none Set.univ := fun t => by
  rw [bigSep_W1, bigSep_W1]
  rw [show (dat1 V c).Φ t.succ = (dat1 V c).Φ t.castSucc from rfl,
    show (dat1 V c).owesAt none t.succ = (dat1 V c).owesAt none t.castSucc from rfl]
  iintro ⟨HΦ, Howes, ⟨%d0, H0⟩, ⟨%d1, H1⟩⟩
  rw [before1]
  iapply (body1 c (grid1.coords t) (win1_0.stage (cfg1.slots t 0)) (hstage1_0 ((cfg1.slots t 0).cast nbuf1_0)) (win1_1.stage (cfg1.slots t 1)) (hstage1_1 ((cfg1.slots t 1).cast nbuf1_1))
    (((cfg1.win 0).blk t).view.read (Elt F) (V (Proc.devRef .tc main_v5))) ((dat1 V c).before 1 t d1) _)
  isplitl [H0]; · iexact H0
  isplitl [H1]; · iexact H1
  iintro ⟨H0, H1⟩
  isplitl [HΦ]; · iexact HΦ
  isplitl [Howes]; · iexact Howes
  isplitl [H0]; · iexact H0
  iexact H1

theorem obl3 (c : Dev nD) : BodyObligation (dat3 V c) (defs₀ (F := F)) 𝒱₀ none Set.univ := fun t => by
  rw [bigSep_W3, bigSep_W3]
  rw [show (dat3 V c).Φ t.succ = (dat3 V c).Φ t.castSucc from rfl,
    show (dat3 V c).owesAt none t.succ = (dat3 V c).owesAt none t.castSucc from rfl]
  iintro ⟨HΦ, Howes, ⟨%d0, H0⟩, ⟨%d1, H1⟩⟩
  rw [before3]
  iapply (body3 c (win3_0.stage (cfg3.slots t 0)) (hstage3_0 0) (win3_1.stage (cfg3.slots t 1)) (hstage3_1 0)
    (((cfg3.win 0).blk t).view.read (Elt F) (V (Proc.devRef .tc main_v7))) ((dat3 V c).before 1 t d1) _)
  isplitl [H0]; · iexact H0
  isplitl [H1]; · iexact H1
  iintro ⟨H0, H1⟩
  isplitl [HΦ]; · iexact HΦ
  isplitl [Howes]; · iexact Howes
  isplitl [H0]; · iexact H0
  iexact H1

/-! ## What the calls leave in their result arrays -/

/-- The sum of the partials. -/
def outVal (p : Vec F S32x1024 .f32) : Vec F S1024 .f32 := k3_pay1 p

theorem k1_pay1_apply (xt : Vec F S3x6400000 .f32) (b : Vec F S3x51200 .f32) (y : S51200.Idx) (e : S6400000.Idx)
    (hb : ∀ r : ℕ, b (at2 3 51200 r (y 0).val) = xt (at2 3 6400000 r (e 0).val)) : k1_pay1 b y = d2Val xt e := by
  have hrow : ∀ (r : ℕ) (off : Fin 2 → ℕ) (ho : off = ![r, 0]) (hs : S3x51200.Slices off S1x51200),
      shapeCast S51200 (extractStridedSlice S1x51200 off (mulf b b) hs) shapeCasts_S1x51200_S51200 y
        = FloatOps.mulf (xt (at2 3 6400000 r (e 0).val)) (xt (at2 3 6400000 r (e 0).val)) := by
    intro r off ho hs
    refine (shapeCast_dropUnit_apply (n := 1) ![51200] _ shapeCasts_S1x51200_S51200 y).trans ?_
    refine (extractStridedSlice_apply off (mulf b b) hs _ (at2 3 51200 r (y 0).val) fun a => ?_).trans ?_
    · subst ho
      have hr : r < 3 := by have := hs.2 0; simpa using this
      have hy : (y 0).val < 51200 := (y 0).isLt
      fin_cases a
      · show r % 3 = r + 0
        omega
      · show (y 0).val % 51200 = 0 + (y 0).val
        omega
    · show FloatOps.mulf (b _) (b _) = _
      rw [hb]
  unfold k1_pay1
  rw [shapeCast_self]
  show FloatOps.addf (FloatOps.addf _ _) _ = _
  rw [hrow 0 _ rfl, hrow 1 _ rfl, hrow 2 _ rfl]
  rfl

theorem arr1 (c : Dev nD) : (dat1 V c).arrAt 1 cfg1.N = (d2Val (F := F) (V (Proc.devRef .tc main_v5)) : Vec F S6400000 .f32) := by
  have i0 : ∀ t : Fin cfg1.N, win1_0.index t = ![0, (grid1.coords t 0).val] := (by decide +kernel : ∀ t : Fin grid1.N, _)
  have i1 : ∀ t : Fin cfg1.N, win1_1.index t = ![(grid1.coords t 0).val] := (by decide +kernel : ∀ t : Fin grid1.N, _)
  refine (dat1 V c).arrAt_eq_of_covers 1 _ (by decide +kernel) fun t hf y => ?_
  blk_simp
  refine k1_pay1_apply _ _ y _ fun r => ?_
  have hy : (y 0).val < 51200 := (y 0).isLt
  have ht : (grid1.coords t 0).val < 125 := (grid1.coords t 0).isLt
  refine congrArg (V (Proc.devRef .tc main_v5)) (idx2_ext ?_ ?_)
  · blk_simp [i0, i1]
    rfl
  · blk_simp [i0, i1]
    show _ + (y 0).val % 51200 = (_ + (y 0).val) % 6400000
    omega

theorem arr3 (c : Dev nD) : (dat3 V c).arrAt 1 cfg3.N = (outVal (F := F) (V (Proc.devRef .tc main_v7)) : Vec F S1024 .f32) := by
  have i0 : ∀ t : Fin cfg3.N, win3_0.index t = ![0, 0] := (by decide +kernel : ∀ t : Fin grid3.N, _)
  have i1 : ∀ t : Fin cfg3.N, win3_1.index t = ![0] := (by decide +kernel : ∀ t : Fin grid3.N, _)
  refine (dat3 V c).arrAt_eq_of_covers 1 _ (by decide +kernel) fun t hf y => ?_
  blk_simp
  show k3_pay1 (F := F) (((cfg3.win 0).blk t).view.read (Elt F) (V (Proc.devRef .tc main_v7))) y = k3_pay1 (F := F) (V (Proc.devRef .tc main_v7)) _
  have hr : ((cfg3.win 0).blk t).view.read (Elt F) (V (Proc.devRef .tc main_v7)) = V (Proc.devRef .tc main_v7) := by
    funext x
    refine congrArg (V (Proc.devRef .tc main_v7)) (idx2_ext ?_ ?_)
    · blk_simp [i0, i1]
    · blk_simp [i0, i1]
  have hy : ((win3_1.blk t).view.emb y) = y := by
    refine idx1_ext ?_
    blk_simp [i0, i1]
  rw [hr, hy]

/-! ## The calls as steps of the main thread -/

def adm : (p : Fin 2) → (pcfgs (F := F) p).Adm := fun p => (cfgs p).toPCfg_adm

/-- Both calls' proof data at one valuation. -/
def pdats : (p : Fin 2) → (c : Dev nD) → Dat τ (Elt F) (HIx 2) ℕ UU ℕ (Pipeline.pin (pcfgs (F := F)) adm p) c
  | ⟨0, _⟩ => fun c => dat1 V c
  | ⟨1, _⟩ => fun c => dat3 V c

theorem Otc_none (c : Dev nD) (n : ℕ) (g : GSem nD τ sig) : (K (F := F)).Otc (N := 2) c n g none = 0 := by
  by_contra h
  have := (K (F := F)).lev_of_Otc_pos (N := 2) (Nat.pos_of_ne_zero h)
  rw [SparseCore.Cfg.lev_none] at this
  omega

/-- What the main thread owes before SparseCore call `n`, its recorded waits bounded. -/
def tcOwes (n : ℕ) (c : Dev nD) : sProp 𝕄 :=
  iprop(∃ W, ⌜(K (F := F)).WBelow (SparseCore.T c) W (8 * n)⌝ ∗ owes (SparseCore.T c) ((K (F := F)).Otc c n) W)

set_option backward.isDefEq.respectTransparency.types false in
/-- The call that squares the distances, entered before SparseCore call 1. -/
def reg1 (V' : Valuation τ sig (Elt F)) (hV' : ∀ (c : Dev nD) w, (pdats V 0 c).arrAt w cfg1.N = V' (Proc.devRef .tc (Pipeline.arrRef spec1 w))) :
    Pipeline.RegionSeg (pcfgs (F := F)) adm (pdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (obl1 V c).loose
  hwaits c := Pipeline.cellsWaits_intro _ _ _ _ _ fun w s t => (K (F := F)).mayWait_none _ (Otc_none c 1)
  pre c := iprop(StableHlo.held (c.tc : Thread nD τ) (Pipeline.arrRefs spec1) V ∗ tcOwes 1 c)
  post c := iprop(StableHlo.held (c.tc : Thread nD τ) (Pipeline.arrRefs spec1) V' ∗ tcOwes 1 c)
  X _ := BI.emp
  Y _ := BI.emp
  Z _ := BI.emp
  hentry c := by
    have ha := Pipeline.arrays_held (pcfgs (F := F)) adm (pdats V) 0 (launch1.toP) c ((pdats V 0 c).share_full fun _ => rfl)
      ((pdats V 0 c).arrAt · 0) V fun _ => rfl
    rw [Pipeline.ownSems0_none, Pipeline.prefHeld_of_none _ rfl, ha]
    unfold tcOwes
    iintro ⟨⟨Ha, ⟨%W, %hW, HO⟩⟩, -, -⟩
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitr <;> iempintro
  hin c := by
    rw [show (pdats V 0 c).Φ 0 = Pipeline.scopedRest spec1 c from rfl]
    iintro ⟨-, -, Hr⟩; iexact Hr
  hout c := by
    rw [Pipeline.ownSems0_none, show (pdats V 0 c).Φ (Fin.last _) = Pipeline.scopedRest spec1 c from rfl]
    iintro Hr
    isplitr; · iempintro
    isplitr; · iempintro
    iexact Hr
  hexit c := by
    have ha := Pipeline.arrays_held (pcfgs (F := F)) adm (pdats V) 0 (launch1.toP) c ((pdats V 0 c).share_full fun _ => rfl)
      ((pdats V 0 c).arrAt · cfg1.N) V' (hV' c)
    iintro ⟨Ha, HO, -, -⟩
    imodintro
    isplitl [Ha]
    · iapply (Entails.of_eq ha); iexact Ha
    unfold tcOwes Pipeline.Dat.owesAt Pipeline.owesWithin
    icases HO with ⟨%W, %hW, HO⟩
    iexists W
    isplitr
    · ipureintro
      intro p hp
      rcases hW hp with h | ⟨w, s, h⟩
      · exact h
      · rw [h]; exact Nat.zero_le _
    iexact HO

set_option backward.isDefEq.respectTransparency.types false in
/-- The call that sums the partials, entered after both SparseCore calls. -/
def reg3 (V' : Valuation τ sig (Elt F)) (hV' : ∀ (c : Dev nD) w, (pdats V 1 c).arrAt w cfg3.N = V' (Proc.devRef .tc (Pipeline.arrRef spec3 w))) :
    Pipeline.RegionSeg (pcfgs (F := F)) adm (pdats V) none defs₀ 𝒱₀ (K (F := F)).L (K (F := F)).lev 1 where
  win := (launch3).win.to₀
  block_pos := (launch3).block_pos
  stage_whole := (launch3).stage_whole
  K := PEmpty
  osem k := k.elim
  ho := Pipeline.OwnSemFacts.none _
  hbody c := (obl3 V c).loose
  hwaits c := Pipeline.cellsWaits_intro _ _ _ _ _ fun w s t => (K (F := F)).mayWait_none _ (Otc_none c 2)
  pre c := iprop(StableHlo.held (c.tc : Thread nD τ) (Pipeline.arrRefs spec3) V ∗ tcOwes 2 c)
  post c := iprop(StableHlo.held (c.tc : Thread nD τ) (Pipeline.arrRefs spec3) V' ∗ tcOwes 2 c)
  X _ := BI.emp
  Y _ := BI.emp
  Z _ := BI.emp
  hentry c := by
    have ha := Pipeline.arrays_held (pcfgs (F := F)) adm (pdats V) 1 (launch3.toP) c ((pdats V 1 c).share_full fun _ => rfl)
      ((pdats V 1 c).arrAt · 0) V fun _ => rfl
    rw [Pipeline.ownSems0_none, Pipeline.prefHeld_of_none _ rfl, ha]
    unfold tcOwes
    iintro ⟨⟨Ha, ⟨%W, %hW, HO⟩⟩, -, -⟩
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitr <;> iempintro
  hin c := by
    rw [show (pdats V 1 c).Φ 0 = Pipeline.scopedRest spec3 c from rfl]
    iintro ⟨-, -, Hr⟩; iexact Hr
  hout c := by
    rw [Pipeline.ownSems0_none, show (pdats V 1 c).Φ (Fin.last _) = Pipeline.scopedRest spec3 c from rfl]
    iintro Hr
    isplitr; · iempintro
    isplitr; · iempintro
    iexact Hr
  hexit c := by
    have ha := Pipeline.arrays_held (pcfgs (F := F)) adm (pdats V) 1 (launch3.toP) c ((pdats V 1 c).share_full fun _ => rfl)
      ((pdats V 1 c).arrAt · cfg3.N) V' (hV' c)
    iintro ⟨Ha, HO, -, -⟩
    imodintro
    isplitl [Ha]
    · iapply (Entails.of_eq ha); iexact Ha
    unfold tcOwes Pipeline.Dat.owesAt Pipeline.owesWithin
    icases HO with ⟨%W, %hW, HO⟩
    iexists W
    isplitr
    · ipureintro
      intro p hp
      rcases hW hp with h | ⟨w, s, h⟩
      · exact h
      · rw [h]; exact Nat.zero_le _
    iexact HO

end Cert.KernelIdeal.Pf

end
-- ==== Proof.ISplit.lean ====
/-
  How the two SparseCore calls deal the arrays among their tasks: the operands by read shares, the results by the
  slices and rows the tasks own. Generic in the float instance.
-/
module

public import proofs.«01_k».proof.Proof.ITile
public import proofs.«01_k».proof.Proof.IRegion

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-- Task `i` of SparseCore `c`, as grid coordinates of the table call and of the pair call. -/
def cd0 (c : Fin 2) (i : Fin 16) : grid0.Coords :=
  fun | 0 => c | 1 => i | ⟨_ + 2, h⟩ => absurd h (Nat.not_lt.2 (Nat.le_add_left _ _))
def cd2 (c : Fin 2) (i : Fin 16) : grid2.Coords :=
  fun | 0 => c | 1 => i | ⟨_ + 2, h⟩ => absurd h (Nat.not_lt.2 (Nat.le_add_left _ _))

/-- Its read share. -/
def shr (c : Fin 2) (i : Fin 16) : PosShare TreeShare :=
  Transfers.dealOf (Transfers.dealOf fullShare Finset.univ c) Finset.univ i

section Deal
variable {ℓ : Loc nD τ sig}

theorem pts_deal (f : Buf (Elt F) ℓ) :
    (ℓ ↦{fullShare} f : sProp 𝕄) = bigSep Finset.univ fun c : Fin 2 => bigSep Finset.univ fun i : Fin 16 => ℓ ↦{shr c i} f := by
  rw [Transfers.pointsTo_deal (ℓ := ℓ) (S := Finset.univ) (f := f) (Finset.univ : Finset (Fin 2)) ⟨0, Finset.mem_univ _⟩ fullShare]
  refine bigSep_congr fun c _ => ?_
  exact Transfers.pointsTo_deal (ℓ := ℓ) (S := Finset.univ) (f := f) (Finset.univ : Finset (Fin 16)) ⟨0, Finset.mem_univ _⟩ _

theorem pts_grid (S : Fin 2 → Fin 16 → Finset (Idx ℓ)) (num : Idx ℓ → ℕ) (hS : ∀ c i y, y ∈ S c i ↔ num y = 2 * i.val + c.val)
    (hn : ∀ y, num y < 32) (f : Buf (Elt F) ℓ) :
    (ℓ ↦{fullShare} f : sProp 𝕄) = bigSep Finset.univ fun c : Fin 2 => bigSep Finset.univ fun i : Fin 16 => ℓ ↦[S c i]{fullShare} f := by
  rw [← SparseCore.bigSep_product (Finset.univ : Finset (Fin 2)) (Finset.univ : Finset (Fin 16)) (fun p => (ℓ ↦[S p.1 p.2]{fullShare} f : sProp 𝕄)),
    ← pointsTo_biUnion]
  · congr 1
    symm
    refine Finset.eq_univ_of_forall fun y => ?_
    have h := hn y
    refine Finset.mem_biUnion.mpr ⟨(⟨num y % 2, by omega⟩, ⟨num y / 2, by omega⟩), Finset.mem_product.mpr ⟨Finset.mem_univ _, Finset.mem_univ _⟩, ?_⟩
    refine (hS _ _ _).mpr ?_
    show num y = 2 * (num y / 2) + num y % 2
    omega
  · rintro ⟨c, i⟩ - ⟨c', i'⟩ - hne
    refine Finset.disjoint_left.mpr fun y h h' => hne ?_
    have e := (hS _ _ _).mp h
    have e' := (hS _ _ _).mp h'
    have := c.isLt; have := c'.isLt
    refine Prod.ext (Fin.ext ?_) (Fin.ext ?_) <;> dsimp only at * <;> omega
end Deal

theorem mem_pK (c : Fin 2) (i : Fin 16) (y : S100352.Idx) : y ∈ (pK (cd0 c i)).view.set ↔ (y 0).val / 3136 = 2 * i.val + c.val := by
  have hw : wid0 (cd0 c i) = 2 * i.val + c.val := rfl
  have hy : (y 0).val < 100352 := (y 0).isLt
  constructor
  · intro h
    obtain ⟨x, -, rfl⟩ := Finset.mem_map.mp h
    have hx : (x 0).val < 3136 := (x 0).isLt
    have e : (pK (cd0 c i)).view.emb x = at1 100352 (3136 * wid0 (cd0 c i) + (x 0).val) := sl0_elem (cd0 c i) x
    have := c.isLt; have := i.isLt
    show (((pK (cd0 c i)).view.emb x) 0).val / 3136 = _
    rw [e, at1_val (by decide) (by omega)]
    omega
  · intro h
    refine Finset.mem_map.mpr ⟨at1 3136 ((y 0).val % 3136), Finset.mem_univ _, ?_⟩
    refine (sl0_elem (cd0 c i) _).trans (at1_eq _ _ ?_)
    rw [at1_val (by decide) (Nat.mod_lt _ (by decide))]
    omega

theorem mem_oK (c : Fin 2) (i : Fin 16) (y : S32x1024.Idx) : y ∈ (oK (cd2 c i)).view.set ↔ (y 0).val = 2 * i.val + c.val := by
  have hw : wid2 (cd2 c i) = 2 * i.val + c.val := rfl
  have hy : (y 1).val < 1024 := (y 1).isLt
  have := c.isLt; have := i.isLt
  constructor
  · intro h
    obtain ⟨x, -, rfl⟩ := Finset.mem_map.mp h
    have e : (oK (cd2 c i)).view.emb x = at2 32 1024 (wid2 (cd2 c i)) (x 0).val := oK_emb (cd2 c i) x
    show (((oK (cd2 c i)).view.emb x) 0).val = _
    rw [e, at2_val0 (by decide) (by decide) (by omega)]
    exact hw
  · intro h
    refine Finset.mem_map.mpr ⟨at1 1024 (y 1).val, Finset.mem_univ _, ?_⟩
    refine (oK_emb (cd2 c i) _).trans (idx2_ext ?_ ?_)
    · rw [at2_val0 (by decide) (by decide) (by omega), hw, h]
    · rw [at1_val (by decide) hy, at2_val1 (by decide) (by decide) hy]

/-- The table call's arrays, dealt and gathered. -/
theorem deal0 (d : Dev nD) (z f mm : Buf (Elt F) (zLoc d)) (rt : Buf (Elt F) (rLoc d)) (o : Buf (Elt F) (pLoc d)) :
    (bigSep Finset.univ fun c : Fin 2 => bigSep Finset.univ fun i : Fin 16 => (go0 d (cd0 c i) (shr c i) z f mm rt o : sProp 𝕄))
      = iprop((zLoc d ↦{fullShare} z) ∗ (fLoc d ↦{fullShare} f) ∗ (mLoc d ↦{fullShare} mm) ∗ (rLoc d ↦{fullShare} rt) ∗ (pLoc d ↦{fullShare} o)) := by
  rw [pts_deal (ℓ := zLoc d) z, pts_deal (ℓ := fLoc d) f, pts_deal (ℓ := mLoc d) mm, pts_deal (ℓ := rLoc d) rt,
    pts_grid (ℓ := pLoc d) (fun c i => (pK (cd0 c i)).view.set) (fun y => (y 0).val / 3136) mem_pK
      (fun y => by have : (y 0).val < 100352 := (y 0).isLt
                   omega) o]
  unfold go0
  simp only [bigSep_sep']

/-- The pair call's. -/
theorem deal2 (d : Dev nD) (pk : Buf (Elt F) (pLoc d)) (ii jj : Buf (Elt F) (iLoc d)) (dd : Buf (Elt F) (dLoc d)) (o : Buf (Elt F) (oLoc d)) :
    (bigSep Finset.univ fun c : Fin 2 => bigSep Finset.univ fun i : Fin 16 => (go2 d (cd2 c i) (shr c i) pk ii jj dd o : sProp 𝕄))
      = iprop((pLoc d ↦{fullShare} pk) ∗ (iLoc d ↦{fullShare} ii) ∗ (jLoc d ↦{fullShare} jj) ∗ (dLoc d ↦{fullShare} dd) ∗ (oLoc d ↦{fullShare} o)) := by
  rw [pts_deal (ℓ := pLoc d) pk, pts_deal (ℓ := iLoc d) ii, pts_deal (ℓ := jLoc d) jj, pts_deal (ℓ := dLoc d) dd,
    pts_grid (ℓ := oLoc d) (fun c i => (oK (cd2 c i)).view.set) (fun y => (y 0).val) mem_oK
      (fun y => (y 0).isLt) o]
  unfold go2
  simp only [bigSep_sep']

end Cert.KernelIdeal.Pf

end
-- ==== Proof.ILaunch.lean ====
/-
  The launch: what the arrays hold before and after each of the four calls, what the two SparseCore calls hand
  their tasks, and the tasks' obligations. Generic in the float instance.
-/
module

public import proofs.«01_k».proof.Proof.ISplit

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-! ## The arrays' contents, call by call -/

abbrev dr (b : Ref sig .tc) : DevRef τ sig := Proc.devRef .tc b

/-- The host operations before the first call: three padded arrays of atoms and the radii in a row. -/
def opsA : List (HloOp τ sig (Elt F)) :=
  [StableHlo.nullary main_c (constantI S_ 32 0#32),
   StableHlo.unary main_c main_call0_v0 id,
   StableHlo.binary main_arg0 main_call0_v0 main_v0 (fun x v => pad S100352 ![0] ![352] ![0] x v pads_S100000_S100352_03520 h_S_),
   StableHlo.nullary main_c_0 (constantI S_ 32 0#32),
   StableHlo.unary main_c_0 main_call1_v0 id,
   StableHlo.binary main_arg5 main_call1_v0 main_v1 (fun x v => pad S100352 ![0] ![352] ![0] x v pads_S100000_S100352_03520 h_S_),
   StableHlo.nullary main_c_1 (constantI S_ 32 0#32),
   StableHlo.unary main_c_1 main_call2_v0 id,
   StableHlo.binary main_arg1 main_call2_v0 main_v2 (fun x v => pad S100352 ![0] ![352] ![0] x v pads_S100000_S100352_03520 h_S_),
   StableHlo.reshape main_arg6 main_v3 (rfl : (.f32 : EltTy) = .f32) shapeCasts_S2x100_S200]

/-- The host operation before the second: the coordinates, transposed. -/
abbrev opT : HloOp τ sig (Elt F) :=
  StableHlo.unary main_arg2 main_v5 ((transpose S3x6400000 [1, 0] · transposes_S6400000x3_S3x6400000_1_0) : (⟨S6400000x3, .f32⟩ : BufTy).Contents (Elt F) → (⟨S3x6400000, .f32⟩ : BufTy).Contents (Elt F))

variable (m : (ℓ : Loc nD τ sig) → Buf (Elt F) ℓ) (ρ : Dev nD → PrngReg)

/-- At the launch; before the table call; after it; before the squares; after them; after the pair call; at the end. -/
def V0 (d : Dev nD) : Valuation τ sig (Elt F) := fun b => m (d, b)
def VA (d : Dev nD) : Valuation τ sig (Elt F) := StableHlo.after opsA (V0 m d)
def tbl (d : Dev nD) : Buf (Elt F) (pLoc d) := tableVal (VA m d (dr main_v0)) (VA m d (dr main_v1)) (VA m d (dr main_v2)) (VA m d (dr main_v3))
def VB (d : Dev nD) : Valuation τ sig (Elt F) := Function.update (VA m d) (dr main_v4) (tbl m d)
def VC (d : Dev nD) : Valuation τ sig (Elt F) := opT.result (VB m d)
def sq (d : Dev nD) : Buf (Elt F) (dLoc d) := d2Val (VC m d (dr main_v5))
def VD (d : Dev nD) : Valuation τ sig (Elt F) := Function.update (VC m d) (dr main_v6) (sq m d)
def prt (d : Dev nD) : Buf (Elt F) (oLoc d) := partialVal (VD m d (dr main_v4)) (VD m d (dr main_arg3)) (VD m d (dr main_arg4)) (VD m d (dr main_v6))
def VE (d : Dev nD) : Valuation τ sig (Elt F) := Function.update (VD m d) (dr main_v7) (prt m d)
abbrev rsLoc (d : Dev nD) : Loc nD τ sig := (SparseCore.T d).loc main_v8
def fin (d : Dev nD) : Buf (Elt F) (rsLoc d) := outVal (VE m d (dr main_v7))
def VF (d : Dev nD) : Valuation τ sig (Elt F) := Function.update (VE m d) (dr main_v8) (fin m d)

/-- What the tasks need of the integer arrays. -/
structure Ok : Prop where
  z : ∀ d n, (VA m d (dr main_v0) n : BitVec 32).toNat < 100
  f : ∀ d n, (VA m d (dr main_v1) n : BitVec 32).toNat < 2
  i : ∀ d n, (VD m d (dr main_arg3) n : BitVec 32).toNat < 100352
  j : ∀ d n, (VD m d (dr main_arg4) n : BitVec 32).toNat < 100352

/-! ## What the SparseCore calls carry -/

def go0m (d : Dev nD) (c : Fin 2) (i : Fin 16) : sProp 𝕄 :=
  go0 d (cd0 c i) (shr c i) (VA m d (dr main_v0)) (VA m d (dr main_v1)) (VA m d (dr main_v2)) (VA m d (dr main_v3)) (VA m d (dr main_v4))
def td0m (d : Dev nD) (c : Fin 2) (i : Fin 16) : sProp 𝕄 :=
  go0 d (cd0 c i) (shr c i) (VA m d (dr main_v0)) (VA m d (dr main_v1)) (VA m d (dr main_v2)) (VA m d (dr main_v3)) (tbl m d)
def go2m (d : Dev nD) (c : Fin 2) (i : Fin 16) : sProp 𝕄 :=
  go2 d (cd2 c i) (shr c i) (VD m d (dr main_v4)) (VD m d (dr main_arg3)) (VD m d (dr main_arg4)) (VD m d (dr main_v6)) (VD m d (dr main_v7))
def td2m (d : Dev nD) (c : Fin 2) (i : Fin 16) : sProp 𝕄 :=
  go2 d (cd2 c i) (shr c i) (VD m d (dr main_v4)) (VD m d (dr main_arg3)) (VD m d (dr main_arg4)) (VD m d (dr main_v6)) (prt m d)

instance go0m_st (d : Dev nD) (c : Fin 2) (i : Fin 16) : BI.Storable (upEmb : UEmb _ 𝕄) (go0m m d c i) := by
  unfold go0m go0; infer_instance
instance td0m_st (d : Dev nD) (c : Fin 2) (i : Fin 16) : BI.Storable (upEmb : UEmb _ 𝕄) (td0m m d c i) := by
  unfold td0m go0; infer_instance
instance go2m_st (d : Dev nD) (c : Fin 2) (i : Fin 16) : BI.Storable (upEmb : UEmb _ 𝕄) (go2m m d c i) := by
  unfold go2m go2; infer_instance
instance td2m_st (d : Dev nD) (c : Fin 2) (i : Fin 16) : BI.Storable (upEmb : UEmb _ 𝕄) (td2m m d c i) := by
  unfold td2m go2; infer_instance

def P : (K (F := F)).Pay (nD := nD) (Val := Elt F) (Name := ℕ) (U := UU) where
  st := fun q d => match q with
    | 0 => fun c => bigSep Finset.univ fun i : Fin 16 => go0m m d c i
    | 1 => fun c => bigSep Finset.univ fun i : Fin 16 => go2m m d c i
  dn := fun q d => match q with
    | 0 => fun c => bigSep Finset.univ fun i : Fin 16 => td0m m d c i
    | 1 => fun c => bigSep Finset.univ fun i : Fin 16 => td2m m d c i
  go := fun q d => match q with
    | 0 => fun c i => go0m m d c i
    | 1 => fun c i => go2m m d c i
  td := fun q d => match q with
    | 0 => fun c i => td0m m d c i
    | 1 => fun c i => td2m m d c i
  x := fun _ _ => iprop(emp)

instance P_storable : (P (F := F) m).IsStorable where
  st q d c := match q with
    | 0 => (inferInstance : BI.Storable (upEmb : UEmb _ 𝕄) (bigSep Finset.univ fun i : Fin 16 => go0m m d c i))
    | 1 => (inferInstance : BI.Storable (upEmb : UEmb _ 𝕄) (bigSep Finset.univ fun i : Fin 16 => go2m m d c i))
  dn q d c := match q with
    | 0 => (inferInstance : BI.Storable (upEmb : UEmb _ 𝕄) (bigSep Finset.univ fun i : Fin 16 => td0m m d c i))
    | 1 => (inferInstance : BI.Storable (upEmb : UEmb _ 𝕄) (bigSep Finset.univ fun i : Fin 16 => td2m m d c i))
  go q d c i := match q with
    | 0 => go0m_st m d c i
    | 1 => go2m_st m d c i
  td q d c i := match q with
    | 0 => td0m_st m d c i
    | 1 => td2m_st m d c i

theorem split0 : (K (F := F)).VecSplit' (P m) 0 := by
  intro d c
  show (bigSep Finset.univ fun i : Fin 16 => go0m m d c i) ⊢ |={Set.univ}=> iprop((bigSep Finset.univ fun i : Fin 16 => go0m m d c i)
      ∗ ((bigSep Finset.univ fun i : Fin 16 => td0m m d c i) -∗ (bigSep Finset.univ fun i : Fin 16 => td0m m d c i)))
  iintro H; imodintro
  isplitl [H]; · iexact H
  iintro H; iexact H

theorem split2 : (K (F := F)).VecSplit' (P m) 1 := by
  intro d c
  show (bigSep Finset.univ fun i : Fin 16 => go2m m d c i) ⊢ |={Set.univ}=> iprop((bigSep Finset.univ fun i : Fin 16 => go2m m d c i)
      ∗ ((bigSep Finset.univ fun i : Fin 16 => td2m m d c i) -∗ (bigSep Finset.univ fun i : Fin 16 => td2m m d c i)))
  iintro H; imodintro
  isplitl [H]; · iexact H
  iintro H; iexact H

/-! ## The tasks' obligations -/

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 (hm : Ok m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  dsimp only [defs₀]
  simp only [SparseCore.onTile, hci, and_self, ↓reduceDIte]
  exact (tile0 d (cd0 c i) facts O W hO (shr c i) (VA m d (dr main_v0)) (VA m d (dr main_v1)) (VA m d (dr main_v2)) (VA m d (dr main_v3)) (VA m d (dr main_v4))
    (hm.z d) (hm.f d)).trans (wp_mono frame _ _ fun _ => obl_post)

theorem tileObl2 (hm : Ok m) : (K (F := F)).TileObl (D (F := F)) 𝒱 (P m) v₀ 1 := by
  intro d c i O W hO _ _
  simp only [show (P m).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  dsimp only [defs₀]
  simp only [SparseCore.onTile, hci, and_self, ↓reduceDIte]
  exact (tile2 d (cd2 c i) facts O W hO (shr c i) (VD m d (dr main_v4)) (VD m d (dr main_arg3)) (VD m d (dr main_arg4)) (VD m d (dr main_v6)) (VD m d (dr main_v7))
    (hm.i d) (hm.j d)).trans (wp_mono frame _ _ fun _ => obl_post)

/-! ## The launch's ghost state -/

/-- The handshakes' rounds, the two pipelines' staging cells. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch deals the main thread for the two TensorCore calls. -/
def G (d : Dev nD) : sProp 𝕄 :=
  iprop((bigSep Finset.univ fun p : Fin 2 => Pipeline.cellsGhost (Pipeline.pin (pcfgs (F := F)) adm) EP p d)
    ∗ (bigSep Finset.univ fun p : Fin 2 => Pipeline.toksInit (Pipeline.pin (pcfgs (F := F)) adm) EP p d))

omit [FloatOps F] in
theorem emps {I : Type} (s : Finset I) : (bigSep s fun _ => iprop(emp)) = (iprop(emp) : sProp 𝕄) := bigSep_emp_const s

theorem own_EP (x : UP) : (BI.own (((Emb.inl : Emb UP (UP × Counters)).trans embR) x) : sProp 𝕄) ⊢ BI.own (EP (F := F) x) := .rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair _ _) $$ Hu
  icases H with ⟨HH, HR⟩
  ihave HR' := (own_pair_emb embR _ _) $$ HR
  icases HR' with ⟨HP, -⟩
  ihave HP := (own_EP _) $$ HP
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    isplitl [Hg]; · iexact Hg
    iexact Ht
  unfold P; dsimp only
  rw [show (bigSep Finset.univ fun _ : Thread nD τ => bigSep Finset.univ fun _ : Fin 2 => (iprop(emp) : sProp 𝕄)) = iprop(emp) from by
    rw [bigSep_congr fun _ _ => emps _, emps]]
  iempintro

end Cert.KernelIdeal.Pf

end
-- ==== Proof.IMain.lean ====
/-
  The whole program's run: the main thread through its four calls, and what every final memory holds. Generic in
  the float instance.
-/
module

public import proofs.«01_k».proof.Proof.ILaunch

@[expose] public section

noncomputable section

namespace Cert.KernelIdeal.Pf

open Cert.KernelIdeal Cert.KernelIdeal.Gen
open Idealize.ShloMosaic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-! ## The arrays of one call, out of all of them -/

abbrev UC : Finset (DevRef τ sig) := Pipeline.ucRefs τ sig

/-- The table call's arrays, and the pair call's. -/
abbrev S0 : Finset (DevRef τ sig) := {dr main_v0, dr main_v1, dr main_v2, dr main_v3, dr main_v4}
abbrev S2 : Finset (DevRef τ sig) := {dr main_v4, dr main_arg3, dr main_arg4, dr main_v6, dr main_v7}

omit [FloatOps F] in
theorem held_S0 (d : Dev nD) (W : Valuation τ sig (Elt F)) :
    (held (SparseCore.T d) S0 W : sProp 𝕄) = iprop((zLoc d ↦{fullShare} W (dr main_v0)) ∗ (fLoc d ↦{fullShare} W (dr main_v1)) ∗ (mLoc d ↦{fullShare} W (dr main_v2))
      ∗ (rLoc d ↦{fullShare} W (dr main_v3)) ∗ (pLoc d ↦{fullShare} W (dr main_v4))) := by
  unfold held S0
  rw [SparseCore.bigSep_insert' (by decide), SparseCore.bigSep_insert' (by decide), SparseCore.bigSep_insert' (by decide), SparseCore.bigSep_insert' (by decide), bigSep_singleton]

omit [FloatOps F] in
theorem held_S2 (d : Dev nD) (W : Valuation τ sig (Elt F)) :
    (held (SparseCore.T d) S2 W : sProp 𝕄) = iprop((pLoc d ↦{fullShare} W (dr main_v4)) ∗ (iLoc d ↦{fullShare} W (dr main_arg3)) ∗ (jLoc d ↦{fullShare} W (dr main_arg4))
      ∗ (dLoc d ↦{fullShare} W (dr main_v6)) ∗ (oLoc d ↦{fullShare} W (dr main_v7))) := by
  unfold held S2
  rw [SparseCore.bigSep_insert' (by decide), SparseCore.bigSep_insert' (by decide), SparseCore.bigSep_insert' (by decide), SparseCore.bigSep_insert' (by decide), bigSep_singleton]

omit [FloatOps F] in
/-- Arrays taken out and put back with one of theirs at new contents: all of them, that one at the new contents. -/
theorem held_put (d : Dev nD) (A : Finset (DevRef τ sig)) (hA : A ⊆ UC) (W : Valuation τ sig (Elt F)) (b : DevRef τ sig) (hb : b ∈ A) (f : b.ty.Contents (Elt F)) :
    (held (SparseCore.T d) UC (Function.update W b f) : sProp 𝕄) = iprop(held (SparseCore.T d) A (Function.update W b f) ∗ held (SparseCore.T d) (UC \ A) W) := by
  rw [StableHlo.held_sub_split (SparseCore.T d) hA]
  congr 1
  exact StableHlo.held_congr (SparseCore.T d) fun x hx =>
    Function.update_of_ne (fun e : x = b => (Finset.mem_sdiff.mp hx).2 (by rw [e]; exact hb)) _ _

/-! ## The calls' payloads are those arrays -/

theorem st0_eq (d : Dev nD) : (bigSep Finset.univ fun c : Fin ((K (F := F)).nCore 0) => (P m).st 0 d c) = (held (SparseCore.T d) S0 (VA m d) : sProp 𝕄) := by
  rw [held_S0]
  exact deal0 d (VA m d (dr main_v0)) (VA m d (dr main_v1)) (VA m d (dr main_v2)) (VA m d (dr main_v3)) (VA m d (dr main_v4))

theorem dn0_eq (d : Dev nD) : (bigSep Finset.univ fun c : Fin ((K (F := F)).nCore 0) => (P m).dn 0 d c) = (held (SparseCore.T d) S0 (VB m d) : sProp 𝕄) := by
  rw [held_S0]
  refine (deal0 d (VA m d (dr main_v0)) (VA m d (dr main_v1)) (VA m d (dr main_v2)) (VA m d (dr main_v3)) (tbl m d)).trans ?_
  unfold VB
  rw [Function.update_of_ne (show dr main_v0 ≠ dr main_v4 by decide), Function.update_of_ne (show dr main_v1 ≠ dr main_v4 by decide),
    Function.update_of_ne (show dr main_v2 ≠ dr main_v4 by decide), Function.update_of_ne (show dr main_v3 ≠ dr main_v4 by decide), Function.update_self]

theorem st2_eq (d : Dev nD) : (bigSep Finset.univ fun c : Fin ((K (F := F)).nCore 1) => (P m).st 1 d c) = (held (SparseCore.T d) S2 (VD m d) : sProp 𝕄) := by
  rw [held_S2]
  exact deal2 d (VD m d (dr main_v4)) (VD m d (dr main_arg3)) (VD m d (dr main_arg4)) (VD m d (dr main_v6)) (VD m d (dr main_v7))

theorem dn2_eq (d : Dev nD) : (bigSep Finset.univ fun c : Fin ((K (F := F)).nCore 1) => (P m).dn 1 d c) = (held (SparseCore.T d) S2 (VE m d) : sProp 𝕄) := by
  rw [held_S2]
  refine (deal2 d (VD m d (dr main_v4)) (VD m d (dr main_arg3)) (VD m d (dr main_arg4)) (VD m d (dr main_v6)) (prt m d)).trans ?_
  unfold VE
  rw [Function.update_of_ne (show dr main_v4 ≠ dr main_v7 by decide), Function.update_of_ne (show dr main_arg3 ≠ dr main_v7 by decide),
    Function.update_of_ne (show dr main_arg4 ≠ dr main_v7 by decide), Function.update_of_ne (show dr main_v6 ≠ dr main_v7 by decide), Function.update_self]

/-! ## The TensorCore calls' result arrays -/

theorem VD_v5 (d : Dev nD) : VD m d (dr main_v5) = VC m d (dr main_v5) := Function.update_of_ne (show dr main_v5 ≠ dr main_v6 by decide) _ _
theorem VD_v6 (d : Dev nD) : VD m d (dr main_v6) = sq m d := Function.update_self (dr main_v6) _ _
theorem VF_v7 (d : Dev nD) : VF m d (dr main_v7) = VE m d (dr main_v7) := Function.update_of_ne (show dr main_v7 ≠ dr main_v8 by decide) _ _
theorem VF_v8 (d : Dev nD) : VF m d (dr main_v8) = fin m d := Function.update_self (dr main_v8) _ _

theorem left1 (d : Dev nD) (c : Dev nD) (w) : (pdats (VC m d) 0 c).arrAt w cfg1.N = VD m d (Proc.devRef .tc (Pipeline.arrRef spec1 w)) := by
  match w with
  | ⟨0, _⟩ =>
    refine ((dat1 (VC m d) c).arrAt_in 0 rfl cfg1.N).trans ?_
    exact (VD_v5 m d).symm
  | ⟨1, _⟩ =>
    refine (arr1 (VC m d) c).trans ?_
    exact (VD_v6 m d).symm

theorem left3 (d : Dev nD) (c : Dev nD) (w) : (pdats (VE m d) 1 c).arrAt w cfg3.N = VF m d (Proc.devRef .tc (Pipeline.arrRef spec3 w)) := by
  match w with
  | ⟨0, _⟩ =>
    refine ((dat3 (VE m d) c).arrAt_in 0 rfl cfg3.N).trans ?_
    exact (VF_v7 m d).symm
  | ⟨1, _⟩ =>
    refine (arr3 (VE m d) c).trans ?_
    exact (VF_v8 m d).symm

/-! ## @main -/

/-- What @main leaves: every array at its contents after the fourth call. -/
abbrev FIN (d : Dev nD) : sProp 𝕄 := held (SparseCore.T d) UC (VF m d)

variable (F) in
abbrev MainProg : Type 1 := Prog (TpuEff nD τ sig (Elt F) (SparseCore.Sig (Pipeline.Sig Λ₀ (Fin 2) fun p => (pcfgs (F := F) p).Adm) 2) .tc) PUnit

/-- The two TensorCore calls. -/
def callSq : MainProg F := Prog.lift (.customCall (SparseCore.inner (Pipeline.entry 0)) ())
def callRd : MainProg F := Prog.lift (.customCall (SparseCore.inner (Pipeline.entry 1)) ())

/-- The same, before the SparseCore calls' labels are added. -/
def inSq : Prog (TpuEff nD τ sig (Elt F) (Pipeline.Sig Λ₀ (Fin 2) fun p => (pcfgs (F := F) p).Adm) .tc) PUnit := .op (.customCall (Pipeline.entry 0) ()) fun _ => .ret ⟨⟩
def inRd : Prog (TpuEff nD τ sig (Elt F) (Pipeline.Sig Λ₀ (Fin 2) fun p => (pcfgs (F := F) p).Adm) .tc) PUnit := .op (.customCall (Pipeline.entry 1) ()) fun _ => .ret ⟨⟩

theorem callSq_eq : callSq (F := F) = SparseCore.liftProg inSq := rfl
theorem callRd_eq : callRd (F := F) = SparseCore.liftProg inRd := rfl

/-- @main after its first host operations. -/
def rest (d : Dev nD) : MainProg F := do
  sc.run d 0
  hlo rfl opT (fun _ => .ret ⟨⟩)
  callSq
  sc.run d 1
  callRd
  pure ⟨⟩

theorem main_eq (d : Dev nD) : main (F := F) d = (StableHlo.seq opsA >>= fun _ => rest d) := by
  unfold main rest opsA
  simp only [fn_pad.body, StableHlo.seq, bind_assoc, pure_bind]
  rfl

theorem UC_sub (op : HloOp τ sig (Elt F)) (h : op.bufs ⊆ StableHlo.tcRefs τ sig) : op.bufs ⊆ UC := Pipeline.sub_ucRefs op h

theorem opsA_sub : ∀ op ∈ opsA (F := F), op.bufs ⊆ UC := by
  unfold opsA
  simp only [List.forall_mem_cons]
  exact ⟨UC_sub _ (StableHlo.nullary_bufs_sub ..), UC_sub _ (StableHlo.unary_bufs_sub ..), UC_sub _ (StableHlo.binary_bufs_sub ..),
    UC_sub _ (StableHlo.nullary_bufs_sub ..), UC_sub _ (StableHlo.unary_bufs_sub ..), UC_sub _ (StableHlo.binary_bufs_sub ..),
    UC_sub _ (StableHlo.nullary_bufs_sub ..), UC_sub _ (StableHlo.unary_bufs_sub ..), UC_sub _ (StableHlo.binary_bufs_sub ..),
    UC_sub _ (StableHlo.reshape_bufs_sub ..), fun _ h => nomatch h⟩

theorem opsA_fresh : ∀ op ∈ opsA (F := F), op.fresh = ∅ := by
  unfold opsA
  simp only [List.forall_mem_cons]
  refine ⟨rfl, rfl, rfl, rfl, rfl, rfl, rfl, rfl, rfl, rfl, fun _ h => nomatch h⟩

theorem opT_sub : (opT (F := F)).bufs ⊆ UC := UC_sub _ (StableHlo.unary_bufs_sub ..)

theorem S0_sub : S0 ⊆ UC := by decide
theorem S2_sub : S2 ⊆ UC := by decide

theorem unscoped_held (d : Dev nD) : (unscopedBufs d (fun b => m ((SparseCore.T d).loc b)) : sProp 𝕄) = held (SparseCore.T d) UC (V0 m d) :=
  Pipeline.unscopedBufs_held d (V0 m d)

/-- The main thread's state is what it owes beside the rest. -/
theorem tcSt_split (d : Dev nD) (n : ℕ) : ∃ R : sProp 𝕄, ((K (F := F)).tcSt EH d n : sProp 𝕄) = iprop(tcOwes n d ∗ R) := ⟨_, rfl⟩

theorem A1_sub : Pipeline.arrRefs spec1 ⊆ UC := Pipeline.arrRefs_sub_ucRefs spec1 (by decide)
theorem A3_sub : Pipeline.arrRefs spec3 ⊆ UC := Pipeline.arrRefs_sub_ucRefs spec3 (by decide)

/-- The squares' call, over all the arrays. -/
theorem tc1 (κ : GSem nD τ sig → ℕ) (d : Dev nD) (Φ : PUnit → sProp 𝕄) :
    iprop((K (F := F)).ctx EH (P m) κ ∗ (K (F := F)).tcSt EH d 1 ∗ boundary (SparseCore.T d) ∗ held (SparseCore.T d) UC (VC m d)
        ∗ Pipeline.cellsGhost (Pipeline.pin (pcfgs (F := F)) adm) EP 0 d ∗ Pipeline.toksInit (Pipeline.pin (pcfgs (F := F)) adm) EP 0 d
        ∗ (((K (F := F)).tcSt EH d 1 ∗ boundary (SparseCore.T d) ∗ held (SparseCore.T d) UC (VD m d)) -∗ Φ ⟨⟩))
      ⊢ wp frame (wpE ((K (F := F)).defs (D (F := F))) 𝒱 (SparseCore.T d) none) Set.univ callSq Φ := by
  rw [callSq_eq]
  refine BIBase.Entails.trans ?_ ((K (F := F)).wp_liftProg (D (F := F)) 𝒱 (SparseCore.T d) Set.univ none inSq Φ)
  unfold inSq
  obtain ⟨R, hR⟩ := tcSt_split (F := F) d 1
  rw [hR]
  iintro ⟨#Hctx, ⟨HO, Hrest⟩, Hb, Hheld, Hg, Ht, Hk⟩
  ihave Hlv := ((K (F := F)).ctx_levAts κ) $$ Hctx
  ihave H := (Entails.of_eq (StableHlo.held_sub_split (SparseCore.T d) A1_sub (VC m d))) $$ Hheld
  icases H with ⟨Ha, Hr⟩
  iapply ((Pipeline.RegionSeg.wp (pcfgs (F := F)) adm (pdats (VC m d)) none cellOf_inj EP defs₀ 𝒱₀ (K (F := F)).L (K (F := F)).lev
    (reg1 (VC m d) (VD m d) (left1 m d)) d none (fun u hu => nomatch hu) (fun _ => .ret ⟨⟩) Φ)) $$ [HO Hrest Hb Ha Hr Hg Ht Hk Hlv]
  isplitl [Hk Hrest Hr]
  · iintro ⟨Hb, Hp⟩
    ihave Hp := (show (reg1 (VC m d) (VD m d) (left1 m d)).post d ⊢ (iprop(held (SparseCore.T d) (Pipeline.arrRefs spec1) (VD m d) ∗ tcOwes 1 d) : sProp 𝕄) from .rfl) $$ Hp
    icases Hp with ⟨Ha, HO⟩
    rw [wp_ret]; imodintro
    iapply Hk
    isplitl [HO Hrest]
    · isplitl [HO]; · iexact HO
      iexact Hrest
    isplitl [Hb]; · iexact Hb
    iapply (Entails.of_eq (held_put d (Pipeline.arrRefs spec1) A1_sub (VC m d) (dr main_v6) (by decide) (sq m d)).symm)
    isplitl [Ha]; · iexact Ha
    iexact Hr
  isplitl [Hb]; · iexact Hb
  isplitl [Ha HO]
  · iapply (show (iprop(held (SparseCore.T d) (Pipeline.arrRefs spec1) (VC m d) ∗ tcOwes 1 d) : sProp 𝕄) ⊢ (reg1 (VC m d) (VD m d) (left1 m d)).pre d from .rfl)
    isplitl [Ha]; · iexact Ha
    iexact HO
  isplitl [Hlv]; · iexact Hlv
  isplitl [Hg]; · iexact Hg
  iexact Ht

/-- The last call, over all the arrays. -/
theorem tc3 (κ : GSem nD τ sig → ℕ) (d : Dev nD) (Φ : PUnit → sProp 𝕄) :
    iprop((K (F := F)).ctx EH (P m) κ ∗ (K (F := F)).tcSt EH d 2 ∗ boundary (SparseCore.T d) ∗ held (SparseCore.T d) UC (VE m d)
        ∗ Pipeline.cellsGhost (Pipeline.pin (pcfgs (F := F)) adm) EP 1 d ∗ Pipeline.toksInit (Pipeline.pin (pcfgs (F := F)) adm) EP 1 d
        ∗ (((K (F := F)).tcSt EH d 2 ∗ boundary (SparseCore.T d) ∗ held (SparseCore.T d) UC (VF m d)) -∗ Φ ⟨⟩))
      ⊢ wp frame (wpE ((K (F := F)).defs (D (F := F))) 𝒱 (SparseCore.T d) none) Set.univ callRd Φ := by
  rw [callRd_eq]
  refine BIBase.Entails.trans ?_ ((K (F := F)).wp_liftProg (D (F := F)) 𝒱 (SparseCore.T d) Set.univ none inRd Φ)
  unfold inRd
  obtain ⟨R, hR⟩ := tcSt_split (F := F) d 2
  rw [hR]
  iintro ⟨#Hctx, ⟨HO, Hrest⟩, Hb, Hheld, Hg, Ht, Hk⟩
  ihave Hlv := ((K (F := F)).ctx_levAts κ) $$ Hctx
  ihave H := (Entails.of_eq (StableHlo.held_sub_split (SparseCore.T d) A3_sub (VE m d))) $$ Hheld
  icases H with ⟨Ha, Hr⟩
  iapply ((Pipeline.RegionSeg.wp (pcfgs (F := F)) adm (pdats (VE m d)) none cellOf_inj EP defs₀ 𝒱₀ (K (F := F)).L (K (F := F)).lev
    (reg3 (VE m d) (VF m d) (left3 m d)) d none (fun u hu => nomatch hu) (fun _ => .ret ⟨⟩) Φ)) $$ [HO Hrest Hb Ha Hr Hg Ht Hk Hlv]
  isplitl [Hk Hrest Hr]
  · iintro ⟨Hb, Hp⟩
    ihave Hp := (show (reg3 (VE m d) (VF m d) (left3 m d)).post d ⊢ (iprop(held (SparseCore.T d) (Pipeline.arrRefs spec3) (VF m d) ∗ tcOwes 2 d) : sProp 𝕄) from .rfl) $$ Hp
    icases Hp with ⟨Ha, HO⟩
    rw [wp_ret]; imodintro
    iapply Hk
    isplitl [HO Hrest]
    · isplitl [HO]; · iexact HO
      iexact Hrest
    isplitl [Hb]; · iexact Hb
    iapply (Entails.of_eq (held_put d (Pipeline.arrRefs spec3) A3_sub (VE m d) (dr main_v8) (by decide) (fin m d)).symm)
    isplitl [Ha]; · iexact Ha
    iexact Hr
  isplitl [Hb]; · iexact Hb
  isplitl [Ha HO]
  · iapply (show (iprop(held (SparseCore.T d) (Pipeline.arrRefs spec3) (VE m d) ∗ tcOwes 2 d) : sProp 𝕄) ⊢ (reg3 (VE m d) (VF m d) (left3 m d)).pre d from .rfl)
    isplitl [Ha]; · iexact Ha
    iexact HO
  isplitl [Hlv]; · iexact Hlv
  isplitl [Hg]; · iexact Hg
  iexact Ht

omit [FloatOps F] in
theorem two (Φ : Fin 2 → sProp 𝕄) : bigSep Finset.univ Φ = iprop(Φ 0 ∗ Φ 1) := BI.bigSep_fin_two Φ

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd G
  rw [unscoped_held, main_eq, two, two]
  iintro ⟨#Hctx, Hst, ⟨Hb, Hheld, Hts, -⟩, ⟨Hg0, Hg1⟩, ⟨Ht0, Ht1⟩⟩
  -- the padded arrays and the row of radii
  iapply (StableHlo.wp_seq (defs := (K (F := F)).defs (D (F := F))) 𝒱 none Set.univ d UC _ opsA opsA_sub opsA_fresh (V0 m d)) $$ [Hb Hheld]
  · isplitl [Hb]; · iexact Hb
    iexact Hheld
  iintro ⟨Hb, Hheld⟩
  simp only [rest, wp_bind, wp_pure]
  ihave Hheld := (show (held (d.tc : Thread nD τ) UC (StableHlo.after opsA (V0 m d)) : sProp 𝕄) ⊢ held (SparseCore.T d) UC (VA m d) from .rfl) $$ Hheld
  ihave Hb := (show (boundary (d.tc : Thread nD τ) : sProp 𝕄) ⊢ boundary (SparseCore.T d) from .rfl) $$ Hb
  -- the table
  ihave H := (Entails.of_eq (StableHlo.held_sub_split (SparseCore.T d) S0_sub (VA m d))) $$ Hheld
  icases H with ⟨Ha, Hr⟩
  iapply ((K (F := F)).wp_run (D (F := F)) 𝒱 (EH := EH) (P := P m) κ d 0) $$ [Hst Ha Hr Hb Hts Hg0 Hg1 Ht0 Ht1]
  isplitr; · iexact Hctx
  isplitl [Hst]; · iexact Hst
  isplitl [Ha]
  · iapply (Entails.of_eq (st0_eq m d).symm); iexact Ha
  iintro ⟨Hst, Hdn⟩
  ihave Ha := (Entails.of_eq (dn0_eq m d)) $$ Hdn
  ihave Hheld := (Entails.of_eq (held_put d S0 S0_sub (VA m d) (dr main_v4) (by decide) (tbl m d)).symm) $$ [Ha Hr]
  · isplitl [Ha]; · iexact Ha
    iexact Hr
  -- the coordinates, transposed
  iapply (StableHlo.wp_hlo_within 𝒱 (SparseCore.T d) none Set.univ (op := opT) (S := UC) opT_sub (V := VB m d)) $$ [Hb Hheld]
  · isplitl [Hb]; · iexact Hb
    iexact Hheld
  iintro ⟨Hb, Hheld⟩
  rw [wp_ret]; imodintro
  -- the squares
  iapply (tc1 m κ d _) $$ [Hst Hb Hheld Hts Hg0 Hg1 Ht0 Ht1]
  isplitr; · iexact Hctx
  isplitl [Hst]; · iexact Hst
  isplitl [Hb]; · iexact Hb
  isplitl [Hheld]; · iexact Hheld
  isplitl [Hg0]; · iexact Hg0
  isplitl [Ht0]; · iexact Ht0
  iintro ⟨Hst, Hb, Hheld⟩
  -- the pairs
  ihave H := (Entails.of_eq (StableHlo.held_sub_split (SparseCore.T d) S2_sub (VD m d))) $$ Hheld
  icases H with ⟨Ha, Hr⟩
  iapply ((K (F := F)).wp_run (D (F := F)) 𝒱 (EH := EH) (P := P m) κ d 1) $$ [Hst Ha Hr Hb Hts Hg1 Ht1]
  isplitr; · iexact Hctx
  isplitl [Hst]; · iexact Hst
  isplitl [Ha]
  · iapply (Entails.of_eq (st2_eq m d).symm); iexact Ha
  iintro ⟨Hst, Hdn⟩
  ihave Ha := (Entails.of_eq (dn2_eq m d)) $$ Hdn
  ihave Hheld := (Entails.of_eq (held_put d S2 S2_sub (VD m d) (dr main_v7) (by decide) (prt m d)).symm) $$ [Ha Hr]
  · isplitl [Ha]; · iexact Ha
    iexact Hr
  -- the sum
  iapply (tc3 m κ d _) $$ [Hst Hb Hheld Hts Hg1 Ht1]
  isplitr; · iexact Hctx
  isplitl [Hst]; · iexact Hst
  isplitl [Hb]; · iexact Hb
  isplitl [Hheld]; · iexact Hheld
  isplitl [Hg1]; · iexact Hg1
  isplitl [Ht1]; · iexact Ht1
  iintro ⟨Hst, Hb, Hheld⟩
  imodintro
  isplitl [Hst]; · iexact Hst
  isplitl [Hheld]; · iexact Hheld
  isplitl [Hb]; · iexact Hb
  iexact Hts

/-! ## Reading the final memory -/

def fq (d : Dev nD) (s' : Phys nD τ sig (Elt F)) : Prop := ∀ b ∈ UC, s'.mem.mem (d, b) = VF m d b

theorem hfin (d : Dev nD) (s' : Phys nD τ sig (Elt F)) : iprop(FIN m d ∗ SI s') ⊢ (⌜fq m d s'⌝ : sProp 𝕄) := by
  have one : ∀ b ∈ UC, iprop(FIN m d ∗ SI s') ⊢ (⌜s'.mem.mem (d, b) = VF m d b⌝ : sProp 𝕄) := by
    intro b hb
    have e : (held (SparseCore.T d) UC (VF m d) : sProp 𝕄) ⊢ ((d, b) ↦{fullShare} VF m d b) := bigSep_elim hb
    iintro ⟨Hx, HSI⟩
    ihave Hx := e $$ Hx
    ihave H := (SI_pointsTo_agree (st := s') (ℓ := (d, b)) (I := Finset.univ) (q := fullShare) (f := VF m d b)) $$ [HSI Hx]
    · isplitl [HSI] <;> iassumption
    icases H with %hx
    ipureintro; exact funext fun i => hx i (Finset.mem_univ i)
  unfold fq
  iintro H
  iapply pure_forall.2
  iintro %b
  iapply pure_forall.2
  iintro %hb
  iapply (one b hb); iexact H

/-! ## The program's run -/

def QC : PUnit × MemSt nD τ sig (Elt F) → Prop := fun r => (∀ c : Dev nD, ∀ b ∈ UC, r.2.mem (c, b) = VF m c b) ∧ r.2.sem = fun _ => 0

theorem run_main (hm : Ok m) [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hm | 1 => tileObl2 m hm)
    (fun q _ => match q with | 0 => SparseCore.Cfg.VecSplit.of_plain (split0 m) | 1 => SparseCore.Cfg.VecSplit.of_plain (split2 m))
    m ρ main (fun d => G (F := F) d) (FIN m) (u₀ (F := F)) (sep_elim_left.trans (hu₀ m)) (hmain m ρ) (fq m) (hfin m) (QC m) (fun _ h hz => ⟨h, hz⟩)

end Cert.KernelIdeal.Pf

end
-- ==== Proof.IVals.lean ====
/-
  What the arrays hold at each stage, read back to the launch's arguments. Generic in the float instance.
-/
module

public import proofs.«01_k».proof.Proof.IMain
public import Idealize.ShloMosaic.Lib.KernelVsHost

@[expose] public section

noncomputable section

namespace Cert.KernelIdeal.Pf

open Cert.KernelIdeal Cert.KernelIdeal.Gen
open Idealize.ShloMosaic
open Idealize.ShloMosaic.StableHlo

variable {F : FTy → Type} [FloatOps F]
variable (m : (ℓ : Loc nD τ sig) → Buf (Elt F) ℓ)

abbrev padded (x : (⟨S100000, .i32⟩ : BufTy).Contents (Elt F)) : (⟨S100352, .i32⟩ : BufTy).Contents (Elt F) :=
  pad S100352 ![0] ![352] ![0] x (constantI S_ 32 0#32) pads_S100000_S100352_03520 h_S_

theorem VA_v0 (d : Dev nD) : VA m d (dr main_v0) = padded (m ((SparseCore.T d).loc main_arg0)) := by
  unfold VA opsA; after_results; rfl
theorem VA_v1 (d : Dev nD) : VA m d (dr main_v1) = padded (m ((SparseCore.T d).loc main_arg5)) := by
  unfold VA opsA; after_results; rfl
theorem VA_v2 (d : Dev nD) : VA m d (dr main_v2) = padded (m ((SparseCore.T d).loc main_arg1)) := by
  unfold VA opsA; after_results; rfl
theorem VA_v3 (d : Dev nD) : VA m d (dr main_v3) = shapeCast S200 (m ((SparseCore.T d).loc main_arg6)) shapeCasts_S2x100_S200 := by
  unfold VA opsA; after_results; rfl

/-- An array no call writes keeps its contents. -/
theorem VD_keep (d : Dev nD) (b : DevRef τ sig) (h4 : b ≠ dr main_v4) (h5 : b ≠ dr main_v5) (h6 : b ≠ dr main_v6) : VD m d b = VA m d b := by
  have hC : VC m d b = VB m d b := (opT (F := F)).result_of_not_mem (VB m d) (by
    show b ∉ ({dr main_v5} : Finset _)
    rw [Finset.mem_singleton]; exact h5)
  exact (Function.update_of_ne h6 _ _).trans (hC.trans (Function.update_of_ne h4 _ _))

theorem VF_keep (d : Dev nD) (b : DevRef τ sig) (h4 : b ≠ dr main_v4) (h5 : b ≠ dr main_v5) (h6 : b ≠ dr main_v6) (h7 : b ≠ dr main_v7) (h8 : b ≠ dr main_v8) :
    VF m d b = VA m d b :=
  (Function.update_of_ne h8 _ _).trans ((Function.update_of_ne h7 _ _).trans (VD_keep m d b h4 h5 h6))

theorem VA_arg (d : Dev nD) : VA m d (dr main_arg0) = m (d, dr main_arg0) ∧ VA m d (dr main_arg1) = m (d, dr main_arg1) ∧ VA m d (dr main_arg2) = m (d, dr main_arg2)
    ∧ VA m d (dr main_arg3) = m (d, dr main_arg3) ∧ VA m d (dr main_arg4) = m (d, dr main_arg4) ∧ VA m d (dr main_arg5) = m (d, dr main_arg5)
    ∧ VA m d (dr main_arg6) = m (d, dr main_arg6) := by
  refine ⟨?_, ?_, ?_, ?_, ?_, ?_, ?_⟩ <;> unfold VA opsA <;> after_results <;> rfl

theorem VF_arg (d : Dev nD) : VF m d (dr main_arg0) = m (d, dr main_arg0) ∧ VF m d (dr main_arg1) = m (d, dr main_arg1) ∧ VF m d (dr main_arg2) = m (d, dr main_arg2)
    ∧ VF m d (dr main_arg3) = m (d, dr main_arg3) ∧ VF m d (dr main_arg4) = m (d, dr main_arg4) ∧ VF m d (dr main_arg5) = m (d, dr main_arg5)
    ∧ VF m d (dr main_arg6) = m (d, dr main_arg6) := by
  obtain ⟨h0, h1, h2, h3, h4, h5, h6⟩ := VA_arg m d
  refine ⟨Eq.trans ?_ h0, Eq.trans ?_ h1, Eq.trans ?_ h2, Eq.trans ?_ h3, Eq.trans ?_ h4, Eq.trans ?_ h5, Eq.trans ?_ h6⟩ <;>
    exact VF_keep m d _ (by decide) (by decide) (by decide) (by decide) (by decide)

theorem VD_arg3 (d : Dev nD) : VD m d (dr main_arg3) = m (d, dr main_arg3) := (VD_keep m d _ (by decide) (by decide) (by decide)).trans (VA_arg m d).2.2.2.1
theorem VD_arg4 (d : Dev nD) : VD m d (dr main_arg4) = m (d, dr main_arg4) := (VD_keep m d _ (by decide) (by decide) (by decide)).trans (VA_arg m d).2.2.2.2.1

theorem VD_v4 (d : Dev nD) : VD m d (dr main_v4) = tbl m d := by
  have hC : VC m d (dr main_v4) = VB m d (dr main_v4) := (opT (F := F)).result_of_not_mem (VB m d) (by
    show dr main_v4 ∉ ({dr main_v5} : Finset _)
    decide)
  exact (Function.update_of_ne (show dr main_v4 ≠ dr main_v6 by decide) _ _).trans (hC.trans (Function.update_self (dr main_v4) _ _))

theorem VC_v5 (d : Dev nD) : VC m d (dr main_v5) = transpose S3x6400000 [1, 0] (m (d, dr main_arg2)) transposes_S6400000x3_S3x6400000_1_0 := by
  have hB : VB m d (dr main_arg2) = m (d, dr main_arg2) := (Function.update_of_ne (show dr main_arg2 ≠ dr main_v4 by decide) _ _).trans (VA_arg m d).2.2.1
  have h : VC m d (dr main_v5) = after [opT] (VB m d) (dr main_v5) := rfl
  rw [h]; after_results
  rw [show VB m d (Proc.devRef .tc main_arg2) = _ from hB]

/-- The program's result, over the launch's arguments. -/
theorem fin_eq (d : Dev nD) : fin m d = outVal (partialVal
    (tableVal (padded (m (d, dr main_arg0))) (padded (m (d, dr main_arg5))) (padded (m (d, dr main_arg1))) (shapeCast S200 (m (d, dr main_arg6)) shapeCasts_S2x100_S200))
    (m (d, dr main_arg3)) (m (d, dr main_arg4))
    (d2Val (transpose S3x6400000 [1, 0] (m (d, dr main_arg2)) transposes_S6400000x3_S3x6400000_1_0))) := by
  unfold fin
  rw [show VE m d (dr main_v7) = prt m d from Function.update_self (dr main_v7) _ _]
  unfold prt
  rw [VD_v4, VD_arg3, VD_arg4, VD_v6]
  unfold tbl sq
  rw [VA_v0, VA_v1, VA_v2, VA_v3, VC_v5]

/-! ## The ranges the tasks need, from the arguments' -/

/-- A padded array's elements are the array's, or zero. -/
theorem padded_apply (x : (⟨S100000, .i32⟩ : BufTy).Contents (Elt F)) (n : S100352.Idx) :
    padded (F := F) x n = if h : (n 0).val < 100000 then x (at1 100000 (n 0).val) else (0#32 : BitVec 32) := by
  split
  · rename_i h
    refine pad_apply_of_inside _ _ _ _ _ _ _ _ (at1 100000 (n 0).val) fun a => ?_
    fin_cases a
    have e : ((at1 100000 (n 0).val) (0 : Fin 1)).val = (n 0).val := at1_val _ h
    show (n 0).val = 0 + ((at1 100000 (n 0).val) (0 : Fin 1)).val * (0 + 1)
    omega
  · rename_i h
    refine pad_apply_of_not_inside _ _ _ _ _ _ _ _ 0 fun hh => ?_
    have h2 : ((n 0).val - 0) / (0 + 1) < 100000 := hh.2.2
    omega

/-- The ranges of the integer arguments. -/
structure Ranges (m : (ℓ : Loc nD τ sig) → Buf (Elt F) ℓ) : Prop where
  z : ∀ d n, (m (d, dr main_arg0) n : BitVec 32).toNat < 100
  mol : ∀ d n, (m (d, dr main_arg1) n : BitVec 32).toNat < 1024
  i : ∀ d n, (m (d, dr main_arg3) n : BitVec 32).toNat < 100000
  j : ∀ d n, (m (d, dr main_arg4) n : BitVec 32).toNat < 100000
  f : ∀ d n, (m (d, dr main_arg5) n : BitVec 32).toNat < 2

theorem ok_of (h : Ranges m) : Ok m where
  z d n := by
    rw [VA_v0, padded_apply]
    split
    · exact h.z d _
    · decide
  f d n := by
    rw [VA_v1, padded_apply]
    split
    · exact h.f d _
    · decide
  i d n := by rw [VD_arg3]; exact (h.i d n).trans (by decide)
  j d n := by rw [VD_arg4]; exact (h.j d n).trans (by decide)

/-! ## The run, at the arguments -/

/-- From memories in range: the program ends with its arguments as they were, its result as computed, every counter zero. -/
theorem run_args (h : Ranges m) (ρ : Dev nD → PrngReg) [∀ e, Nonempty (Elt F e)] : θ_run (defs (F := F)) (threads (F := F)) ⟨m, fun _ => 0, ρ⟩ fun r =>
    (∀ c : Dev nD, (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v8) = fin m c) ∧ r.2.sem = fun _ => 0 := by
  refine (θ_run (defs (F := F)) _ _).mono (fun r hr => ?_) (run_main m ρ (ok_of m h))
  refine ⟨fun c => ?_, hr.2⟩
  obtain ⟨h0, h1, h2, h3, h4, h5, h6⟩ := VF_arg m c
  have k := hr.1 c
  exact ⟨⟨(k (dr main_arg0) (by decide)).trans h0, (k (dr main_arg1) (by decide)).trans h1, (k (dr main_arg2) (by decide)).trans h2, (k (dr main_arg3) (by decide)).trans h3, (k (dr main_arg4) (by decide)).trans h4, (k (dr main_arg5) (by decide)).trans h5, (k (dr main_arg6) (by decide)).trans h6⟩, (k (dr main_v8) (by decide)).trans (VF_v8 m c)⟩

end Cert.KernelIdeal.Pf

end
-- ==== Proof.PreRanges.lean ====
/-
  The ranges that the two input predicates say of the argument arrays.
-/
module

public import proofs.«01_k».proof.Defs
public import proofs.«01_k».proof.Proof.Gen.Pre_drawn
public import proofs.«01_k».proof.Proof.Gen.Pre_drawn_radii
public import Idealize.ShloMosaic.PureOps.Ideal.Laws

@[expose] public section

noncomputable section

namespace Cert.Pf

open Idealize.ShloMosaic

/-- A word at least zero and below a small bound, both signed, is below it unsigned. -/
theorem word_lt (w : BitVec 32) (N : ℕ) (hN : N < 2147483648)
    (h : IntOp.andi (IntOp.cmpi .sge w 0#32) (IntOp.cmpi .slt w (BitVec.ofNat 32 N)) = 1#1) : w.toNat < N := by
  unfold IntOp.andi IntOp.cmpi at h
  dsimp only at h
  have two : ∀ a b : Bool, BitVec.ofBool a &&& BitVec.ofBool b = 1#1 → a = true ∧ b = true := by decide
  obtain ⟨h1, h2⟩ := two _ _ h
  rw [BitVec.sle_eq_decide, decide_eq_true_eq] at h1
  rw [BitVec.slt_eq_decide, decide_eq_true_eq] at h2
  have e0 : (0#32 : BitVec 32).toInt = 0 := by decide
  have eN : (BitVec.ofNat 32 N).toInt = N := by
    rw [BitVec.toInt_eq_toNat_cond, BitVec.toNat_ofNat, Nat.mod_eq_of_lt (by omega)]
    rw [if_pos (by omega)]
  rw [e0] at h1; rw [eN] at h2
  have hw := w.isLt
  rw [BitVec.toInt_eq_toNat_cond] at h1 h2
  split at h1 <;> omega

theorem arr_lt {s : Shape} (x : IVec s 32) (N : ℕ) (hN : N < 2147483648) (p : IVec s 1)
    (hp : p = fun _ => 1#1) (hv : ∀ n, p n = IntOp.andi (IntOp.cmpi .sge (x n) 0#32) (IntOp.cmpi .slt (x n) (BitVec.ofNat 32 N))) (n : s.Idx) : (x n).toNat < N :=
  word_lt _ N hN ((hv n).symm.trans (congrFun hp n))

variable {F : FTy → Type} [FloatOps F]

theorem drawn_ranges (z : IVec Cert.Pre_drawn.S100000 32) (mo : IVec Cert.Pre_drawn.S100000 32) (x : FVec F Cert.Pre_drawn.S6400000x3 .f32)
    (i j : IVec Cert.Pre_drawn.S6400000 32) (f : IVec Cert.Pre_drawn.S100000 32) (r : FVec F Cert.Pre_drawn.S2x100 .f32)
    (h0 : (Cert.Pre_drawn.fn (F := F) z mo x i j f r).1 = fun _ => 1#1) (h1 : (Cert.Pre_drawn.fn (F := F) z mo x i j f r).2.1 = fun _ => 1#1)
    (h2 : (Cert.Pre_drawn.fn (F := F) z mo x i j f r).2.2.1 = fun _ => 1#1) (h3 : (Cert.Pre_drawn.fn (F := F) z mo x i j f r).2.2.2.1 = fun _ => 1#1)
    (h4 : (Cert.Pre_drawn.fn (F := F) z mo x i j f r).2.2.2.2 = fun _ => 1#1) :
    (∀ n, (z n).toNat < 100) ∧ (∀ n, (mo n).toNat < 1024) ∧ (∀ n, (i n).toNat < 100000) ∧ (∀ n, (j n).toNat < 100000) ∧ (∀ n, (f n).toNat < 2) :=
  ⟨arr_lt z 100 (by decide) _ h0 fun _ => rfl, arr_lt mo 1024 (by decide) _ h1 fun _ => rfl, arr_lt i 100000 (by decide) _ h2 fun _ => rfl,
    arr_lt j 100000 (by decide) _ h3 fun _ => rfl, arr_lt f 2 (by decide) _ h4 fun _ => rfl⟩

theorem drawn_radii_ranges (z : IVec Cert.Pre_drawn_radii.S100000 32) (mo : IVec Cert.Pre_drawn_radii.S100000 32) (x : FVec Ideal Cert.Pre_drawn_radii.S6400000x3 .f32)
    (i j : IVec Cert.Pre_drawn_radii.S6400000 32) (f : IVec Cert.Pre_drawn_radii.S100000 32) (r : FVec Ideal Cert.Pre_drawn_radii.S2x100 .f32)
    (h0 : (Cert.Pre_drawn_radii.fn (F := Ideal) z mo x i j f r).1 = fun _ => 1#1) (h1 : (Cert.Pre_drawn_radii.fn (F := Ideal) z mo x i j f r).2.1 = fun _ => 1#1)
    (h2 : (Cert.Pre_drawn_radii.fn (F := Ideal) z mo x i j f r).2.2.1 = fun _ => 1#1) (h3 : (Cert.Pre_drawn_radii.fn (F := Ideal) z mo x i j f r).2.2.2.1 = fun _ => 1#1)
    (h4 : (Cert.Pre_drawn_radii.fn (F := Ideal) z mo x i j f r).2.2.2.2.1 = fun _ => 1#1) (h5 : (Cert.Pre_drawn_radii.fn (F := Ideal) z mo x i j f r).2.2.2.2.2 = fun _ => 1#1) :
    (∀ n, (z n).toNat < 100) ∧ (∀ n, (mo n).toNat < 1024) ∧ (∀ n, (i n).toNat < 100000) ∧ (∀ n, (j n).toNat < 100000) ∧ (∀ n, (f n).toNat < 2)
      ∧ ∀ n, IntOp.andi (FloatOps.cmpf (F := Ideal) .oge (r n) (FloatOps.ofBits .f32 0x3F000000#32)) (FloatOps.cmpf (F := Ideal) .ole (r n) (FloatOps.ofBits .f32 0x3FC00000#32)) = 1#1 :=
  ⟨arr_lt z 100 (by decide) _ h0 fun _ => rfl, arr_lt mo 1024 (by decide) _ h1 fun _ => rfl, arr_lt i 100000 (by decide) _ h2 fun _ => rfl,
    arr_lt j 100000 (by decide) _ h3 fun _ => rfl, arr_lt f 2 (by decide) _ h4 fun _ => rfl, fun n => congrFun h5 n⟩

end Cert.Pf

end
-- ==== Proof.Frames.lean ====
/-
  The frames: both programs run from arguments in range, and the reference from any, the arguments unchanged and
  every counter at zero.
-/
module

public import proofs.«01_k».proof.Proof.KVals
public import proofs.«01_k».proof.Proof.IVals
public import proofs.«01_k».proof.Proof.PreRanges
public import proofs.«01_k».proof.Proof.Gen.ReferenceIdeal.Run

@[expose] public section

noncomputable section

namespace Cert.Pf

open Idealize.ShloMosaic Idealize.SL.Sem

theorem ranges_p (m : (ℓ : Loc Cert.Kernel.nD Cert.Kernel.τ Cert.Kernel.sig) → Buf (Elt Bits) ℓ) (h : Cert.Pre_Kernel m) : Cert.Kernel.Pf.Ranges m := by
  have e := fun c => drawn_ranges _ _ _ _ _ _ _ (h c).1 (h c).2.1 (h c).2.2.1 (h c).2.2.2.1 (h c).2.2.2.2
  exact ⟨fun d => (e d).1, fun d => (e d).2.1, fun d => (e d).2.2.1, fun d => (e d).2.2.2.1, fun d => (e d).2.2.2.2⟩

theorem ranges_pi (m : (ℓ : Loc Cert.KernelIdeal.nD Cert.KernelIdeal.τ Cert.KernelIdeal.sig) → Buf (Elt Ideal) ℓ) (h : Cert.Pre_KernelIdeal m) : Cert.KernelIdeal.Pf.Ranges m := by
  have e := fun c => drawn_ranges _ _ _ _ _ _ _ (h c).1 (h c).2.1 (h c).2.2.1 (h c).2.2.2.1 (h c).2.2.2.2
  exact ⟨fun d => (e d).1, fun d => (e d).2.1, fun d => (e d).2.2.1, fun d => (e d).2.2.2.1, fun d => (e d).2.2.2.2⟩

theorem frame_p : Cert.quiescent_Kernel := fun m ρ hp =>
  (θ_run Cert.Kernel.defs _ _).mono (fun _ h => ⟨fun c => (h.1 c).1, h.2⟩) (Cert.Kernel.Pf.run_args (F := Bits) m (ranges_p m hp) ρ)

theorem frame_pi : Cert.quiescent_KernelIdeal := fun m ρ hp =>
  (θ_run Cert.KernelIdeal.defs _ _).mono (fun _ h => ⟨fun c => (h.1 c).1, h.2⟩) (Cert.KernelIdeal.Pf.run_args (F := Ideal) m (ranges_pi m hp) ρ)

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Pf

end
-- ==== Proof.AlgReal.lean ====
/-
  The arithmetic of one pair over the extended reals: the quantised radius both programs use, and the
  potential, from the squared distance in the kernel and from the distance in the reference.
-/
module

public import Idealize.ShloMosaic.Lib.IdealHost

@[expose] public section

noncomputable section

namespace Cert.Pf

open Idealize.ShloMosaic

theorem lit_scale : Ideal.ofBits .f32 0x49800000#32 = ((1048576 : ℝ) : EReal) := by
  simp [Ideal.ofBits, Ideal.ieee, -EReal.coe_mul]; norm_num
theorem lit_half : Ideal.ofBits .f32 0x3F000000#32 = (((1 : ℝ) / 2 : ℝ) : EReal) := by
  simp [Ideal.ofBits, Ideal.ieee, -EReal.coe_mul]; norm_num
theorem lit_three_halves : Ideal.ofBits .f32 0x3FC00000#32 = (((3 : ℝ) / 2 : ℝ) : EReal) := by
  simp [Ideal.ofBits, Ideal.ieee, -EReal.coe_mul]; norm_num
theorem lit_unscale : Ideal.ofBits .f32 0x35800000#32 = (((1 : ℝ) / 1048576 : ℝ) : EReal) := by
  simp [Ideal.ofBits, Ideal.ieee, -EReal.coe_mul]; norm_num
theorem lit_25 : Ideal.ofBits .f32 0x41C80000#32 = ((25 : ℝ) : EReal) := by
  simp [Ideal.ofBits, Ideal.ieee, -EReal.coe_mul]; norm_num
theorem lit_5 : Ideal.ofBits .f32 0x40A00000#32 = ((5 : ℝ) : EReal) := by
  simp [Ideal.ofBits, Ideal.ieee, -EReal.coe_mul]; norm_num

/-- A radius in the range it is drawn from, as a real. -/
theorem radius_real (r : EReal) (h : IntOp.andi (FloatOps.cmpf (F := Ideal) (φ := .f32) .oge r (FloatOps.ofBits .f32 0x3F000000#32))
    (FloatOps.cmpf (F := Ideal) (φ := .f32) .ole r (FloatOps.ofBits .f32 0x3FC00000#32)) = 1#1) :
    ∃ x : ℝ, r = (x : EReal) ∧ 1 / 2 ≤ x ∧ x ≤ 3 / 2 := by
  have h1 : Ideal.ofBits .f32 0x3F000000#32 ≤ r ∧ r ≤ Ideal.ofBits .f32 0x3FC00000#32 := by
    by_cases a : Ideal.ofBits .f32 0x3F000000#32 ≤ r <;> by_cases b : r ≤ Ideal.ofBits .f32 0x3FC00000#32
    · exact ⟨a, b⟩
    all_goals
      exfalso
      revert h
      simp [FloatOps.cmpf, Ideal.cmp, IntOp.andi, a, b]
  rw [lit_half, lit_three_halves] at h1
  induction r with
  | bot => exact absurd h1.1 (by simp)
  | top => exact absurd h1.2 (by simp)
  | coe x => exact ⟨x, rfl, by exact_mod_cast h1.1, by exact_mod_cast h1.2⟩

/-- The quantised radius as a whole number of steps: what the kernel stores, and the reference's radius. -/
theorem quantised (x : ℝ) (h0 : 1 / 2 ≤ x) (h1 : x ≤ 3 / 2) :
    ∃ k : ℕ, 0 < k ∧ k < 2 ^ 21
      ∧ Ideal.fptosi 32 ((x : EReal) * ((1048576 : ℝ) : EReal) + (((1 : ℝ) / 2 : ℝ) : EReal)) = BitVec.ofNat 32 k
      ∧ Ideal.div (Ideal.liftRound Int.floor ((x : EReal) * ((1048576 : ℝ) : EReal) + (((1 : ℝ) / 2 : ℝ) : EReal))) ((1048576 : ℝ) : EReal)
        = (((k : ℝ) / 1048576 : ℝ) : EReal) := by
  have hf0 : (1 : ℤ) ≤ ⌊1048576 * x + 1 / 2⌋ := Int.le_floor.2 (by push_cast; linarith)
  have hf1 : ⌊1048576 * x + 1 / 2⌋ < 2 ^ 21 := Int.floor_lt.2 (by push_cast; linarith)
  obtain ⟨k, hk⟩ := Int.eq_ofNat_of_zero_le (show (0 : ℤ) ≤ ⌊1048576 * x + 1 / 2⌋ by omega)
  rw [hk] at hf0 hf1
  refine ⟨k, by omega, by omega, ?_, ?_⟩
  · rw [mul_comm, ← EReal.coe_mul, ← EReal.coe_add]
    unfold Ideal.fptosi
    rw [Ideal.toIntClamped_coe, if_pos (by linarith), hk]
    have : max (-((2 ^ (32 - 1) : ℕ) : ℤ)) (min (((2 ^ (32 - 1) : ℕ) : ℤ) - 1) (k : ℤ)) = (k : ℤ) := by
      norm_num at hf1 ⊢
      omega
    rw [this, BitVec.ofInt_natCast]
  · rw [mul_comm, ← EReal.coe_mul, ← EReal.coe_add, Ideal.liftRound_coe, hk, Ideal.div_coe (by norm_num), ← EReal.coe_mul]
    congr 1
    push_cast
    ring

/-- The potential from the squared distance is the potential from the distance. -/
theorem potential_eq (a b : ℕ) (ha : 0 < a) (d : EReal) (hd : 0 ≤ d) (s : EReal)
    (hs : s = (((a : ℝ) + (b : ℝ) : ℝ) : EReal) * (((1 : ℝ) / 1048576 : ℝ) : EReal)) (q : EReal)
    (hq : q = Ideal.div ((((a : ℝ) / 1048576 : ℝ) : EReal) + (((b : ℝ) / 1048576 : ℝ) : EReal)) (Ideal.sqrt d)) :
    (if d ≤ ((25 : ℝ) : EReal) then Ideal.div (((s * s) * (s * s)) * (s * s)) ((d * d) * d) else 0)
      = if Ideal.sqrt d ≤ ((5 : ℝ) : EReal) then (q * q) * ((q * q) * (q * q)) else 0 := by
  obtain ⟨t, ht, hst, hqt⟩ : ∃ t : ℝ, 0 < t ∧ s = (t : EReal) ∧ q = Ideal.div (t : EReal) (Ideal.sqrt d) := by
    refine ⟨((a : ℝ) + b) / 1048576, ?_, ?_, ?_⟩
    · have : (0 : ℝ) < a := by exact_mod_cast ha
      positivity
    · rw [hs, ← EReal.coe_mul]; congr 1; ring
    · rw [hq, ← EReal.coe_add]; congr 2; ring
  subst hst hqt
  induction d with
  | bot => exact absurd hd (by simp)
  | top => simp
  | coe r =>
    have hr : 0 ≤ r := by exact_mod_cast hd
    rw [Ideal.sqrt_coe, if_neg (not_lt.2 hr)]
    have hc : ((r : EReal) ≤ ((25 : ℝ) : EReal)) ↔ ((Real.sqrt r : ℝ) : EReal) ≤ ((5 : ℝ) : EReal) := by
      rw [EReal.coe_le_coe_iff, EReal.coe_le_coe_iff, Real.sqrt_le_left (by norm_num)]
      norm_num
    by_cases hle : (r : EReal) ≤ ((25 : ℝ) : EReal)
    · rw [if_pos hle, if_pos (hc.1 hle)]
      rcases eq_or_lt_of_le hr with h0 | h0
      · subst h0
        have h1 : (0 : EReal) < (t : EReal) * t * (t * t) * (t * t) := by
          rw [← EReal.coe_mul, ← EReal.coe_mul, ← EReal.coe_mul]
          exact_mod_cast (by positivity : (0 : ℝ) < t * t * (t * t) * (t * t))
        have h2 : (0 : EReal) < (t : EReal) := by exact_mod_cast ht
        simp [Ideal.div, h1, h2]
      · have hs0 : Real.sqrt r ≠ 0 := (Real.sqrt_pos.2 h0).ne'
        have hr0 : r ≠ 0 := h0.ne'
        simp only [← EReal.coe_mul]
        rw [Ideal.div_coe (by positivity), Ideal.div_coe hs0]
        simp only [← EReal.coe_mul]
        congr 1
        have e : Real.sqrt r * Real.sqrt r = r := Real.mul_self_sqrt hr
        have e2 : (1 / Real.sqrt r) * (1 / Real.sqrt r) = 1 / r := by rw [div_mul_div_comm, e, one_mul]
        calc t * t * (t * t) * (t * t) * (1 / (r * r * r)) = (t * t * (1 / r)) * ((t * t * (1 / r)) * (t * t * (1 / r))) := by
              field_simp
          _ = _ := by rw [← e2]; ring
    · rw [if_neg hle, if_neg (fun h => hle (hc.2 h))]

end Cert.Pf

end
-- ==== Proof.AlgKernel.lean ====
/-
  The kernel's result at the extended reals: each molecule's sum over all the pairs, whatever task, lane and
  vector a pair falls in; and the packed words read back.
-/
module

public import proofs.«01_k».proof.Proof.IVals
public import proofs.«01_k».proof.Proof.AlgReal
public import Idealize.ShloMosaic.Lib.Pointwise.Reduce

@[expose] public section

noncomputable section

namespace Cert.Pf

open Cert.KernelIdeal Cert.KernelIdeal.Gen Cert.KernelIdeal.Pf
open Idealize.ShloMosaic

/-! ## Sums cut into equal stretches -/

theorem sum_blocks {M : Type} [AddCommMonoid M] (f : ℕ → M) (b : ℕ) :
    ∀ a, ∑ i ∈ Finset.range a, ∑ j ∈ Finset.range b, f (b * i + j) = ∑ e ∈ Finset.range (b * a), f e
  | 0 => by simp
  | a + 1 => by rw [Finset.sum_range_succ, sum_blocks f b a, Nat.mul_succ, Finset.sum_range_add]

theorem foldl_sum (g : ℕ → EReal) :
    ∀ n, (List.range n).foldl (fun s r => s + g (r + 1)) (g 0) = ∑ l ∈ Finset.range (n + 1), g l
  | 0 => by simp
  | n + 1 => by rw [List.range_succ, List.foldl_append, foldl_sum g n, Finset.sum_range_succ _ (n + 1)]; rfl

/-! ## One molecule's sum -/

/-- What pair `e` adds to molecule `c`. -/
def termK (pk : Vec Ideal S100352 .i32) (ii jj : Vec Ideal S6400000 .i32) (dd : Vec Ideal S6400000 .f32) (c e : ℕ) : EReal :=
  if (molW (F := Ideal) (pkAt (F := Ideal) pk (ii (at1 6400000 e)))).toNat = c then
    potW (F := Ideal) (dd (at1 6400000 e)) (pkAt (F := Ideal) pk (ii (at1 6400000 e))) (pkAt (F := Ideal) pk (jj (at1 6400000 e)))
  else 0

variable (pk : Vec Ideal S100352 .i32) (ii jj : Vec Ideal S6400000 .i32) (dd : Vec Ideal S6400000 .f32)

theorem pairStep_add (i j : BitVec 32) (d : Elt Ideal .f32) (c : ℕ) (a : EReal) :
    (pairStep (F := Ideal) pk i j d c a : EReal)
      = a + if (molW (F := Ideal) (pkAt (F := Ideal) pk i)).toNat = c then (potW (F := Ideal) d (pkAt (F := Ideal) pk i) (pkAt (F := Ideal) pk j) : EReal) else 0 := by
  unfold pairStep
  split
  · rfl
  · exact (add_zero a).symm

theorem accV_sum (w : ℕ) (j : S16x1024.Idx) :
    ∀ n, (accV (F := Ideal) pk ii jj dd w n j : EReal) = ∑ k ∈ Finset.range n, termK pk ii jj dd (j 1).val (200000 * w + 16 * k + (j 0).val)
  | 0 => by
    rw [Finset.sum_range_zero]
    exact Ideal.ofBits_zero_f32
  | n + 1 => by
    rw [Finset.sum_range_succ, ← accV_sum w j n]
    exact pairStep_add pk _ _ _ _ _

theorem partial_sum (w c : ℕ) (hw : w < 32) (hc : c < 1024) :
    (partialVal (F := Ideal) pk ii jj dd (at2 32 1024 w c) : EReal) = ∑ e ∈ Finset.range 200000, termK pk ii jj dd c (200000 * w + e) := by
  have h0 : ((at2 32 1024 w c) 0).val = w := at2_val0 _ _ hw
  have h1 : ((at2 32 1024 w c) 1).val = c := at2_val1 _ _ hc
  unfold partialVal rowSum
  rw [h0, h1]
  refine (foldl_sum (fun l => accV (F := Ideal) pk ii jj dd w 12500 (at2 16 1024 l c)) 15).trans ?_
  have hs : (200000 : ℕ) = 16 * 12500 := rfl
  have : ∑ e ∈ Finset.range (16 * 12500), termK pk ii jj dd c (200000 * w + e)
      = ∑ l ∈ Finset.range 16, ∑ k ∈ Finset.range 12500, termK pk ii jj dd c (200000 * w + (16 * k + l)) := by
    rw [← sum_blocks (fun e => termK pk ii jj dd c (200000 * w + e)) 16 12500, Finset.sum_comm]
  rw [show ∑ e ∈ Finset.range 200000, termK pk ii jj dd c (200000 * w + e) = ∑ e ∈ Finset.range (16 * 12500), termK pk ii jj dd c (200000 * w + e) from
    congrArg (fun n => ∑ e ∈ Finset.range n, termK pk ii jj dd c (200000 * w + e)) hs, this]
  refine Finset.sum_congr rfl fun l hl => ?_
  have hl := Finset.mem_range.1 hl
  rw [accV_sum]
  refine Finset.sum_congr rfl fun k _ => ?_
  rw [at2_val0 _ _ hl, at2_val1 _ _ hc, Nat.add_assoc]

theorem out_sum (x : S1024.Idx) :
    (outVal (F := Ideal) (partialVal (F := Ideal) pk ii jj dd) x : EReal) = ∑ e ∈ Finset.range 6400000, termK pk ii jj dd (x 0).val e := by
  have h1 : (outVal (F := Ideal) (partialVal (F := Ideal) pk ii jj dd) x : EReal)
      = ∑ w : Fin 32, (partialVal (F := Ideal) pk ii jj dd (at2 32 1024 w.val (x 0).val) : EReal) := by
    unfold outVal k3_pay1
    rw [shapeCast_self]
    refine (Ideal.reduceAdd_r2_a0 reduces_S32x1024_S1024 _ x).trans (Finset.sum_congr rfl fun w _ => ?_)
    refine congrArg (partialVal (F := Ideal) pk ii jj dd) (idx2_ext ?_ ?_)
    · exact (at2_val0 (by decide) (by decide) w.isLt).symm
    · exact (at2_val1 (by decide) (by decide) (x 0).isLt).symm
  rw [h1, Fin.sum_univ_eq_sum_range (fun w => (partialVal (F := Ideal) pk ii jj dd (at2 32 1024 w (x 0).val) : EReal)) 32]
  rw [Finset.sum_congr rfl fun w hw => partial_sum pk ii jj dd w (x 0).val (Finset.mem_range.1 hw) (x 0).isLt]
  exact sum_blocks (fun e => termK pk ii jj dd (x 0).val e) 200000 32

/-! ## The packed words -/

/-- A word packed from a radius of `k` steps. -/
theorem packW_of (mol : BitVec 32) (r : EReal) (k : ℕ) (hk : k < 2 ^ 21) (hm : mol.toNat < 1024)
    (h : Ideal.fptosi 32 (r * ((1048576 : ℝ) : EReal) + (((1 : ℝ) / 2 : ℝ) : EReal)) = BitVec.ofNat 32 k) :
    (packW (F := Ideal) mol r).toNat = k * 1024 + mol.toNat := by
  have e : packW (F := Ideal) mol r = IntOp.ori (IntOp.shli .vector (Ideal.fptosi 32 (r * Ideal.ofBits .f32 0x49800000#32 + Ideal.ofBits .f32 0x3F000000#32)) 10#32) mol := by
    unfold packW k0_pay2
    rfl
  rw [e, lit_scale, lit_half, h]
  show ((BitVec.ofNat 32 k <<< 10#32) ||| mol).toNat = _
  rw [BitVec.toNat_or, BitVec.shiftLeft_eq', BitVec.toNat_shiftLeft, BitVec.toNat_ofNat, BitVec.toNat_ofNat]
  rw [Nat.mod_eq_of_lt (a := k) (by omega), show (10 % 2 ^ 32 : ℕ) = 10 from rfl]
  rw [Nat.shiftLeft_eq, Nat.mod_eq_of_lt (by omega)]
  have := Nat.two_pow_add_eq_or_of_lt (i := 10) (b := mol.toNat) (by omega) k
  rw [show k * 2 ^ 10 = 2 ^ 10 * k by ring, ← this]
  omega

theorem molW_of (p : BitVec 32) : (molW (F := Ideal) p).toNat = p.toNat % 1024 := by
  show (p &&& 1023#32).toNat = _
  rw [BitVec.toNat_and]
  exact Nat.and_two_pow_sub_one_eq_mod p.toNat 10

theorem steps_of (p : BitVec 32) (h : p.toNat < 2 ^ 31) : (IntOp.shrsi .vector p 10#32).toInt = ((p.toNat / 1024 : ℕ) : ℤ) := by
  show (p.sshiftRight 10).toInt = _
  rw [BitVec.toInt_sshiftRight, BitVec.toInt_eq_toNat_of_lt (by omega), Int.shiftRight_eq_div_pow]
  norm_num

theorem rowW_of (z f : BitVec 32) (hz : z.toNat < 100) (hf : f.toNat < 2) : (rowW (F := Ideal) z f).toNat = f.toNat * 100 + z.toNat := by
  show (f * 100#32 + z).toNat = _
  rw [BitVec.toNat_add, BitVec.toNat_mul, BitVec.toNat_ofNat]
  omega

/-- The kernel's potential at two packed words. -/
theorem potW_of (d : EReal) (p q : BitVec 32) :
    (potW (F := Ideal) d p q : EReal) =
      (let s : EReal := ((((IntOp.shrsi .vector p 10#32).toInt : ℝ) : EReal) + (((IntOp.shrsi .vector q 10#32).toInt : ℝ) : EReal)) * (((1 : ℝ) / 1048576 : ℝ) : EReal)
       if d ≤ ((25 : ℝ) : EReal) then Ideal.div (((s * s) * (s * s)) * (s * s)) ((d * d) * d) else 0) := by
  have e : (potW (F := Ideal) d p q : EReal) =
      (let s : EReal := ((((IntOp.shrsi .vector p 10#32).toInt : ℝ) : EReal) + (((IntOp.shrsi .vector q 10#32).toInt : ℝ) : EReal)) * Ideal.ofBits .f32 0x35800000#32
       if Ideal.cmp .ole d (Ideal.ofBits .f32 0x41C80000#32) = 1#1 then Ideal.div (((s * s) * (s * s)) * (s * s)) ((d * d) * d) else Ideal.ofBits .f32 0x00000000#32) := rfl
  rw [e, lit_unscale, lit_25, Ideal.ofBits_zero_f32]
  have hc : Ideal.cmp .ole d ((25 : ℝ) : EReal) = 1#1 ↔ d ≤ ((25 : ℝ) : EReal) := by
    by_cases h : d ≤ ((25 : ℝ) : EReal) <;> simp [Ideal.cmp, h]
  simp only [hc]

end Cert.Pf

end
-- ==== Proof.AlgSpec.lean ====
/-
  The sum both programs compute, stated once over the arguments, and the kernel's result as that sum.
-/
module

public import proofs.«01_k».proof.Proof.AlgKernel

@[expose] public section

noncomputable section

namespace Cert.Pf

open Cert.KernelIdeal Cert.KernelIdeal.Gen Cert.KernelIdeal.Pf
open Idealize.ShloMosaic

/-! ## The sum -/

/-- The radius rounded to a whole number of steps of 2⁻²⁰. -/
def quant (r : EReal) : EReal :=
  Ideal.div (Ideal.liftRound Int.floor (r * ((1048576 : ℝ) : EReal) + (((1 : ℝ) / 2 : ℝ) : EReal))) ((1048576 : ℝ) : EReal)

/-- The squared length of pair `e`'s vector. -/
def dist2 (x : (⟨2, ![6400000, 3]⟩ : Shape).Idx → EReal) (e : ℕ) : EReal :=
  x (at2 6400000 3 e 0) * x (at2 6400000 3 e 0) + x (at2 6400000 3 e 1) * x (at2 6400000 3 e 1) + x (at2 6400000 3 e 2) * x (at2 6400000 3 e 2)

/-- The radius of the atom a word names. -/
def atomR (z f : (⟨1, ![100000]⟩ : Shape).Idx → BitVec 32) (r : (⟨2, ![2, 100]⟩ : Shape).Idx → EReal) (n : BitVec 32) : EReal :=
  quant (r (at2 2 100 (f (at1 100000 n.toNat)).toNat (z (at1 100000 n.toNat)).toNat))

/-- The potential of a pair of radii at a squared distance. -/
def pairE (a b d : EReal) : EReal :=
  if Ideal.sqrt d ≤ ((5 : ℝ) : EReal) then
    (Ideal.div (a + b) (Ideal.sqrt d) * Ideal.div (a + b) (Ideal.sqrt d))
      * ((Ideal.div (a + b) (Ideal.sqrt d) * Ideal.div (a + b) (Ideal.sqrt d)) * (Ideal.div (a + b) (Ideal.sqrt d) * Ideal.div (a + b) (Ideal.sqrt d)))
  else 0

/-- What pair `e` adds to molecule `c`. -/
def term (z mol : (⟨1, ![100000]⟩ : Shape).Idx → BitVec 32) (x : (⟨2, ![6400000, 3]⟩ : Shape).Idx → EReal)
    (i j : (⟨1, ![6400000]⟩ : Shape).Idx → BitVec 32) (f : (⟨1, ![100000]⟩ : Shape).Idx → BitVec 32)
    (r : (⟨2, ![2, 100]⟩ : Shape).Idx → EReal) (c e : ℕ) : EReal :=
  if (mol (at1 100000 (i (at1 6400000 e)).toNat)).toNat = c then
    pairE (atomR z f r (i (at1 6400000 e))) (atomR z f r (j (at1 6400000 e))) (dist2 x e)
  else 0

/-- The arguments in range. -/
structure InRange (z mol : (⟨1, ![100000]⟩ : Shape).Idx → BitVec 32) (i j : (⟨1, ![6400000]⟩ : Shape).Idx → BitVec 32)
    (f : (⟨1, ![100000]⟩ : Shape).Idx → BitVec 32) (r : (⟨2, ![2, 100]⟩ : Shape).Idx → EReal) : Prop where
  z : ∀ n, (z n).toNat < 100
  mol : ∀ n, (mol n).toNat < 1024
  i : ∀ n, (i n).toNat < 100000
  j : ∀ n, (j n).toNat < 100000
  f : ∀ n, (f n).toNat < 2
  r : ∀ n, ∃ x : ℝ, r n = (x : EReal) ∧ 1 / 2 ≤ x ∧ x ≤ 3 / 2

theorem sq_nonneg (a : EReal) : 0 ≤ a * a := by
  induction a with
  | bot => simp
  | top => simp
  | coe x => rw [← EReal.coe_mul]; exact_mod_cast mul_self_nonneg x

theorem dist2_nonneg (x : (⟨2, ![6400000, 3]⟩ : Shape).Idx → EReal) (e : ℕ) : 0 ≤ dist2 x e :=
  add_nonneg (add_nonneg (sq_nonneg _) (sq_nonneg _)) (sq_nonneg _)

/-! ## The kernel's result -/

variable {z mol : Vec Ideal S100000 .i32} {x : Vec Ideal S6400000x3 .f32} {i j : Vec Ideal S6400000 .i32} {f : Vec Ideal S100000 .i32}
  {r : Vec Ideal S2x100 .f32}

/-- The table the kernel packs, of the arguments. -/
abbrev table (z mol f : Vec Ideal S100000 .i32) (r : Vec Ideal S2x100 .f32) : Vec Ideal S100352 .i32 :=
  tableVal (F := Ideal) (padded (F := Ideal) z) (padded (F := Ideal) f) (padded (F := Ideal) mol) (shapeCast S200 r shapeCasts_S2x100_S200)

theorem padded_at (y : Vec Ideal S100000 .i32) (n : ℕ) (h : n < 100000) : padded (F := Ideal) y (at1 100352 n) = y (at1 100000 n) := by
  have e : ((at1 100352 n) 0).val = n := at1_val _ (by omega)
  rw [padded_apply, dif_pos (by rw [e]; exact h), e]

theorem flat_at (r : Vec Ideal S2x100 .f32) (a b : ℕ) (ha : a < 2) (hb : b < 100) :
    shapeCast S200 r shapeCasts_S2x100_S200 (at1 200 (a * 100 + b)) = r (at2 2 100 a b) := by
  refine shapeCast_apply r _ _ _ ?_
  rw [Shape.rowMajor_val_two, Shape.rowMajor_val_one]
  show ((at2 2 100 a b) 0).val * 100 + ((at2 2 100 a b) 1).val = ((at1 200 (a * 100 + b)) 0).val
  rw [at2_val0 _ _ ha, at2_val1 _ _ hb, at1_val _ (by omega)]

/-- An atom's packed word: its molecule, and its radius in steps. -/
theorem word_of (hr : InRange z mol i j f r) (n : BitVec 32) (hn : n.toNat < 100000) :
    ∃ k : ℕ, 0 < k ∧ (molW (F := Ideal) (pkAt (F := Ideal) (table z mol f r) n)).toNat = (mol (at1 100000 n.toNat)).toNat
      ∧ (IntOp.shrsi .vector (pkAt (F := Ideal) (table z mol f r) n) 10#32).toInt = (k : ℤ)
      ∧ atomR z f r n = (((k : ℝ) / 1048576 : ℝ) : EReal) := by
  obtain ⟨y, hy, h0, h1⟩ := hr.r (at2 2 100 (f (at1 100000 n.toNat)).toNat (z (at1 100000 n.toNat)).toNat)
  obtain ⟨k, hk0, hk, hu, hq⟩ := quantised y h0 h1
  have hz := hr.z (at1 100000 n.toNat)
  have hf := hr.f (at1 100000 n.toNat)
  have hm := hr.mol (at1 100000 n.toNat)
  have hp : pkAt (F := Ideal) (table z mol f r) n = packW (F := Ideal) (mol (at1 100000 n.toNat)) (y : EReal) := by
    unfold pkAt table tableVal
    rw [padded_at z _ hn, padded_at f _ hn, padded_at mol _ hn, rowW_of _ _ hz hf, flat_at r _ _ hf hz, hy]
  have hw : (pkAt (F := Ideal) (table z mol f r) n).toNat = k * 1024 + (mol (at1 100000 n.toNat)).toNat := by
    rw [hp]; exact packW_of _ _ k hk hm hu
  refine ⟨k, hk0, ?_, ?_, ?_⟩
  · rw [molW_of, hw]; omega
  · rw [steps_of _ (by omega), hw]; congr 1; omega
  · unfold atomR quant; rw [hy]; exact hq

theorem d2_at (x : Vec Ideal S6400000x3 .f32) (e : ℕ) (he : e < 6400000) :
    (d2Val (F := Ideal) (transpose S3x6400000 [1, 0] x transposes_S6400000x3_S3x6400000_1_0) (at1 6400000 e) : EReal) = dist2 x e := by
  have h : ∀ q : ℕ, q < 3 → transpose S3x6400000 [1, 0] x transposes_S6400000x3_S3x6400000_1_0 (at2 3 6400000 q ((at1 6400000 e) 0).val) = x (at2 6400000 3 e q) := by
    intro q hq
    refine transpose_apply _ x _ _ _ fun b => ?_
    rw [at1_val _ he]
    fin_cases b
    · exact (at2_val1 _ _ hq).trans (at2_val0 _ _ hq).symm
    · exact (at2_val0 _ _ he).trans (at2_val1 _ _ he).symm
  unfold d2Val dist2
  rw [← h 0 (by omega), ← h 1 (by omega), ← h 2 (by omega)]
  rfl

theorem termK_eq (hr : InRange z mol i j f r) (c e : ℕ) (he : e < 6400000) :
    termK (table z mol f r) i j (d2Val (F := Ideal) (transpose S3x6400000 [1, 0] x transposes_S6400000x3_S3x6400000_1_0)) c e
      = term z mol x i j f r c e := by
  obtain ⟨a, ha0, hma, hsa, hqa⟩ := word_of hr _ (hr.i (at1 6400000 e))
  obtain ⟨b, hb0, -, hsb, hqb⟩ := word_of hr _ (hr.j (at1 6400000 e))
  unfold termK term
  rw [hma]
  refine if_congr Iff.rfl ?_ rfl
  rw [d2_at x e he, potW_of, hsa, hsb, hqa, hqb]
  unfold pairE
  refine potential_eq a b ha0 (dist2 x e) (dist2_nonneg x e) _ ?_ _ rfl
  rw [← EReal.coe_add]
  simp only [Int.cast_natCast]

theorem kernel_sum (hr : InRange z mol i j f r) (c : S1024.Idx) :
    (outVal (F := Ideal) (partialVal (F := Ideal) (table z mol f r) i j
        (d2Val (F := Ideal) (transpose S3x6400000 [1, 0] x transposes_S6400000x3_S3x6400000_1_0))) c : EReal)
      = ∑ e ∈ Finset.range 6400000, term z mol x i j f r (c 0).val e := by
  rw [out_sum]
  exact Finset.sum_congr rfl fun e he => termK_eq hr _ _ (Finset.mem_range.1 he)

end Cert.Pf

end
-- ==== Proof.AlgRef.lean ====
/-
  The reference's result as the sum of `AlgSpec`: its gathers at indices in range, its two scatters as one sum
  over the pairs.
-/
module

public import proofs.«01_k».proof.Proof.AlgSpec
public import proofs.«01_k».proof.Proof.Gen.ReferenceIdeal.Run
public import Idealize.ShloMosaic.Lib.StableHlo.Predicate

@[expose] public section

noncomputable section

namespace Cert.Pf

open Cert.ReferenceIdeal Cert.ReferenceIdeal.Gen
open Cert.KernelIdeal.Pf (at1 at2 at1_val at1_eq idx1_ext idx2_ext at2_val0 at2_val1)
open Idealize.ShloMosaic

/-! ## A scatter of scalars as a sum -/

section Scatter
variable {N n : ℕ} (d : ScatterDims ⟨1, ![N]⟩ ⟨2, ![n, 1]⟩ ⟨1, ![n]⟩) (hw : d.insertedWindowDims = [0]) (hs : d.scatterDimsToOperandDims = [0])
  (hv : d.indexVectorDim = 1) (idx : IVec ⟨2, ![n, 1]⟩ 32)
include hw hs hv

theorem window_zero (j : (⟨1, ![n]⟩ : Shape).Idx) : d.window j 0 = 0 := by
  unfold ScatterDims.window
  refine dif_neg fun h => ?_
  have := of_decide_eq_true (List.mem_filter.1 h).2
  rw [hw] at this
  exact this (List.mem_singleton.2 rfl)

theorem start_index (hn : 0 < n) (j : (⟨1, ![n]⟩ : Shape).Idx) : d.start j idx 0 = (idx (at2 n 1 (j 0).val 0 hn)).toInt := by
  have hm : (0 : Fin 1) ∈ d.scatterDimsToOperandDims := by rw [hs]; exact List.mem_singleton.2 rfl
  unfold ScatterDims.start
  rw [dif_pos hm]
  refine congrArg (fun k => (idx k).toInt) (idx2_ext ?_ ?_)
  · refine Eq.trans ?_ (at2_val0 (a := (j 0).val) hn Nat.zero_lt_one (j 0).isLt).symm
    unfold ScatterDims.siIdx
    rw [dif_neg (by rw [hv]; exact Nat.zero_ne_one)]
    unfold ScatterDims.siCoord
    have e : ∀ a : Fin 1, (j a).val = (j 0).val := fun a => by
      obtain rfl : a = 0 := Subsingleton.elim _ _
      rfl
    exact e _
  · refine Eq.trans ?_ (at2_val1 (b := 0) hn Nat.zero_lt_one Nat.zero_lt_one).symm
    unfold ScatterDims.siIdx
    rw [dif_pos (by rw [hv]; rfl)]
    show List.idxOf (0 : Fin 1) d.scatterDimsToOperandDims = 0
    rw [hs]; simp

theorem lands_iff (hn : 0 < n) (j : (⟨1, ![n]⟩ : Shape).Idx) (i : (⟨1, ![N]⟩ : Shape).Idx) :
    d.resultIdx? j idx = some i ↔ (idx (at2 n 1 (j 0).val 0 hn)).toInt = ((i 0).val : ℤ) := by
  have h0 := window_zero d hw hs hv j
  have h1 := start_index d hw hs hv idx hn j
  have hi : (i 0).val < N := (i 0).isLt
  unfold ScatterDims.resultIdx?
  split
  · next h =>
    have hh := h 0
    rw [h0, h1] at hh
    rw [Option.some_inj]
    constructor
    · intro e
      have e0 : (d.start j idx 0 + (d.window j 0 : ℤ)).toNat = (i 0).val := congrArg (fun f : (⟨1, ![N]⟩ : Shape).Idx => (f 0).val) e
      rw [h0, h1] at e0
      omega
    · intro e
      refine idx1_ext ?_
      show (d.start j idx 0 + (d.window j 0 : ℤ)).toNat = (i 0).val
      rw [h0, h1]
      omega
  · next h =>
    refine ⟨fun e => (nomatch e), fun e => (h fun a => ?_).elim⟩
    obtain rfl : a = 0 := Subsingleton.elim _ _
    show 0 ≤ d.start j idx 0 + (d.window j 0 : ℤ) ∧ d.start j idx 0 + (d.window j 0 : ℤ) < (N : ℤ)
    rw [h0, h1]
    omega

theorem scatter_sum (hn : 0 < n) (x : (⟨1, ![N]⟩ : Shape).Idx → EReal) (upd : (⟨1, ![n]⟩ : Shape).Idx → EReal) (i : (⟨1, ![N]⟩ : Shape).Idx) :
    Ideal.hostScatterAdd d x idx upd i
      = x i + ∑ e ∈ Finset.range n, if (idx (at2 n 1 e 0 hn)).toInt = ((i 0).val : ℤ) then upd (at1 n e hn) else 0 := by
  unfold Ideal.hostScatterAdd
  congr 1
  rw [Finset.sum_filter, ← Fin.sum_univ_eq_sum_range (fun e => if (idx (at2 n 1 e 0 hn)).toInt = ((i 0).val : ℤ) then upd (at1 n e hn) else 0) n]
  refine Fintype.sum_bijective (fun j : (⟨1, ![n]⟩ : Shape).Idx => (j 0 : Fin n)) ⟨fun a b h => idx1_ext (congrArg Fin.val h), fun k => ⟨at1 n k.val hn, Fin.ext (at1_val hn k.isLt)⟩⟩ _ _ fun j => ?_
  refine if_congr (lands_iff d hw hs hv idx hn j i) ?_ rfl
  exact congrArg upd (at1_eq hn j rfl).symm

end Scatter

/-- Summed by atom and then by molecule is summed by the molecule of the pair's atom. -/
theorem sum_twice (A B : ℕ) (P : ℕ → Prop) [DecidablePred P] (I : ℕ → ℕ) (hI : ∀ e, e < B → I e < A) (u : ℕ → EReal) :
    ∑ a ∈ Finset.range A, (if P a then ∑ e ∈ Finset.range B, (if I e = a then u e else 0) else 0)
      = ∑ e ∈ Finset.range B, if P (I e) then u e else 0 := by
  have : ∀ a ∈ Finset.range A, (if P a then ∑ e ∈ Finset.range B, (if I e = a then u e else 0) else 0)
      = ∑ e ∈ Finset.range B, if I e = a then (if P (I e) then u e else 0) else 0 := by
    intro a _
    by_cases h : P a
    · rw [if_pos h]
      refine Finset.sum_congr rfl fun e _ => ?_
      by_cases h' : I e = a
      · rw [if_pos h', if_pos h', if_pos (h' ▸ h)]
      · rw [if_neg h', if_neg h']
    · rw [if_neg h]
      refine (Finset.sum_eq_zero fun e _ => ?_).symm
      by_cases h' : I e = a
      · rw [if_pos h', if_neg (fun k => h (h' ▸ k))]
      · rw [if_neg h']
  rw [Finset.sum_congr rfl this, Finset.sum_comm]
  refine Finset.sum_congr rfl fun e he => ?_
  rw [Finset.sum_ite_eq, if_pos (Finset.mem_range.2 (hI e (Finset.mem_range.1 he)))]

/-! ## The reference's parts -/

theorem toInt_of_lt {w : BitVec 32} (h : w.toNat < 2 ^ 31) : w.toInt = (w.toNat : ℤ) := BitVec.toInt_eq_toNat_of_lt (by omega)

/-- An index vector as a column. -/
abbrev col (a : Vec Ideal S6400000 .i32) : Vec Ideal S6400000x1 .i32 := broadcastInDim S6400000x1 ![0] bcast_S6400000_S6400000x1_0 a

/-- Indices with the negative ones counted from the end. -/
abbrev wrap (b : BitVec 32) (a : Vec Ideal S6400000 .i32) : Vec Ideal S6400000 .i32 :=
  select (cmpi .slt a (broadcastInDim S6400000 ![] bcast_S_S6400000 (constantI S_ 32 0#32))) (addi a (broadcastInDim S6400000 ![] bcast_S_S6400000 (constantI S_ 32 b))) a

/-- An atom array read at each pair's atom. -/
abbrev take (x : Vec Ideal S100000 .i32) (a : Vec Ideal S6400000 .i32) : Vec Ideal S6400000 .i32 :=
  Host.gather gather_S100000_S6400000x1_S6400000_n_0_n_n_0_1_1 x (col (wrap 100000#32 a))

/-- The radius table, quantised. -/
abbrev quantV (r : Vec Ideal S2x100 .f32) : Vec Ideal S2x100 .f32 :=
  Host.divf (Host.floor (addf (mulf r (broadcastInDim S2x100 ![] bcast_S_S2x100 (constant (F := Ideal) S_ .f32 0x49800000#32)))
    (broadcastInDim S2x100 ![] bcast_S_S2x100 (constant (F := Ideal) S_ .f32 0x3F000000#32)))) (broadcastInDim S2x100 ![] bcast_S_S2x100 (constant (F := Ideal) S_ .f32 0x49800000#32))

/-- The radius of each pair's atom. -/
abbrev radii (z f : Vec Ideal S100000 .i32) (r : Vec Ideal S2x100 .f32) (a : Vec Ideal S6400000 .i32) : Vec Ideal S6400000 .f32 :=
  Host.gather gather_S2x100_S6400000x2_S6400000_n_01_n_n_01_1_11 (quantV r)
    (concatenate S6400000x2 1 [⟨S6400000x1, col (wrap 2#32 (take f a))⟩, ⟨S6400000x1, col (wrap 100#32 (take z a))⟩] concatenates_S6400000x1_S6400000x1_S6400000x2_d1)

/-- The distances. -/
abbrev dist (x : Vec Ideal S6400000x3 .f32) : Vec Ideal S6400000 .f32 :=
  Host.sqrt (F := Ideal) (φ := .f32) (Host.reduceAdd (mulf x x) (constant (F := Ideal) S_ .f32 0x00000000#32) reducesTo_S6400000x3_S6400000_d1 h_S_)

/-- The ratio of the radii's sum to the distance. -/
abbrev ratio (z f : Vec Ideal S100000 .i32) (x : Vec Ideal S6400000x3 .f32) (i j : Vec Ideal S6400000 .i32) (r : Vec Ideal S2x100 .f32) : Vec Ideal S6400000 .f32 :=
  Host.divf (F := Ideal) (φ := .f32) (addf (F := Ideal) (φ := .f32) (radii z f r i) (radii z f r j)) (dist x)

/-- The potentials. -/
abbrev pot (z f : Vec Ideal S100000 .i32) (x : Vec Ideal S6400000x3 .f32) (i j : Vec Ideal S6400000 .i32) (r : Vec Ideal S2x100 .f32) : Vec Ideal S6400000 .f32 :=
  select (cmpf (F := Ideal) (φ := .f32) .ole (dist x) (broadcastInDim S6400000 ![] bcast_S_S6400000 (constant (F := Ideal) S_ .f32 0x40A00000#32)))
    (mulf (F := Ideal) (φ := .f32) (mulf (F := Ideal) (φ := .f32) (ratio z f x i j r) (ratio z f x i j r))
      (mulf (F := Ideal) (φ := .f32) (mulf (F := Ideal) (φ := .f32) (ratio z f x i j r) (ratio z f x i j r)) (mulf (F := Ideal) (φ := .f32) (ratio z f x i j r) (ratio z f x i j r))))
    (broadcastInDim S6400000 ![] bcast_S_S6400000 (constant (F := Ideal) S_ .f32 0x00000000#32))

set_option maxRecDepth 65536 in
theorem res_eq (m : (ℓ : Loc nD τ sig) → Buf (Elt Ideal) ℓ) (c : Dev nD) :
    Cert.ReferenceIdeal.Value.res_main_v80 (F := Ideal) m c
      = Host.scatterAdd (F := Ideal) (φ := .f32) scatter_S1024_S100000x1_S100000_n_0_0_1 (broadcastInDim S1024 ![] bcast_S_S1024 (constant (F := Ideal) S_ .f32 0x00000000#32))
          (broadcastInDim S100000x1 ![0] bcast_S100000_S100000x1_0 (m ((c.tc : Thread nD τ).loc main_arg1)))
          (Host.scatterAdd (F := Ideal) (φ := .f32) scatter_S100000_S6400000x1_S6400000_n_0_0_1 (broadcastInDim S100000 ![] bcast_S_S100000 (constant (F := Ideal) S_ .f32 0x00000000#32))
            (col (m ((c.tc : Thread nD τ).loc main_arg3)))
            (pot (m ((c.tc : Thread nD τ).loc main_arg0)) (m ((c.tc : Thread nD τ).loc main_arg5)) (m ((c.tc : Thread nD τ).loc main_arg2))
              (m ((c.tc : Thread nD τ).loc main_arg3)) (m ((c.tc : Thread nD τ).loc main_arg4)) (m ((c.tc : Thread nD τ).loc main_arg6)))) := by
  unfold Cert.ReferenceIdeal.Value.res_main_v80
  rfl

end Cert.Pf

end
-- ==== Proof.AlgRefSum.lean ====
/-
  The reference's parts read at one pair, and its result as the sum of `AlgSpec`.
-/
module

public import proofs.«01_k».proof.Proof.AlgRef

@[expose] public section

noncomputable section

namespace Cert.Pf

open Cert.ReferenceIdeal Cert.ReferenceIdeal.Gen
open Cert.KernelIdeal.Pf (at1 at2 at1_val at1_eq idx1_ext idx2_ext at2_val0 at2_val1)
open Idealize.ShloMosaic
open Idealize.ShloMosaic.StableHlo.Predicate (ixP gather_take)

theorem wrap_at (b : BitVec 32) (a : Vec Ideal S6400000 .i32) (k : S6400000.Idx) (h : (a k : BitVec 32).toNat < 2 ^ 31) : wrap b a k = a k := by
  have e : IntOp.cmpi .slt (a k : BitVec 32) 0#32 = 0#1 := by
    have : (a k : BitVec 32).slt 0#32 = false := by
      rw [BitVec.slt_eq_decide, toInt_of_lt h]
      simp
    simp [IntOp.cmpi, this]
  show (if IntOp.cmpi .slt (a k : BitVec 32) 0#32 = 1#1 then IntOp.addi (a k) b else a k) = a k
  rw [e]
  rfl

theorem col_at (a : Vec Ideal S6400000 .i32) (e : ℕ) (he : e < 6400000) : col a (at2 6400000 1 e 0) = a (at1 6400000 e) := by
  refine broadcastInDim_apply _ _ a _ _ fun q => ?_
  obtain rfl : q = 0 := Subsingleton.elim _ _
  rw [if_neg (by decide)]
  exact (at1_val (by decide) he).trans (at2_val0 (by decide) (by decide) he).symm

theorem colM_at (a : Vec Ideal S100000 .i32) (e : ℕ) (he : e < 100000) :
    broadcastInDim S100000x1 ![0] bcast_S100000_S100000x1_0 a (at2 100000 1 e 0) = a (at1 100000 e) := by
  refine broadcastInDim_apply _ _ a _ _ fun q => ?_
  obtain rfl : q = 0 := Subsingleton.elim _ _
  rw [if_neg (by decide)]
  exact (at1_val (by decide) he).trans (at2_val0 (by decide) (by decide) he).symm

theorem take_at (x : Vec Ideal S100000 .i32) (a : Vec Ideal S6400000 .i32) (e : ℕ) (he : e < 6400000) (h : (a (at1 6400000 e) : BitVec 32).toNat < 100000) :
    take x a (at1 6400000 e) = x (at1 100000 (a (at1 6400000 e) : BitVec 32).toNat) := by
  have h1 : (at1 6400000 e) = Shape.Idx.ofFin (⟨e, he⟩ : Fin 6400000) := idx1_ext (at1_val (by decide) he)
  have h2 : ixP (⟨e, he⟩ : Fin 6400000) = at2 6400000 1 e 0 :=
    idx2_ext (at2_val0 (n := 6400000) (n' := 1) (b := 0) (by decide) (by decide) he).symm (at2_val1 (n := 6400000) (n' := 1) (a := e) (b := 0) (by decide) (by decide) (by decide)).symm
  have h3 : (col (wrap 100000#32 a) (ixP (⟨e, he⟩ : Fin 6400000)) : BitVec 32) = a (at1 6400000 e) := by
    rw [h2, col_at _ _ he, wrap_at _ _ _ (by omega)]
  have g := gather_take gather_S100000_S6400000x1_S6400000_n_0_n_n_0_1_1 rfl rfl rfl rfl x (col (wrap 100000#32 a)) ⟨e, he⟩ (by decide)
  rw [← h1] at g
  refine g.trans (congrArg x (idx1_ext ?_))
  rw [at1_val _ h]
  show min (col (wrap 100000#32 a) (ixP (⟨e, he⟩ : Fin 6400000)) : BitVec 32).toInt.toNat (100000 - 1) = _
  rw [h3, toInt_of_lt (by omega)]
  omega

/-- Where the radius table's gather reads, at two columns of indices in range. -/
theorem gather2_at (y : Vec Ideal S2x100 .f32) (idx : Vec Ideal S6400000x2 .i32) (e : ℕ) (he : e < 6400000) (p q : ℕ) (hp : p < 2) (hq : q < 100)
    (h0 : (idx (at2 6400000 2 e 0) : BitVec 32).toNat = p) (h1 : (idx (at2 6400000 2 e 1) : BitVec 32).toNat = q) :
    Host.gather gather_S2x100_S6400000x2_S6400000_n_01_n_n_01_1_11 y idx (at1 6400000 e) = y (at2 2 100 p q) := by
  have hi : ∀ c : Fin 2, gather_S2x100_S6400000x2_S6400000_n_01_n_n_01_1_11.siIdx (at1 6400000 e) c = at2 6400000 2 e c.val := by
    intro c
    refine idx2_ext ?_ ?_
    · exact (at1_val (by decide) he).trans (at2_val0 (by decide) (by decide) he).symm
    · exact (show c.val = ((at2 6400000 2 e c.val) 1).val from (at2_val1 (by decide) (by decide) c.isLt).symm)
  refine congrArg y (idx2_ext ?_ ?_)
  · rw [at2_val0 _ _ hp]
    show min (idx (gather_S2x100_S6400000x2_S6400000_n_01_n_n_01_1_11.siIdx (at1 6400000 e) (0 : Fin 2)) : BitVec 32).toInt.toNat (2 - 1) + 0 + 0 = p
    rw [hi]
    show min (idx (at2 6400000 2 e 0) : BitVec 32).toInt.toNat (2 - 1) + 0 + 0 = p
    rw [toInt_of_lt (by omega), h0]
    omega
  · rw [at2_val1 _ _ hq]
    show min (idx (gather_S2x100_S6400000x2_S6400000_n_01_n_n_01_1_11.siIdx (at1 6400000 e) (1 : Fin 2)) : BitVec 32).toInt.toNat (100 - 1) + 0 + 0 = q
    rw [hi]
    show min (idx (at2 6400000 2 e 1) : BitVec 32).toInt.toNat (100 - 1) + 0 + 0 = q
    rw [toInt_of_lt (by omega), h1]
    omega

variable {z mol : Vec Ideal S100000 .i32} {x : Vec Ideal S6400000x3 .f32} {i j : Vec Ideal S6400000 .i32} {f : Vec Ideal S100000 .i32}
  {r : Vec Ideal S2x100 .f32}

theorem quantV_at (r : Vec Ideal S2x100 .f32) (k : S2x100.Idx) : (quantV r k : EReal) = quant (r k) := by
  unfold quant
  rw [← lit_scale, ← lit_half]
  rfl

theorem radii_at (hr : InRange z mol i j f r) (a : Vec Ideal S6400000 .i32) (ha : ∀ k, (a k : BitVec 32).toNat < 100000) (e : ℕ) (he : e < 6400000) :
    (radii z f r a (at1 6400000 e) : EReal) = atomR z f r (a (at1 6400000 e)) := by
  have hz := hr.z (at1 100000 (a (at1 6400000 e) : BitVec 32).toNat)
  have hf := hr.f (at1 100000 (a (at1 6400000 e) : BitVec 32).toNat)
  have tf := take_at f a e he (ha _)
  have tz := take_at z a e he (ha _)
  refine (gather2_at (quantV r) _ e he _ _ hf hz ?_ ?_).trans (quantV_at r _)
  · rw [concatenate_pair_apply_left (1 : Fin S6400000x2.rank) (col (wrap 2#32 (take f a))) (col (wrap 100#32 (take z a)))
      concatenates_S6400000x1_S6400000x1_S6400000x2_d1 (at2 6400000 2 e 0) rfl (at2 6400000 1 e 0) ?_]
    · rw [col_at _ _ he, wrap_at _ _ _ (by rw [tf]; omega), tf]
    · intro b
      fin_cases b <;> rfl
  · rw [concatenate_pair_apply_right (1 : Fin S6400000x2.rank) (col (wrap 2#32 (take f a))) (col (wrap 100#32 (take z a)))
      concatenates_S6400000x1_S6400000x1_S6400000x2_d1 (at2 6400000 2 e 1) rfl rfl (at2 6400000 1 e 0) ?_ ?_]
    · rw [col_at _ _ he, wrap_at _ _ _ (by rw [tz]; omega), tz]
    · intro b hb
      fin_cases b
      · rfl
      · exact absurd rfl hb
    · rfl

/-- The three squares of a row summed and the root taken, at any number of rows. -/
theorem root_row {n : ℕ} (hn : 0 < n) (x : (⟨2, ![n, 3]⟩ : Shape).Idx → EReal) (zero : (⟨0, ![]⟩ : Shape).Idx → EReal) (h : (⟨2, ![n, 3]⟩ : Shape).ReducesTo [1] ⟨1, ![n]⟩)
    (hu : 0 < (⟨0, ![]⟩ : Shape).numel) (hz : zero (Shape.Idx.first hu) = 0) (e : ℕ) (he : e < n) :
    (Host.sqrt (F := Ideal) (φ := .f32) (Host.reduceAdd (F := Ideal) (φ := .f32) (mulf (F := Ideal) (φ := .f32) x x) zero h hu) (at1 n e hn) : EReal)
      = Ideal.sqrt (x (at2 n 3 e 0 hn) * x (at2 n 3 e 0 hn) + x (at2 n 3 e 1 hn) * x (at2 n 3 e 1 hn) + x (at2 n 3 e 2 hn) * x (at2 n 3 e 2 hn)) := by
  refine congrArg Ideal.sqrt ?_
  refine (Ideal.hostReduceAdd_r2_a1 h _ _ _).trans ?_
  rw [hz, zero_add, Fin.sum_univ_three]
  have hk : ∀ (k : (⟨2, ![n, 3]⟩ : Shape).Idx) (q : ℕ), q < 3 → (k 0).val = e → (k 1).val = q →
      (mulf (F := Ideal) (φ := .f32) x x k : EReal) = x (at2 n 3 e q hn) * x (at2 n 3 e q hn) := by
    intro k q hq h0 h1
    have : k = at2 n 3 e q hn := idx2_ext (h0.trans (at2_val0 hn (by decide) he).symm) (h1.trans (at2_val1 hn (by decide) hq).symm)
    subst this
    rfl
  refine congrArg₂ (· + ·) (congrArg₂ (· + ·) (hk _ 0 (by omega) ?_ rfl) (hk _ 1 (by omega) ?_ rfl)) (hk _ 2 (by omega) ?_ rfl) <;>
    exact at1_val hn he

/-- A quotient of a sum, at an index. -/
theorem quot_sum {s : Shape} (a b c : s.Idx → EReal) (k : s.Idx) :
    (Host.divf (F := Ideal) (φ := .f32) (addf (F := Ideal) (φ := .f32) a b) c k : EReal) = Ideal.div (a k + b k) (c k) := rfl

/-- The sixth power where the distance is within the cutoff, at an index. -/
theorem cut_sixth {s : Shape} (d q : s.Idx → EReal) (h h' : (⟨0, ![]⟩ : Shape).BroadcastsInDim s ![]) (k : s.Idx) :
    (select (cmpf (F := Ideal) (φ := .f32) .ole d (broadcastInDim s ![] h (constant (F := Ideal) ⟨0, ![]⟩ .f32 0x40A00000#32)))
      (mulf (F := Ideal) (φ := .f32) (mulf (F := Ideal) (φ := .f32) q q) (mulf (F := Ideal) (φ := .f32) (mulf (F := Ideal) (φ := .f32) q q) (mulf (F := Ideal) (φ := .f32) q q)))
      (broadcastInDim s ![] h' (constant (F := Ideal) ⟨0, ![]⟩ .f32 0x00000000#32)) k : EReal)
      = if d k ≤ ((5 : ℝ) : EReal) then (q k * q k) * ((q k * q k) * (q k * q k)) else 0 := by
  rw [← lit_5, ← Ideal.ofBits_zero_f32]
  have hc : Ideal.cmp .ole (d k) (Ideal.ofBits .f32 0x40A00000#32) = 1#1 ↔ d k ≤ Ideal.ofBits .f32 0x40A00000#32 := by
    by_cases hc : d k ≤ Ideal.ofBits .f32 0x40A00000#32 <;> simp [Ideal.cmp, hc]
  exact if_congr hc rfl rfl

/-- A scatter of scalars into zeros, as a sum. -/
theorem scatter_zero {N n : ℕ} (d : ScatterDims ⟨1, ![N]⟩ ⟨2, ![n, 1]⟩ ⟨1, ![n]⟩) (hw : d.insertedWindowDims = [0]) (hs : d.scatterDimsToOperandDims = [0])
    (hv : d.indexVectorDim = 1) (idx : IVec ⟨2, ![n, 1]⟩ 32) (hn : 0 < n) (h : (⟨0, ![]⟩ : Shape).BroadcastsInDim ⟨1, ![N]⟩ ![]) (upd : (⟨1, ![n]⟩ : Shape).Idx → EReal)
    (i : (⟨1, ![N]⟩ : Shape).Idx) :
    (Host.scatterAdd (F := Ideal) (φ := .f32) d (broadcastInDim ⟨1, ![N]⟩ ![] h (constant (F := Ideal) ⟨0, ![]⟩ .f32 0x00000000#32)) idx upd i : EReal)
      = ∑ e ∈ Finset.range n, if (idx (at2 n 1 e 0 hn)).toInt = ((i 0).val : ℤ) then upd (at1 n e hn) else 0 := by
  refine (scatter_sum d hw hs hv idx hn _ upd i).trans ?_
  rw [show (broadcastInDim ⟨1, ![N]⟩ ![] h (constant (F := Ideal) ⟨0, ![]⟩ .f32 0x00000000#32) i : EReal) = 0 from Ideal.ofBits_zero_f32, zero_add]

theorem dist_at (x : Vec Ideal S6400000x3 .f32) (e : ℕ) (he : e < 6400000) : (dist x (at1 6400000 e) : EReal) = Ideal.sqrt (dist2 x e) :=
  root_row (by decide) x _ _ _ Ideal.ofBits_zero_f32 e he

theorem pot_at (hr : InRange z mol i j f r) (e : ℕ) (he : e < 6400000) :
    (pot z f x i j r (at1 6400000 e) : EReal) = pairE (atomR z f r (i (at1 6400000 e))) (atomR z f r (j (at1 6400000 e))) (dist2 x e) := by
  have hq : (ratio z f x i j r (at1 6400000 e) : EReal) = Ideal.div (atomR z f r (i (at1 6400000 e)) + atomR z f r (j (at1 6400000 e))) (Ideal.sqrt (dist2 x e)) :=
    (quot_sum (radii z f r i) (radii z f r j) (dist x) (at1 6400000 e)).trans (by rw [radii_at hr i hr.i e he, radii_at hr j hr.j e he, dist_at x e he])
  refine (cut_sixth (dist x) (ratio z f x i j r) _ _ (at1 6400000 e)).trans ?_
  rw [hq, dist_at x e he]
  rfl

theorem inner_sum (hr : InRange z mol i j f r) (a : ℕ) (ha : a < 100000) :
    (Host.scatterAdd (F := Ideal) (φ := .f32) scatter_S100000_S6400000x1_S6400000_n_0_0_1 (broadcastInDim S100000 ![] bcast_S_S100000 (constant (F := Ideal) S_ .f32 0x00000000#32))
          (col i) (pot z f x i j r) (at1 100000 a) : EReal)
      = ∑ e ∈ Finset.range 6400000, if (i (at1 6400000 e) : BitVec 32).toNat = a then
          pairE (atomR z f r (i (at1 6400000 e))) (atomR z f r (j (at1 6400000 e))) (dist2 x e) else 0 := by
  refine (scatter_zero scatter_S100000_S6400000x1_S6400000_n_0_0_1 rfl rfl rfl (col i) (by decide) bcast_S_S100000 (pot z f x i j r) (at1 100000 a)).trans ?_
  refine Finset.sum_congr rfl fun e he => ?_
  have he := Finset.mem_range.1 he
  have hi := hr.i (at1 6400000 e)
  refine if_congr ?_ (pot_at hr e he) rfl
  rw [col_at _ _ he, at1_val _ ha, toInt_of_lt (by omega)]
  exact Int.natCast_inj

theorem ref_sum (hr : InRange z mol i j f r) (c : S1024.Idx) :
    (Host.scatterAdd (F := Ideal) (φ := .f32) scatter_S1024_S100000x1_S100000_n_0_0_1 (broadcastInDim S1024 ![] bcast_S_S1024 (constant (F := Ideal) S_ .f32 0x00000000#32))
          (broadcastInDim S100000x1 ![0] bcast_S100000_S100000x1_0 mol)
          (Host.scatterAdd (F := Ideal) (φ := .f32) scatter_S100000_S6400000x1_S6400000_n_0_0_1 (broadcastInDim S100000 ![] bcast_S_S100000 (constant (F := Ideal) S_ .f32 0x00000000#32))
            (col i) (pot z f x i j r)) c : EReal)
      = ∑ e ∈ Finset.range 6400000, term z mol x i j f r (c 0).val e := by
  refine (scatter_zero scatter_S1024_S100000x1_S100000_n_0_0_1 rfl rfl rfl _ (by decide) bcast_S_S1024 _ c).trans ?_
  refine Eq.trans ?_ (sum_twice 100000 6400000 (fun a => (mol (at1 100000 a) : BitVec 32).toNat = (c 0).val) (fun e => (i (at1 6400000 e) : BitVec 32).toNat)
    (fun e _ => hr.i _) (fun e => pairE (atomR z f r (i (at1 6400000 e))) (atomR z f r (j (at1 6400000 e))) (dist2 x e)))
  refine Finset.sum_congr rfl fun a ha => ?_
  have ha := Finset.mem_range.1 ha
  have hm := hr.mol (at1 100000 a)
  refine if_congr ?_ (inner_sum hr a ha) rfl
  rw [colM_at _ _ ha, toInt_of_lt (by omega)]
  exact Int.natCast_inj

end Cert.Pf

end
-- ==== Proof.AlgMain.lean ====
/-
  The value claim: from arguments in range both programs end with the sum of `AlgSpec`; and the frames under the
  value claim's precondition.
-/
module

public import proofs.«01_k».proof.Proof.Frames
public import proofs.«01_k».proof.Proof.AlgReal
public import proofs.«01_k».proof.Proof.AlgRefSum

@[expose] public section

noncomputable section

namespace Cert.Pf

open Idealize.ShloMosaic Idealize.SL.Sem
open Cert.KernelIdeal.Pf (fin_eq)

/-- The memory a claim starts from: the kernel's ideal form. -/
abbrev MemI := (ℓ : Loc Cert.KernelIdeal.nD Cert.KernelIdeal.τ Cert.KernelIdeal.sig) → Buf (Elt Ideal) ℓ

/-- The memory a claim starts from: the reference. -/
abbrev MemR := (ℓ : Loc Cert.ReferenceIdeal.nD Cert.ReferenceIdeal.τ Cert.ReferenceIdeal.sig) → Buf (Elt Ideal) ℓ

theorem ranges_pi_radii (m : MemI) (h : Cert.Pre_KernelIdeal_drawn_radii m) : Cert.KernelIdeal.Pf.Ranges m := by
  have e := fun c => drawn_radii_ranges _ _ _ _ _ _ _ (h c).1 (h c).2.1 (h c).2.2.1 (h c).2.2.2.1 (h c).2.2.2.2.1 (h c).2.2.2.2.2
  exact ⟨fun d => (e d).1, fun d => (e d).2.1, fun d => (e d).2.2.1, fun d => (e d).2.2.2.1, fun d => (e d).2.2.2.2.1⟩

theorem radii_pi (m : MemI) (h : Cert.Pre_KernelIdeal_drawn_radii m) (c : Dev Cert.KernelIdeal.nD) (n : Cert.KernelIdeal.S2x100.Idx) :
    ∃ x : ℝ, (m ((c.tc : Thread Cert.KernelIdeal.nD Cert.KernelIdeal.τ).loc Cert.KernelIdeal.main_arg6) n : EReal) = (x : EReal) ∧ 1 / 2 ≤ x ∧ x ≤ 3 / 2 :=
  radius_real _ ((drawn_radii_ranges _ _ _ _ _ _ _ (h c).1 (h c).2.1 (h c).2.2.1 (h c).2.2.2.1 (h c).2.2.2.2.1 (h c).2.2.2.2.2).2.2.2.2.2 n)

theorem in_range (m : MemI) (h : Cert.Pre_KernelIdeal_drawn_radii m) (c : Dev Cert.KernelIdeal.nD) :
    InRange (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) where
  z := (ranges_pi_radii m h).z c
  mol := (ranges_pi_radii m h).mol c
  i := (ranges_pi_radii m h).i c
  j := (ranges_pi_radii m h).j c
  f := (ranges_pi_radii m h).f c
  r := radii_pi m h c

theorem frame_pi_radii : Cert.quiescent_KernelIdeal_pre_drawn_radii := fun m ρ hp =>
  (θ_run Cert.KernelIdeal.defs _ _).mono (fun _ h => ⟨fun c => (h.1 c).1, h.2⟩) (Cert.KernelIdeal.Pf.run_args (F := Ideal) m (ranges_pi_radii m hp) ρ)

theorem frame_ri_radii : Cert.quiescent_ReferenceIdeal_pre_drawn_radii := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value (m : MemI) (m' : MemR) (hp : Cert.Pre_KernelIdeal_drawn_radii m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v80 (F := Ideal) m' c = Cert.KernelIdeal.Pf.fin (F := Ideal) m c := by
  have hr := in_range m hp c
  refine (res_eq m' c).trans ?_
  rw [h0, h1, h2, h3, h4, h5, h6]
  refine Eq.trans ?_ (fin_eq m c).symm
  funext k
  exact (ref_sum hr k).trans (kernel_sum hr k).symm

theorem algebraic : Cert.algebraic_KernelIdeal_ReferenceIdeal_pre_drawn_radii := by
  intro m g m' g' hp ha
  refine ⟨fun c => Cert.KernelIdeal.Pf.fin (F := Ideal) m c, ?_, ?_⟩
  · exact (θ_run Cert.KernelIdeal.defs _ _).mono (fun _ h c => ⟨(h.1 c).2, (h.1 c).1⟩)
      (Cert.KernelIdeal.Pf.run_args (F := Ideal) m (ranges_pi_radii m hp) g)
  · refine (θ_run Cert.ReferenceIdeal.defs _ _).mono (fun _ h c => ⟨(h c).1.trans ?_, (h c).2⟩) (Cert.ReferenceIdeal.Value.run (F := Ideal) m' g')
    obtain ⟨h0, h1, h2, h3, h4, h5, h6⟩ := ha c
    exact value m m' hp c h0 h1 h2 h3 h4 h5 h6

end Cert.Pf

end
-- ==== Proof.lean ====
/-
  The proof of the certificate's claim: the frames (Proof/Frames.lean) and the value (Proof/AlgMain.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_drawn
public import proofs.«01_k».proof.Proof.Gen.Pre_drawn_radii
public import proofs.«01_k».proof.Proof.Frames
public import proofs.«01_k».proof.Proof.AlgMain
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Pre_drawn.Gen.facts,
  Cert.Pre_drawn_radii.Gen.facts, Cert.Pf.frame_p, Cert.Pf.frame_pi, Cert.Pf.frame_pi_radii, Cert.Pf.frame_ri, Cert.Pf.frame_ri_radii, trivial,
  Cert.Pf.algebraic⟩

end Cert.Proof

end
